-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper [hPre_proper : Cert.Pre_proper.Facts] (m : (ℓ : Loc Cert.KernelIdeal.nD Cert.KernelIdeal.τ Cert.KernelIdeal.sig) → Buf (Elt Ideal) ℓ) : Prop :=
  ∀ c : Dev Cert.KernelIdeal.nD,
    (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper [hPre_proper : Cert.Pre_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_proper [hKernelIdeal : Cert.KernelIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_proper [hReferenceIdeal : Cert.ReferenceIdeal.Facts] [hPre_proper : Cert.Pre_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_15" .f32 0x3D888889#32 ((1 / 15 : ℝ) : EReal)
  ∧ IdealRules.named_const.Statement Cert.KernelIdeal.κ "inv_n" .f32 0x353A2E8C#32 ((1 / 1441792 : ℝ) : EReal)

def algebraic_KernelIdeal_ReferenceIdeal_pre_proper [hKernelIdeal : Cert.KernelIdeal.Facts] [hReferenceIdeal : Cert.ReferenceIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_proper : Cert.Pre_proper.Facts),
    quiescent_Kernel (hKernel := hKernel)
    ∧ quiescent_KernelIdeal (hKernelIdeal := hKernelIdeal)
    ∧ quiescent_KernelIdeal_pre_proper (hKernelIdeal := hKernelIdeal) (hPre_proper := hPre_proper)
    ∧ quiescent_ReferenceIdeal (hReferenceIdeal := hReferenceIdeal)
    ∧ quiescent_ReferenceIdeal_pre_proper (hReferenceIdeal := hReferenceIdeal) (hPre_proper := hPre_proper)
    ∧ preserves_Kernel_KernelIdeal
    ∧ algebraic_KernelIdeal_ReferenceIdeal_pre_proper (hKernelIdeal := hKernelIdeal) (hReferenceIdeal := hReferenceIdeal) (hPre_proper := hPre_proper)
-- ==== Pre_proper.lean ====
abbrev S1x256x2048 : Shape := ⟨3, ![1, 256, 2048]⟩
abbrev S1x256 : Shape := ⟨2, ![1, 256]⟩
abbrev S5632x2048 : Shape := ⟨2, ![5632, 2048]⟩
abbrev S5632x16 : Shape := ⟨2, ![5632, 16]⟩
abbrev S1x256x5632 : Shape := ⟨3, ![1, 256, 5632]⟩
abbrev S5632x16x128 : Shape := ⟨3, ![5632, 16, 128]⟩
abbrev S_ : Shape := ⟨0, ![]⟩

class Facts : Prop where
  shapeCasts_S5632x2048_S5632x16x128 : S5632x2048.ShapeCasts S5632x16x128
  bcast_S_S5632x16 : S_.BroadcastsInDim S5632x16 (![] : Fin 0 → Fin S5632x16.rank)
  reducesTo_S5632x16x128_S5632x16_d2 : S5632x16x128.ReducesTo [2] S5632x16
  h_S_ : 0 < S_.numel

variable [Facts]

def fn_part1 {F : FTy → Type} [FloatOps F] (main_v17 : FVec F S5632x16 .f32) : IVec S5632x16 1 :=
  let main_cst_5 : FVec F S_ .f32 := constant S_ .f32 0x00000000#32
  let main_v18 : FVec F S5632x16 .f32 := broadcastInDim S5632x16 ![] bcast_S_S5632x16 main_cst_5
  let main_v19 : IVec S5632x16 1 := cmpf .une main_v17 main_v18
  main_v19

def fn {F : FTy → Type} [FloatOps F] (main_arg0 : FVec F S1x256x2048 .fp8e4m3) (main_arg1 : FVec F S1x256 .f32) (main_arg2 : FVec F S5632x2048 .f32) (main_arg3 : FVec F S5632x16 .f32) (main_arg4 : FVec F S5632x16 .f32) (main_arg5 : FVec F S1x256x5632 .bf16) : IVec S5632x16 1 :=
  let main_v0 : FVec F S5632x16x128 .f32 := shapeCast S5632x16x128 main_arg2 shapeCasts_S5632x2048_S5632x16x128
  let main_v1 : FVec F S5632x16 .f32 := Host.negf main_arg3
  let main_v2 : FVec F S5632x16 .f32 := Host.exp main_v1
  let main_cst : FVec F S_ .f32 := constant S_ .f32 0x3F800000#32
  let main_v3 : FVec F S5632x16 .f32 := broadcastInDim S5632x16 ![] bcast_S_S5632x16 main_cst
  let main_v4 : FVec F S5632x16 .f32 := addf main_v3 main_v2
  let main_cst_0 : FVec F S_ .f32 := constant S_ .f32 0x3F800000#32
  let main_v5 : FVec F S5632x16 .f32 := broadcastInDim S5632x16 ![] bcast_S_S5632x16 main_cst_0
  let main_v6 : FVec F S5632x16 .f32 := Host.divf main_v5 main_v4
  let main_v7 : FVec F S5632x16 .f32 := Host.negf main_arg4
  let main_v8 : FVec F S5632x16 .f32 := Host.exp main_v7
  let main_cst_1 : FVec F S_ .f32 := constant S_ .f32 0x3F800000#32
  let main_v9 : FVec F S5632x16 .f32 := broadcastInDim S5632x16 ![] bcast_S_S5632x16 main_cst_1
  let main_v10 : FVec F S5632x16 .f32 := addf main_v9 main_v8
  let main_cst_2 : FVec F S_ .f32 := constant S_ .f32 0x3F800000#32
  let main_v11 : FVec F S5632x16 .f32 := broadcastInDim S5632x16 ![] bcast_S_S5632x16 main_cst_2
  let main_v12 : FVec F S5632x16 .f32 := Host.divf main_v11 main_v10
  let main_cst_3 : FVec F S_ .f32 := constant S_ .f32 0xFF800000#32
  let main_v13 : FVec F S5632x16 .f32 := (fun x v => Host.reduce FloatOps.maximumf x v reducesTo_S5632x16x128_S5632x16_d2 h_S_) main_v0 main_cst_3
  let main_v14 : FVec F S5632x16 .f32 := mulf main_v6 main_v13
  let main_cst_4 : FVec F S_ .f32 := constant S_ .f32 0x7F800000#32
  let main_v15 : FVec F S5632x16 .f32 := (fun x v => Host.reduce FloatOps.minimumf x v reducesTo_S5632x16x128_S5632x16_d2 h_S_) main_v0 main_cst_4
  let main_v16 : FVec F S5632x16 .f32 := mulf main_v12 main_v15
  let main_v17 : FVec F S5632x16 .f32 := subf main_v14 main_v16
  fn_part1 (F := F) main_v17
-- ==== Kernel.lean ====
abbrev S1x256x2048 : Shape := ⟨3, ![1, 256, 2048]⟩
abbrev S1x256 : Shape := ⟨2, ![1, 256]⟩
abbrev S5632x2048 : Shape := ⟨2, ![5632, 2048]⟩
abbrev S5632x16 : Shape := ⟨2, ![5632, 16]⟩
abbrev S1x256x5632 : Shape := ⟨3, ![1, 256, 5632]⟩
abbrev S256x2048 : Shape := ⟨2, ![256, 2048]⟩
abbrev S16x5632 : Shape := ⟨2, ![16, 5632]⟩
abbrev S256x5632 : Shape := ⟨2, ![256, 5632]⟩
abbrev S1x1 : Shape := ⟨2, ![1, 1]⟩
abbrev S16x256 : Shape := ⟨2, ![16, 256]⟩
abbrev S256x256 : Shape := ⟨2, ![256, 256]⟩
abbrev S2048x256 : Shape := ⟨2, ![2048, 256]⟩
abbrev S256x128 : Shape := ⟨2, ![256, 128]⟩
abbrev S2x2048x128 : Shape := ⟨3, ![2, 2048, 128]⟩
abbrev S4x2048x128 : Shape := ⟨3, ![4, 2048, 128]⟩
abbrev S2x128x128 : Shape := ⟨3, ![2, 128, 128]⟩
abbrev S2x16x128 : Shape := ⟨3, ![2, 16, 128]⟩
abbrev S8x128 : Shape := ⟨2, ![8, 128]⟩
abbrev S128x256 : Shape := ⟨2, ![128, 256]⟩
abbrev S128x128 : Shape := ⟨2, ![128, 128]⟩
abbrev S1x128x128 : Shape := ⟨3, ![1, 128, 128]⟩
abbrev S16x8x128 : Shape := ⟨3, ![16, 8, 128]⟩
abbrev S1x8x128 : Shape := ⟨3, ![1, 8, 128]⟩
abbrev S1x16x128 : Shape := ⟨3, ![1, 16, 128]⟩
abbrev S16x128 : Shape := ⟨2, ![16, 128]⟩
abbrev S1x1x128 : Shape := ⟨3, ![1, 1, 128]⟩
abbrev S1x128 : Shape := ⟨2, ![1, 128]⟩
abbrev S32x8x128 : Shape := ⟨3, ![32, 8, 128]⟩
abbrev S1 : Shape := ⟨1, ![1]⟩
abbrev S1x1x1 : Shape := ⟨3, ![1, 1, 1]⟩

abbrev nBuf : Space → Nat
  | .hbm => 16
  | .vmem => 33
  | .smem => 1
  | _ => 0

abbrev bufTy : (tb : Table) → Fin (tcTables nBuf tb) → BufTy
  | .hbm, ⟨0, _⟩ => ⟨S1x256x2048, .fp8e4m3⟩
  | .hbm, ⟨1, _⟩ => ⟨S1x256, .f32⟩
  | .hbm, ⟨2, _⟩ => ⟨S5632x2048, .f32⟩
  | .hbm, ⟨3, _⟩ => ⟨S5632x16, .f32⟩
  | .hbm, ⟨4, _⟩ => ⟨S5632x16, .f32⟩
  | .hbm, ⟨5, _⟩ => ⟨S1x256x5632, .bf16⟩
  | .hbm, ⟨6, _⟩ => ⟨S256x2048, .fp8e4m3⟩
  | .hbm, ⟨7, _⟩ => ⟨S16x5632, .f32⟩
  | .hbm, ⟨8, _⟩ => ⟨S16x5632, .f32⟩
  | .hbm, ⟨9, _⟩ => ⟨S256x5632, .bf16⟩
  | .hbm, ⟨10, _⟩ => ⟨S16x5632, .f32⟩
  | .hbm, ⟨11, _⟩ => ⟨S16x5632, .f32⟩
  | .hbm, ⟨12, _⟩ => ⟨S1x1, .f32⟩
  | .hbm, ⟨13, _⟩ => ⟨S5632x2048, .i8⟩
  | .hbm, ⟨14, _⟩ => ⟨S16x5632, .f32⟩
  | .hbm, ⟨15, _⟩ => ⟨S16x5632, .f32⟩
  | .local _ .vmem, ⟨0, _⟩ => ⟨S256x2048, .fp8e4m3⟩
  | .local _ .vmem, ⟨1, _⟩ => ⟨S1x256, .f32⟩
  | .local _ .vmem, ⟨2, _⟩ => ⟨S256x2048, .f32⟩
  | .local _ .vmem, ⟨3, _⟩ => ⟨S256x2048, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S256x256, .bf16⟩
  | .local _ .vmem, ⟨9, _⟩ => ⟨S256x256, .bf16⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S256x2048, .i8⟩
  | .local _ .vmem, ⟨15, _⟩ => ⟨S256x2048, .i8⟩
  | .local _ .vmem, ⟨16, _⟩ => ⟨S16x256, .f32⟩
  | .local _ .vmem, ⟨17, _⟩ => ⟨S16x256, .f32⟩
  | .local _ .vmem, ⟨18, _⟩ => ⟨S16x256, .f32⟩
  | .local _ .vmem, ⟨19, _⟩ => ⟨S16x256, .f32⟩
  | .local _ .vmem, ⟨20, _⟩ => ⟨S256x2048, .bf16⟩
  | .local _ .vmem, ⟨21, _⟩ => ⟨S2048x256, .bf16⟩
  | .local _ .vmem, ⟨22, _⟩ => ⟨S256x128, .f32⟩
  | .local _ .vmem, ⟨23, _⟩ => ⟨S2x2048x128, .f32⟩
  | .local _ .vmem, ⟨24, _⟩ => ⟨S2048x256, .bf16⟩
  | .local _ .vmem, ⟨25, _⟩ => ⟨S4x2048x128, .f32⟩
  | .local _ .vmem, ⟨26, _⟩ => ⟨S2x128x128, .f32⟩
  | .local _ .vmem, ⟨27, _⟩ => ⟨S2x128x128, .f32⟩
  | .local _ .vmem, ⟨28, _⟩ => ⟨S2x16x128, .f32⟩
  | .local _ .vmem, ⟨29, _⟩ => ⟨S2x16x128, .f32⟩
  | .local _ .vmem, ⟨30, _⟩ => ⟨S2x128x128, .f32⟩
  | .local _ .vmem, ⟨31, _⟩ => ⟨S2x128x128, .f32⟩
  | .local _ .vmem, ⟨32, _⟩ => ⟨S8x128, .f32⟩
  | .local _ .smem, ⟨0, _⟩ => ⟨S1x1, .f32⟩
  | _, _ => ⟨S1x256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_scratch12 : Ref sig .tc := ⟨.vmem, 32, rfl⟩
abbrev cc0_stg8_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![22], ![false]⟩

def k0_cond2 (i : grid0.Coords) : BitVec 1 :=
  let arg0 : BitVec 32 := BitVec.ofNat 32 (i 0).val
  let c21_i32 : BitVec 32 := 21#32
  let v2875 : BitVec 1 := Scalar.cmpi .eq arg0 c21_i32
  let v2876 : BitVec 32 := Scalar.extui v2875
  let c0_i32_2015 : BitVec 32 := 0#32
  let v2877 : BitVec 1 := Scalar.cmpi .ne v2876 c0_i32_2015
  v2877

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_15" => some ((1 / 15 : ℝ) : EReal)
  | "inv_n" => some ((1 / 1441792 : ℝ) : EReal)
  | _ => none
-- ==== ReferenceIdeal.lean ====
abbrev S1x256x2048 : Shape := ⟨3, ![1, 256, 2048]⟩
abbrev S1x256 : Shape := ⟨2, ![1, 256]⟩
abbrev S5632x2048 : Shape := ⟨2, ![5632, 2048]⟩
abbrev S5632x16 : Shape := ⟨2, ![5632, 16]⟩
abbrev S1x256x5632 : Shape := ⟨3, ![1, 256, 5632]⟩
abbrev S256x2048 : Shape := ⟨2, ![256, 2048]⟩
abbrev S256x5632 : Shape := ⟨2, ![256, 5632]⟩
abbrev S16x5632 : Shape := ⟨2, ![16, 5632]⟩
abbrev S1x1 : Shape := ⟨2, ![1, 1]⟩
abbrev S5632x16x128 : Shape := ⟨3, ![5632, 16, 128]⟩
abbrev S5632x16x1 : Shape := ⟨3, ![5632, 16, 1]⟩
abbrev S256x1 : Shape := ⟨2, ![256, 1]⟩
abbrev S1 : Shape := ⟨1, ![1]⟩
abbrev S1x1x1 : Shape := ⟨3, ![1, 1, 1]⟩

abbrev nBuf : Space → Nat
  | .hbm => 14
  | .vmem => 12
  | .smem => 0
  | _ => 0

abbrev bufTy : (tb : Table) → Fin (tcTables nBuf tb) → BufTy
  | .hbm, ⟨0, _⟩ => ⟨S1x256x2048, .fp8e4m3⟩
  | .hbm, ⟨1, _⟩ => ⟨S1x256, .f32⟩
  | .hbm, ⟨2, _⟩ => ⟨S5632x2048, .f32⟩
  | .hbm, ⟨3, _⟩ => ⟨S5632x16, .f32⟩
  | .hbm, ⟨4, _⟩ => ⟨S5632x16, .f32⟩
  | .hbm, ⟨5, _⟩ => ⟨S1x256x5632, .bf16⟩
  | .hbm, ⟨6, _⟩ => ⟨S256x2048, .fp8e4m3⟩
  | .hbm, ⟨7, _⟩ => ⟨S256x5632, .bf16⟩
  | .hbm, ⟨8, _⟩ => ⟨S16x5632, .f32⟩
  | .hbm, ⟨9, _⟩ => ⟨S16x5632, .f32⟩
  | .hbm, ⟨10, _⟩ => ⟨S1x1, .f32⟩
  | .hbm, ⟨11, _⟩ => ⟨S5632x2048, .i8⟩
  | .hbm, ⟨12, _⟩ => ⟨S16x5632, .f32⟩
  | .hbm, ⟨13, _⟩ => ⟨S16x5632, .f32⟩
  | .local _ .vmem, ⟨0, _⟩ => ⟨S256x2048, .fp8e4m3⟩
  | .local _ .vmem, ⟨1, _⟩ => ⟨S1x256, .f32⟩
  | .local _ .vmem, ⟨2, _⟩ => ⟨S5632x2048, .f32⟩
  | .local _ .vmem, ⟨3, _⟩ => ⟨S5632x16, .f32⟩
  | .local _ .vmem, ⟨4, _⟩ => ⟨S5632x16, .f32⟩
  | .local _ .vmem, ⟨5, _⟩ => ⟨S256x5632, .bf16⟩
  | .local _ .vmem, ⟨6, _⟩ => ⟨S16x5632, .f32⟩
  | .local _ .vmem, ⟨7, _⟩ => ⟨S16x5632, .f32⟩
  | .local _ .vmem, ⟨8, _⟩ => ⟨S1x1, .f32⟩
  | .local _ .vmem, ⟨9, _⟩ => ⟨S5632x2048, .i8⟩
  | .local _ .vmem, ⟨10, _⟩ => ⟨S16x5632, .f32⟩
  | .local _ .vmem, ⟨11, _⟩ => ⟨S16x5632, .f32⟩
  | _, _ => ⟨S1x256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5632x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5632x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5632x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5632x2048 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Spec.lean ====
/- The mathematics of the layer-wise clipping gradient, one output column at a time.

   A column holds one row of the weights with its clipping parameters and the activations it meets. The first part
   writes each result as the reference computes it; the second writes the scalar forms the tiled kernel uses (the
   reciprocal of the step, the shifted rounding, the folds over sublanes) and proves them equal wherever the step is
   not zero. Everything is over the extended reals, and nothing is assumed finite. -/
module
public import Idealize.ShloMosaic.Lib.Pointwise
@[expose] public section
set_option maxRecDepth 16384
noncomputable section
namespace LWC
open Idealize.ShloMosaic

/-! ### The constants -/

abbrev ninf : EReal := Ideal.ofBits FTy.f32 4286578688#32
abbrev pinf : EReal := Ideal.ofBits FTy.f32 2139095040#32
abbrev c15 : EReal := Ideal.ofBits FTy.f32 1097859072#32
abbrev kap : EReal := Ideal.ofBits FTy.f32 901394060#32
abbrev mag : EReal := Ideal.ofBits FTy.f32 1262485504#32
abbrev mag15 : EReal := Ideal.ofBits FTy.f32 1262485519#32
abbrev cN : EReal := Ideal.ofBits FTy.f32 1236271104#32
abbrev i15 : EReal := ((1 / 15 : ℝ) : EReal)
abbrev iN : EReal := ((1 / 1441792 : ℝ) : EReal)

theorem c15_eq : c15 = ((15 : ℝ) : EReal) := by
  simp [Ideal.ofBits, Ideal.ieee, -EReal.coe_mul]; norm_num
theorem mag_eq : mag = ((12582912 : ℝ) : EReal) := by
  simp [Ideal.ofBits, Ideal.ieee, -EReal.coe_mul]
theorem mag15_eq : mag15 = ((12582927 : ℝ) : EReal) := by
  simp [Ideal.ofBits, Ideal.ieee, -EReal.coe_mul]
theorem cN_eq : cN = ((1441792 : ℝ) : EReal) := by
  simp [Ideal.ofBits, Ideal.ieee, -EReal.coe_mul]; norm_num
theorem kap_real : ∃ r : ℝ, 0 ≤ r ∧ kap = (r : EReal) := by
  refine ⟨_, ?_, by simp [Ideal.ofBits, Ideal.ieee, -EReal.coe_mul]; rfl⟩
  positivity

theorem div15 (x : EReal) : Ideal.div x c15 = x * i15 := by
  rw [c15_eq, Ideal.div_coe (by norm_num)]
theorem divN (x : EReal) : Ideal.div x cN = x * iN := by
  rw [cN_eq, Ideal.div_coe (by norm_num)]

/-! ### Indices: a column of 2048 weights is 16 groups of 128 -/

def gk (g : Fin 16) (k : Fin 128) : Fin 2048 := ⟨g.val * 128 + k.val, by omega⟩
def gd (d : Fin 2048) : Fin 16 := ⟨d.val / 128, by omega⟩
def kd (d : Fin 2048) : Fin 128 := ⟨d.val % 128, by omega⟩
/-- Row `p = g * 8 + j` of a folded buffer gathers the weights `g * 128 + a * 8 + j`. -/
def pd (p : Fin 128) (a : Fin 16) : Fin 2048 := ⟨p.val / 8 * 128 + (a.val * 8 + p.val % 8), by omega⟩
def pj (g : Fin 16) (j : Fin 8) : Fin 128 := ⟨g.val * 8 + j.val, by omega⟩

@[simp] theorem gd_gk (g : Fin 16) (k : Fin 128) : gd (gk g k) = g := by
  apply Fin.ext; simp only [gd, gk]; omega
@[simp] theorem kd_gk (g : Fin 16) (k : Fin 128) : kd (gk g k) = k := by
  apply Fin.ext; simp only [kd, gk]; omega
@[simp] theorem gk_gd_kd (d : Fin 2048) : gk (gd d) (kd d) = d := by
  apply Fin.ext; simp only [gd, gk, kd]; omega
theorem pd_pj (g : Fin 16) (j : Fin 8) (a : Fin 16) : pd (pj g j) a = gk g ⟨a.val * 8 + j.val, by omega⟩ := by
  apply Fin.ext; simp only [pd, pj, gk]; omega

/-- The kernel's fold of eight values. -/
def tree (op : EReal → EReal → EReal) (f : Fin 8 → EReal) : EReal :=
  op (op (op (f 0) (f 1)) (op (f 2) (f 3))) (op (op (f 4) (f 5)) (op (f 6) (f 7)))

/-! ### The column -/

structure Col where
  X : Fin 256 → Fin 2048 → EReal
  xs : Fin 256 → EReal
  w : Fin 2048 → EReal
  ga : Fin 16 → EReal
  be : Fin 16 → EReal
  y : Fin 256 → EReal

def sgm (x : EReal) : EReal := Ideal.div 1 (1 + Ideal.exp (0 - x))
def rnd (x : EReal) : EReal := Ideal.liftRound Ideal.roundHalfEven x

namespace Col
variable (C : Col)

/-! ### As the reference computes it -/

def wmax (g : Fin 16) : EReal := Finset.univ.fold max ninf (fun k : Fin 128 => C.w (gk g k))
def wmin (g : Fin 16) : EReal := Finset.univ.fold min pinf (fun k : Fin 128 => C.w (gk g k))
def lo (g : Fin 16) : EReal := sgm (C.be g) * C.wmin g
def dlt (g : Fin 16) : EReal := sgm (C.ga g) * C.wmax g - C.lo g
def h (g : Fin 16) : EReal := Ideal.div (C.dlt g) c15
def loh (g : Fin 16) : EReal := Ideal.div (C.lo g) (C.h g)
def z (g : Fin 16) : EReal := 0 - rnd (C.loh g)
def u (d : Fin 2048) : EReal := Ideal.div (C.w d) (C.h (gd d))
def c (d : Fin 2048) : EReal := rnd (C.u d) + C.z (gd d)
def q (d : Fin 2048) : EReal := min c15 (max 0 (C.c d))
def code (d : Fin 2048) : BitVec 8 := Ideal.fptosi 8 (C.q d)
def qz (d : Fin 2048) : EReal := C.q d - C.z (gd d)
def what (d : Fin 2048) : EReal := C.qz d * C.h (gd d)
def m (d : Fin 2048) : EReal := if 0 ≤ C.c d ∧ C.c d ≤ c15 then 1 else 0
def acc (s : Fin 256) : EReal := ∑ d, C.X s d * C.what d
def E (s : Fin 256) : EReal := C.acc s * C.xs s - C.y s
def G (d : Fin 2048) : EReal := (∑ s, C.E s * C.xs s * C.X s d) * kap
def Sc (g : Fin 16) : EReal := ∑ k : Fin 128, C.G (gk g k) * (1 - C.m (gk g k))
def Sh (g : Fin 16) : EReal :=
  (∑ k : Fin 128, C.G (gk g k) * (C.qz (gk g k) - C.m (gk g k) * C.u (gk g k))) - C.loh g * C.Sc g
def dg (g : Fin 16) : EReal :=
  Ideal.div (C.Sh g * sgm (C.ga g) * (1 - sgm (C.ga g)) * C.wmax g) c15
def db (g : Fin 16) : EReal :=
  (C.Sc g - Ideal.div (C.Sh g) c15) * sgm (C.be g) * (1 - sgm (C.be g)) * C.wmin g

end Col

/-! ### As the kernel computes it -/

def bu (w rh : EReal) : EReal := w * rh
def bc (w rh mz : EReal) : EReal := rnd (bu w rh) + mz
def bq (w rh mz : EReal) : EReal := min mag15 (max mag (bc w rh mz))
def bqz (w rh mz : EReal) : EReal := bq w rh mz - mz
def btp (w rh mz : EReal) : EReal := if bq w rh mz = bc w rh mz then bqz w rh mz - bu w rh else bqz w rh mz
def btm (w rh mz : EReal) : EReal := if bq w rh mz = bc w rh mz then 0 else 1
def bcode (w rh mz : EReal) : BitVec 8 :=
  BitVec.setWidth 8 (BitVec.setWidth 16 (Ideal.fptosi 32 (bq w rh mz - mag) + 1262485504#32))

namespace Col
variable (C : Col)

/-- The largest (smallest) of the sixteen weights gathered by one row of the folded buffer. -/
def mxp (p : Fin 128) : EReal := Finset.univ.fold max ninf (fun a : Fin 16 => C.w (pd p a))
def mnp (p : Fin 128) : EReal := Finset.univ.fold min pinf (fun a : Fin 16 => C.w (pd p a))
def kh (g : Fin 16) : EReal := C.dlt g * i15
def krh (g : Fin 16) : EReal := Ideal.div 1 (C.kh g)
def kloh (g : Fin 16) : EReal := C.lo g * C.krh g
def kz (g : Fin 16) : EReal := 0 - rnd (C.kloh g)
def kmz (g : Fin 16) : EReal := C.kz g + mag
def kwhat (d : Fin 2048) : EReal := bqz (C.w d) (C.krh (gd d)) (C.kmz (gd d)) * C.kh (gd d)
def ktp (d : Fin 2048) : EReal := btp (C.w d) (C.krh (gd d)) (C.kmz (gd d))
def ktm (d : Fin 2048) : EReal := btm (C.w d) (C.krh (gd d)) (C.kmz (gd d))
def kcode (d : Fin 2048) : BitVec 8 := bcode (C.w d) (C.krh (gd d)) (C.kmz (gd d))
def kacc (s : Fin 256) : EReal := ∑ d, C.X s d * C.kwhat d
def kE (s : Fin 256) : EReal := C.kacc s * C.xs s - C.y s
def kG (d : Fin 2048) : EReal := ∑ s, C.X s d * (C.kE s * C.xs s)
def kshp (p : Fin 128) : EReal := ∑ a : Fin 16, C.kG (pd p a) * C.ktp (pd p a)
def kscp (p : Fin 128) : EReal := ∑ a : Fin 16, C.kG (pd p a) * C.ktm (pd p a)
def kSc (g : Fin 16) : EReal := tree (· + ·) (fun j => C.kscp (pj g j)) * kap
def kSh (g : Fin 16) : EReal := tree (· + ·) (fun j => C.kshp (pj g j)) * kap - C.kloh g * C.kSc g
def kdg (g : Fin 16) : EReal := C.kSh g * i15 * sgm (C.ga g) * (1 - sgm (C.ga g)) * C.wmax g
def kdb (g : Fin 16) : EReal := (C.kSc g - C.kSh g * i15) * sgm (C.be g) * (1 - sgm (C.be g)) * C.wmin g

end Col

/-! ### Folds and sums -/

theorem tree_max (C : Col) (g : Fin 16) : tree max (fun j => C.mxp (pj g j)) = C.wmax g := by
  refine eq_of_forall_ge_iff fun t => ?_
  simp only [tree, max_le_iff, Col.mxp, Col.wmax, Finset.fold_max_le, Finset.mem_univ, forall_true_left, pd_pj]
  constructor
  · intro H
    refine ⟨H.1.1.1.1, fun k => ?_⟩
    have key : ∀ j : Fin 8, ∀ a : Fin 16, C.w (gk g ⟨a.val * 8 + j.val, by omega⟩) ≤ t := by
      intro j a; fin_cases j
      · exact H.1.1.1.2 a
      · exact H.1.1.2.2 a
      · exact H.1.2.1.2 a
      · exact H.1.2.2.2 a
      · exact H.2.1.1.2 a
      · exact H.2.1.2.2 a
      · exact H.2.2.1.2 a
      · exact H.2.2.2.2 a
    have := key ⟨k.val % 8, by omega⟩ ⟨k.val / 8, by omega⟩
    convert this using 3
    apply Fin.ext; simp only; omega
  · rintro ⟨h0, H⟩
    exact ⟨⟨⟨⟨h0, fun a => H _⟩, h0, fun a => H _⟩, ⟨h0, fun a => H _⟩, h0, fun a => H _⟩,
      ⟨⟨h0, fun a => H _⟩, h0, fun a => H _⟩, ⟨h0, fun a => H _⟩, h0, fun a => H _⟩

theorem tree_min (C : Col) (g : Fin 16) : tree min (fun j => C.mnp (pj g j)) = C.wmin g := by
  refine eq_of_forall_le_iff fun t => ?_
  simp only [tree, le_min_iff, Col.mnp, Col.wmin, Finset.le_fold_min, Finset.mem_univ, forall_true_left, pd_pj]
  constructor
  · intro H
    refine ⟨H.1.1.1.1, fun k => ?_⟩
    have key : ∀ j : Fin 8, ∀ a : Fin 16, t ≤ C.w (gk g ⟨a.val * 8 + j.val, by omega⟩) := by
      intro j a; fin_cases j
      · exact H.1.1.1.2 a
      · exact H.1.1.2.2 a
      · exact H.1.2.1.2 a
      · exact H.1.2.2.2 a
      · exact H.2.1.1.2 a
      · exact H.2.1.2.2 a
      · exact H.2.2.1.2 a
      · exact H.2.2.2.2 a
    have := key ⟨k.val % 8, by omega⟩ ⟨k.val / 8, by omega⟩
    convert this using 3
    apply Fin.ext; simp only; omega
  · rintro ⟨h0, H⟩
    exact ⟨⟨⟨⟨h0, fun a => H _⟩, h0, fun a => H _⟩, ⟨h0, fun a => H _⟩, h0, fun a => H _⟩,
      ⟨⟨h0, fun a => H _⟩, h0, fun a => H _⟩, ⟨h0, fun a => H _⟩, h0, fun a => H _⟩

/-- A sum over a group is the fold of its eight sums over the rows of a sublane. -/
theorem tree_sum (f : Fin 2048 → EReal) (g : Fin 16) :
    tree (· + ·) (fun j => ∑ a : Fin 16, f (pd (pj g j) a)) = ∑ k : Fin 128, f (gk g k) := by
  rw [Fin.sum_univ_tiles 16 8 rfl (fun k : Fin 128 => f (gk g k)), Finset.sum_comm, Fin.sum_univ_eight]
  simp only [tree, pd_pj, add_assoc]

theorem sum_mul_kap {ι : Type} (s : Finset ι) (f : ι → EReal) : ∑ i ∈ s, f i * kap = (∑ i ∈ s, f i) * kap := by
  obtain ⟨r, hr, e⟩ := kap_real
  classical
  induction s using Finset.induction_on with
  | empty => simp
  | insert a s ha ih =>
    rw [Finset.sum_insert ha, Finset.sum_insert ha, ih, e,
      EReal.right_distrib_of_nonneg_of_ne_top (by exact_mod_cast hr) (EReal.coe_ne_top r)]

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-! ### The step is not zero -/

theorem div_ne {x y : EReal} (hy : y ≠ 0) : Ideal.div x y = x * Ideal.div 1 y := by
  rw [Ideal.div, if_neg hy, Ideal.div, if_neg hy, one_mul]

/-- A clip whose bounds and argument move by the same real moves by that real. -/
theorem clip_shift (c : EReal) : min mag15 (max mag (c + mag)) = min c15 (max 0 c) + mag := by
  rw [mag15_eq, mag_eq, c15_eq]
  induction c using EReal.rec with
  | bot =>
    simp only [EReal.bot_add]
    rw [max_eq_left bot_le, max_eq_left bot_le, min_eq_right (by exact_mod_cast (by norm_num)),
      min_eq_right (by exact_mod_cast (by norm_num)), zero_add]
  | top =>
    rw [EReal.top_add_coe, max_eq_right le_top, max_eq_right le_top, min_eq_left le_top, min_eq_left le_top,
      ← EReal.coe_add]
    norm_num
  | coe c =>
    rw [show (0 : EReal) = ((0 : ℝ) : EReal) from rfl]
    simp only [← EReal.coe_add, ← coe_max, ← coe_min]
    refine congrArg _ ?_
    rw [show (12582927 : ℝ) = 15 + 12582912 by norm_num, show max (12582912 : ℝ) (c + 12582912) = max 0 c + 12582912 by
      rw [← max_add_add_right, zero_add], min_add_add_right]

/-- The clipped value is one of the integers 0 … 15. -/
theorem q_nat (C : Col) (d : Fin 2048) : ∃ n : Fin 16, C.q d = ((n.val : ℝ) : EReal) := by
  have hc : C.c d = ⊥ ∨ C.c d = ⊤ ∨ ∃ i : ℤ, C.c d = ((i : ℝ) : EReal) := by
    have hr : ∀ x : EReal, rnd x = ⊥ ∨ rnd x = ⊤ ∨ ∃ i : ℤ, rnd x = ((i : ℝ) : EReal) := by
      intro x
      induction x using EReal.rec with
      | bot => exact .inl rfl
      | top => exact .inr (.inl rfl)
      | coe r => exact .inr (.inr ⟨_, rfl⟩)
    unfold Col.c Col.z
    rcases hr (C.u d) with h | h | ⟨i, h⟩ <;> rcases hr (C.loh (gd d)) with h' | h' | ⟨j, h'⟩ <;> rw [h, h']
    · left; simp
    · left; simp
    · left; simp
    · right; left; simp
    · left; simp
    · right; left
      rw [zero_sub, ← EReal.coe_neg, EReal.top_add_coe]
    · right; left; simp
    · left; simp
    · right; right
      refine ⟨i - j, ?_⟩
      rw [zero_sub, ← EReal.coe_neg, ← EReal.coe_add]
      push_cast
      rw [sub_eq_add_neg]
  unfold Col.q
  rw [c15_eq]
  rcases hc with h | h | ⟨i, h⟩ <;> rw [h]
  · refine ⟨0, ?_⟩
    rw [max_eq_left bot_le, min_eq_right (by exact_mod_cast (by norm_num))]
    simp
  · refine ⟨15, ?_⟩
    rw [max_eq_right le_top, min_eq_left le_top]
    norm_num
  · refine ⟨⟨(min 15 (max 0 i)).toNat, by omega⟩, ?_⟩
    rw [show (0 : EReal) = ((0 : ℝ) : EReal) from rfl, ← coe_max, ← coe_min]
    congr 1
    have : (((min 15 (max 0 i)).toNat : ℤ) : ℝ) = ((min 15 (max 0 i) : ℤ) : ℝ) := by
      rw [Int.toNat_of_nonneg (by omega)]
    simp only
    rw [show (((min 15 (max 0 i)).toNat : ℕ) : ℝ) = (((min 15 (max 0 i)).toNat : ℤ) : ℝ) by push_cast; rfl, this]
    push_cast
    rfl

theorem fptosi_nat (n : ℕ) (w : ℕ) (hn : (n : ℤ) ≤ (2 ^ (w - 1) : ℕ) - 1) :
    Ideal.fptosi w ((n : ℝ) : EReal) = BitVec.ofInt w n := by
  rw [Ideal.fptosi, Ideal.toIntClamped_coe, if_pos (Nat.cast_nonneg n), Int.floor_natCast, min_eq_right hn,
    max_eq_right (by omega)]

/-- Reading the code back gives the clipped value. -/
theorem code_toInt (C : Col) (d : Fin 2048) : (((C.code d).toInt : ℝ) : EReal) = C.q d := by
  obtain ⟨n, hn⟩ := q_nat C d
  rw [Col.code, hn, fptosi_nat _ _ (by have := n.isLt; omega)]
  fin_cases n <;> norm_num [BitVec.toInt]

section Step
variable (C : Col) (hne : ∀ g, C.dlt g ≠ 0)
include hne

theorem kh_ne (g : Fin 16) : C.h g ≠ 0 := by
  rw [Col.h, div15]
  exact mul_ne_zero (hne g) (by norm_num [i15, EReal.coe_eq_zero])
omit hne in
theorem kh_eq (g : Fin 16) : C.kh g = C.h g := by rw [Col.kh, Col.h, div15]
theorem kloh_eq (g : Fin 16) : C.kloh g = C.loh g := by
  rw [Col.kloh, Col.krh, kh_eq, Col.loh, ← div_ne (kh_ne C hne g)]
theorem kz_eq (g : Fin 16) : C.kz g = C.z g := by rw [Col.kz, Col.z, kloh_eq C hne]
theorem bu_eq (d : Fin 2048) : bu (C.w d) (C.krh (gd d)) = C.u d := by
  rw [bu, Col.krh, kh_eq, Col.u, ← div_ne (kh_ne C hne _)]
theorem bc_eq (d : Fin 2048) : bc (C.w d) (C.krh (gd d)) (C.kmz (gd d)) = C.c d + mag := by
  rw [bc, bu_eq C hne, Col.kmz, kz_eq C hne, Col.c, add_assoc]
theorem bq_eq (d : Fin 2048) : bq (C.w d) (C.krh (gd d)) (C.kmz (gd d)) = C.q d + mag := by
  rw [bq, bc_eq C hne, clip_shift, Col.q]
theorem bqz_eq (d : Fin 2048) : bqz (C.w d) (C.krh (gd d)) (C.kmz (gd d)) = C.qz d := by
  rw [bqz, bq_eq C hne, Col.kmz, kz_eq C hne, Col.qz]
  obtain ⟨n, hn⟩ := q_nat C d
  rw [hn, mag_eq]
  induction C.z (gd d) using EReal.rec with
  | bot => rw [EReal.bot_add, ← EReal.coe_add, sub_eq_add_neg, sub_eq_add_neg, EReal.neg_bot, EReal.coe_add_top, EReal.coe_add_top]
  | top => rw [EReal.top_add_coe, sub_eq_add_neg, sub_eq_add_neg, EReal.neg_top, EReal.add_bot, EReal.add_bot]
  | coe r => simp only [← EReal.coe_add, ← EReal.coe_sub]; congr 1; ring
theorem bq_iff (d : Fin 2048) : (bq (C.w d) (C.krh (gd d)) (C.kmz (gd d)) = bc (C.w d) (C.krh (gd d)) (C.kmz (gd d)))
    ↔ (0 ≤ C.c d ∧ C.c d ≤ c15) := by
  rw [bq_eq C hne, bc_eq C hne]
  have hadd : C.q d + mag = C.c d + mag ↔ C.q d = C.c d := by
    rw [mag_eq]
    constructor
    · intro e
      have := congrArg (· - ((12582912 : ℝ) : EReal)) e
      simpa [EReal.add_sub_cancel_right] using this
    · rintro e; rw [e]
  rw [hadd, Col.q]
  have h0 : (0 : EReal) ≤ c15 := by rw [c15_eq]; exact_mod_cast (by norm_num)
  constructor
  · intro e
    exact ⟨by rw [← e]; exact le_min h0 (le_max_left _ _), by rw [← e]; exact min_le_left _ _⟩
  · rintro ⟨a, b⟩
    rw [max_eq_right a, min_eq_right b]
theorem kwhat_eq (d : Fin 2048) : C.kwhat d = C.what d := by
  rw [Col.kwhat, bqz_eq C hne, kh_eq, Col.what]
theorem ktp_eq (d : Fin 2048) : C.ktp d = C.qz d - C.m d * C.u d := by
  rw [Col.ktp, btp, bqz_eq C hne, bu_eq C hne, Col.m]
  by_cases hc : 0 ≤ C.c d ∧ C.c d ≤ c15
  · rw [if_pos ((bq_iff C hne d).2 hc), if_pos hc, one_mul]
  · rw [if_neg (fun e => hc ((bq_iff C hne d).1 e)), if_neg hc, zero_mul, sub_zero]
theorem ktm_eq (d : Fin 2048) : C.ktm d = 1 - C.m d := by
  rw [Col.ktm, btm, Col.m]
  by_cases hc : 0 ≤ C.c d ∧ C.c d ≤ c15
  · rw [if_pos ((bq_iff C hne d).2 hc), if_pos hc]
    rw [← EReal.coe_one, ← EReal.coe_sub, sub_self, EReal.coe_zero]
  · rw [if_neg (fun e => hc ((bq_iff C hne d).1 e)), if_neg hc, sub_zero]
theorem kcode_eq (d : Fin 2048) : C.kcode d = C.code d := by
  rw [Col.kcode, bcode, bq_eq C hne, Col.code]
  obtain ⟨n, hn⟩ := q_nat C d
  rw [hn, mag_eq, ← EReal.coe_add, ← EReal.coe_sub, add_sub_cancel_right,
    fptosi_nat _ _ (by have := n.isLt; omega), fptosi_nat _ _ (by have := n.isLt; omega)]
  clear hn
  revert n; decide
theorem kacc_eq (s : Fin 256) : C.kacc s = C.acc s := by
  simp only [Col.kacc, Col.acc, kwhat_eq C hne]
theorem kE_eq (s : Fin 256) : C.kE s = C.E s := by
  rw [Col.kE, kacc_eq C hne, Col.E]
theorem kG_eq (d : Fin 2048) : C.kG d * kap = C.G d := by
  simp only [Col.kG, Col.G, kE_eq C hne, mul_comm]
theorem kSc_eq (g : Fin 16) : C.kSc g = C.Sc g := by
  rw [Col.kSc]
  simp only [Col.kscp]
  rw [tree_sum (fun d => C.kG d * C.ktm d) g, ← sum_mul_kap, Col.Sc]
  refine Finset.sum_congr rfl fun k _ => ?_
  rw [mul_right_comm, kG_eq C hne, ktm_eq C hne]
theorem kSh_eq (g : Fin 16) : C.kSh g = C.Sh g := by
  rw [Col.kSh]
  simp only [Col.kshp]
  rw [tree_sum (fun d => C.kG d * C.ktp d) g, ← sum_mul_kap, Col.Sh, kSc_eq C hne, kloh_eq C hne]
  refine congrArg (· - _) (Finset.sum_congr rfl fun k _ => ?_)
  rw [mul_right_comm, kG_eq C hne, ktp_eq C hne]
theorem kdg_eq (g : Fin 16) : C.kdg g = C.dg g := by
  rw [Col.kdg, Col.dg, kSh_eq C hne, div15]
  ac_rfl
theorem kdb_eq (g : Fin 16) : C.kdb g = C.db g := by
  rw [Col.kdb, Col.db, kSh_eq C hne, kSc_eq C hne, div15]

end Step

end LWC
end
-- ==== Proof.KVoc.lean ====
/- The buffers of one step of the tiled kernel, as functions of their coordinates, and what each store puts into them. -/
module
public import proofs.«01_k».proof.Proof.Spec
public import proofs.«01_k».proof.Proof.Gen.KernelIdeal.Skeleton
public import Idealize.ShloMosaic.Lib.Pointwise
public import Idealize.ShloMosaic.Lib.Pipeline.ValueKit
@[expose] public section
set_option maxRecDepth 16384
noncomputable section
namespace Cert.KernelIdeal.LW
open Cert.KernelIdeal Cert.KernelIdeal.Gen Idealize.ShloMosaic Idealize.ShloMosaic.TcCoe Idealize.SL.Sem
open LWC

/-- Row `r` of the `l`-th half of a tile. -/
def lr (l : Fin 2) (r : Fin 128) : Fin 256 := ⟨l.val * 128 + r.val, by omega⟩
def l2 (n : ℕ) (h : n < 2) : Fin 2 := ⟨n, h⟩
def g16 (n : ℕ) (h : n < 16) : Fin 16 := ⟨n, h⟩

theorem lr0' (r : ℕ) (h : r < 128) : lr 0 ⟨r, h⟩ = ⟨r, by omega⟩ := Fin.ext (by simp [lr])
theorem lr1' (r : ℕ) (h : r < 128) : lr 1 ⟨r, h⟩ = ⟨128 + r, by omega⟩ := Fin.ext (by simp [lr])

variable (Cr : Fin 256 → Col)

def Bwt : Vec Ideal S2x2048x128 .f32 := fun j => (Cr (lr (j 0) (j 2))).w (j 1)
def Bmx : Vec Ideal S2x128x128 .f32 := fun j => (Cr (lr (j 0) (j 2))).mxp (j 1)
def Bmn : Vec Ideal S2x128x128 .f32 := fun j => (Cr (lr (j 0) (j 2))).mnp (j 1)
def Bh : Vec Ideal S16x256 .f32 := fun j => (Cr (j 1)).kh (j 0)
def Bz : Vec Ideal S16x256 .f32 := fun j => (Cr (j 1)).kz (j 0)
def Bdg : Vec Ideal S16x256 .f32 := fun j => (Cr (j 1)).kdg (j 0)
def Bdb : Vec Ideal S16x256 .f32 := fun j => (Cr (j 1)).kdb (j 0)
def Brh : Vec Ideal S2x16x128 .f32 := fun j => (Cr (lr (j 0) (j 2))).krh (j 1)
def Bmz : Vec Ideal S2x16x128 .f32 := fun j => (Cr (lr (j 0) (j 2))).kmz (j 1)
def Bwhat : Vec Ideal S2048x256 .bf16 := fun j => (Cr (j 1)).kwhat (j 0)
def tpf (q : Fin 4) (r : Fin 128) (d : Fin 2048) : EReal :=
  if q.val < 2 then (Cr (lr ⟨q.val % 2, Nat.mod_lt _ (by decide)⟩ r)).ktp d
  else (Cr (lr ⟨q.val % 2, Nat.mod_lt _ (by decide)⟩ r)).ktm d
def Btp : Vec Ideal S4x2048x128 .f32 := fun j => tpf Cr (j 0) (j 2) (j 1)
def Bshp : Vec Ideal S2x128x128 .f32 := fun j => (Cr (lr (j 0) (j 2))).kshp (j 1)
def Bscp : Vec Ideal S2x128x128 .f32 := fun j => (Cr (lr (j 0) (j 2))).kscp (j 1)
def Bcode : Vec Ideal S256x2048 .i8 := fun j => (Cr (j 0)).kcode (j 1)

/-! ### Rectangles at an index -/

theorem exi3 {n0 n1 n2 : ℕ} (x : (⟨3, ![n0, n1, n2]⟩ : Shape).Idx) : ∃ (a : Fin n0) (b : Fin n1) (c : Fin n2), x = ix3 a b c :=
  ⟨x 0, x 1, x 2, by funext i; fin_cases i <;> rfl⟩
theorem exi2 {n0 n1 : ℕ} (x : (⟨2, ![n0, n1]⟩ : Shape).Idx) : ∃ (a : Fin n0) (b : Fin n1), x = ix2 a b :=
  ⟨x 0, x 1, by funext i; fin_cases i <;> rfl⟩

section Pieces
variable {B : Vec Ideal S128x128 .f32} (l : Fin 2) (g : Fin 16)

theorem wt_piece (hB : ∀ a b, B (ix2 a b) = (Cr (lr l a)).w (gk g b)) (inb) (x) :
    k0_pay11 B x = Bwt Cr ((Rect.unit (s := S2x2048x128) ![l.val, g.val * 128, 0] S1x128x128.size inb).emb x) := by
  obtain ⟨a, b, c, rfl⟩ := exi3 x
  pointwise [k0_pay11, k0_pay10]
  rw [hB]
  refine congr_arg₂ (fun r d => (Cr r).w d) ?_ ?_ <;> apply Fin.ext <;> simp [lr, gk, Rect.emb, Rect.unit, LoadRect.idx]
theorem mx_piece (hB : ∀ a b, B (ix2 a b) = (Cr (lr l a)).w (gk g b)) (inb) (x) :
    k0_pay13 B x = Bmx Cr ((Rect.unit (s := S2x128x128) ![l.val, g.val * 8, 0] S1x8x128.size inb).emb x) := by
  obtain ⟨a, b, c, rfl⟩ := exi3 x
  pointwise [k0_pay13, k0_pay12, k0_pay10]
  simp only [hB, ← pd_pj]
  refine congr_arg₂ (fun r d => (Cr r).mxp d) ?_ ?_ <;> apply Fin.ext <;> simp [lr, pj, Rect.emb, Rect.unit, LoadRect.idx]
theorem mn_piece (hB : ∀ a b, B (ix2 a b) = (Cr (lr l a)).w (gk g b)) (inb) (x) :
    k0_pay14 B x = Bmn Cr ((Rect.unit (s := S2x128x128) ![l.val, g.val * 8, 0] S1x8x128.size inb).emb x) := by
  obtain ⟨a, b, c, rfl⟩ := exi3 x
  pointwise [k0_pay14, k0_pay12, k0_pay10]
  simp only [hB, ← pd_pj]
  refine congr_arg₂ (fun r d => (Cr r).mnp d) ?_ ?_ <;> apply Fin.ext <;> simp [lr, pj, Rect.emb, Rect.unit, LoadRect.idx]

section Quant
variable {RH MZ : Vec Ideal S1x1x128 .f32} {H : Vec Ideal S1x128 .f32} {W : Vec Ideal S1x128x128 .f32}
  (hRH : ∀ r, RH (ix3 0 0 r) = (Cr (lr l r)).krh g) (hMZ : ∀ r, MZ (ix3 0 0 r) = (Cr (lr l r)).kmz g)
  (hH : ∀ r, H (ix2 0 r) = (Cr (lr l r)).kh g) (hW : ∀ d r, W (ix3 0 d r) = (Cr (lr l r)).w (gk g d))
include hRH hW
theorem u_at (d r) : k0_pay551 (F := Ideal) (k0_pay549 RH) W (ix2 d r) = bu ((Cr (lr l r)).w (gk g d)) ((Cr (lr l r)).krh g) := by
  pointwise [k0_pay551, k0_pay549]
  rw [hW, hRH]; rfl
include hMZ
theorem c_at (d r) : k0_pay552 (F := Ideal) (k0_pay549 RH) (k0_pay550 MZ) W (ix2 d r)
    = bc ((Cr (lr l r)).w (gk g d)) ((Cr (lr l r)).krh g) ((Cr (lr l r)).kmz g) := by
  pointwise [k0_pay552, k0_pay550]
  rw [u_at Cr l g hRH hW, hMZ]; rfl
theorem q_at (d r) : k0_pay553 (F := Ideal) (k0_pay549 RH) (k0_pay550 MZ) W (ix2 d r)
    = bq ((Cr (lr l r)).w (gk g d)) ((Cr (lr l r)).krh g) ((Cr (lr l r)).kmz g) := by
  pointwise [k0_pay553]
  rw [c_at Cr l g hRH hMZ hW]; rfl
theorem qz_at (d r) : k0_pay554 (F := Ideal) (k0_pay549 RH) (k0_pay550 MZ) W (ix2 d r)
    = bqz ((Cr (lr l r)).w (gk g d)) ((Cr (lr l r)).krh g) ((Cr (lr l r)).kmz g) := by
  have hm : ∀ r, k0_pay550 (F := Ideal) MZ (ix2 0 r) = MZ (ix3 0 0 r) := fun r => by pointwise [k0_pay550]
  pointwise [k0_pay554]
  rw [q_at Cr l g hRH hMZ hW, hm, hMZ]; rfl
include hH in
theorem what_piece (inb) (x) : k0_pay555 (F := Ideal) (k0_pay549 RH) (k0_pay550 MZ) H W x
    = Bwhat Cr ((Rect.unit (s := S2048x256) ![g.val * 128, l.val * 128] S128x128.size inb).emb x) := by
  obtain ⟨d, r, rfl⟩ := exi2 x
  pointwise [k0_pay555]
  rw [qz_at Cr l g hRH hMZ hW, hH]
  trans (Cr (lr l r)).kwhat (gk g d)
  · rw [Col.kwhat, gd_gk]
  refine congr_arg₂ (fun r d => (Cr r).kwhat d) ?_ ?_ <;> apply Fin.ext <;> simp [lr, gk, Rect.emb, Rect.unit, LoadRect.idx]
theorem tp_piece (q : Fin 4) (hq : q.val = l.val) (inb) (x) : k0_pay556 (F := Ideal) (k0_pay549 RH) (k0_pay550 MZ) W x
    = Btp Cr ((Rect.unit (s := S4x2048x128) ![q.val, g.val * 128, 0] S1x128x128.size inb).emb x) := by
  obtain ⟨a, d, r, rfl⟩ := exi3 x
  pointwise [k0_pay556]
  rw [qz_at Cr l g hRH hMZ hW, q_at Cr l g hRH hMZ hW, c_at Cr l g hRH hMZ hW, u_at Cr l g hRH hW]
  trans (Cr (lr l r)).ktp (gk g d)
  · rw [Col.ktp, gd_gk, btp]
  trans tpf Cr q r (gk g d)
  · rw [tpf, if_pos (by omega)]
    congr 3; apply Fin.ext; simp; omega
  refine congr (congr_arg₂ (fun q r d => tpf Cr q r d) ?_ ?_) ?_ <;> apply Fin.ext <;> simp [gk, Rect.emb, Rect.unit, LoadRect.idx]
theorem tm_piece (q : Fin 4) (hq : q.val = l.val + 2) (inb) (x) : k0_pay557 (F := Ideal) (k0_pay549 RH) (k0_pay550 MZ) W x
    = Btp Cr ((Rect.unit (s := S4x2048x128) ![q.val, g.val * 128, 0] S1x128x128.size inb).emb x) := by
  obtain ⟨a, d, r, rfl⟩ := exi3 x
  pointwise [k0_pay557]
  rw [q_at Cr l g hRH hMZ hW, c_at Cr l g hRH hMZ hW]
  trans (Cr (lr l r)).ktm (gk g d)
  · rw [Col.ktm, gd_gk, btm]
  trans tpf Cr q r (gk g d)
  · rw [tpf, if_neg (by omega)]
    congr 3; apply Fin.ext; simp; omega
  refine congr (congr_arg₂ (fun q r d => tpf Cr q r d) ?_ ?_) ?_ <;> apply Fin.ext <;> simp [gk, Rect.emb, Rect.unit, LoadRect.idx]
theorem code_piece (inb) (x) : k0_pay559 (k0_pay558 (F := Ideal) (k0_pay549 RH) (k0_pay550 MZ) W) x
    = Bcode Cr ((Rect.unit (s := S256x2048) ![l.val * 128, g.val * 128] S128x128.size inb).emb x) := by
  obtain ⟨r, d, rfl⟩ := exi2 x
  pointwise [k0_pay559, k0_pay558]
  rw [q_at Cr l g hRH hMZ hW]
  trans (Cr (lr l r)).kcode (gk g d)
  · rw [Col.kcode, gd_gk]
    rfl
  refine congr_arg₂ (fun r d => (Cr r).kcode d) ?_ ?_ <;> apply Fin.ext <;> simp [lr, gk, Rect.emb, Rect.unit, LoadRect.idx]
end Quant

section Dot
variable {V : Vec Ideal S256x2048 .bf16} {Wh : Vec Ideal S2048x256 .bf16} {XS : Vec Ideal S256x128 .f32}
  {Y0 Y1 : Vec Ideal S256x128 .bf16}
  (hV : ∀ s d r, V (ix2 s d) = (Cr r).X s d) (hWh : ∀ d r, Wh (ix2 d r) = (Cr r).kwhat d)
  (hXS : ∀ s a r, XS (ix2 s a) = (Cr r).xs s)
  (hY0 : ∀ s r, Y0 (ix2 s r) = (Cr (lr 0 r)).y s) (hY1 : ∀ s r, Y1 (ix2 s r) = (Cr (lr 1 r)).y s)
include hV hWh

theorem acc_at (s : Fin 256) (r : Fin 256) : k0_pay560 (F := Ideal) V Wh (ix2 s r) = (Cr r).kacc s := by
  pointwise [k0_pay560]
  simp only [hV s _ r, hWh]
  rfl
include hXS
include hY0 in
theorem e0_at (s : Fin 256) (r : Fin 128) : k0_pay561 (F := Ideal) V Wh XS Y0 (ix2 s r) = (Cr (lr 0 r)).kE s := by
  pointwise [k0_pay561]
  rw [← lr0' r.val r.isLt, acc_at Cr hV hWh, hXS s _ (lr 0 r), hY0]
  rfl
include hY1 in
theorem e1_at (s : Fin 256) (r : Fin 128) : k0_pay564 (F := Ideal) V Wh XS Y1 (ix2 s r) = (Cr (lr 1 r)).kE s := by
  pointwise [k0_pay564]
  rw [← lr1' r.val r.isLt, acc_at Cr hV hWh, hXS s _ (lr 1 r), hY1]
  rfl
include hY0 in
theorem l0_at {P : Vec Ideal S8x128 .f32} (p : Fin 8) (r : Fin 128) : k0_pay562 (F := Ideal) V Wh XS Y0 P (ix2 p r)
    = P (ix2 p r) + ∑ a : Fin 32, (Cr (lr 0 r)).kE ⟨a.val * 8 + p.val, by omega⟩ * (Cr (lr 0 r)).kE ⟨a.val * 8 + p.val, by omega⟩ := by
  pointwise [k0_pay562]
  simp only [e0_at Cr hV hWh hXS hY0]
  try rfl
include hY1 in
theorem l1_at {P : Vec Ideal S8x128 .f32} (p : Fin 8) (r : Fin 128) : k0_pay566 (F := Ideal) P (k0_pay565 V Wh XS Y1) (ix2 p r)
    = P (ix2 p r) + ∑ a : Fin 32, (Cr (lr 1 r)).kE ⟨a.val * 8 + p.val, by omega⟩ * (Cr (lr 1 r)).kE ⟨a.val * 8 + p.val, by omega⟩ := by
  pointwise [k0_pay566, k0_pay565]
  simp only [e1_at Cr hV hWh hXS hY1]
  try rfl

include hY0 hY1 in
theorem es_at (s : Fin 256) (r : Fin 256) :
    k0_pay567 (F := Ideal) (k0_pay563 V Wh XS Y0 XS) (k0_pay564 V Wh XS Y1) XS (ix2 s r) = (Cr r).kE s * (Cr r).xs s := by
  have h0 : ∀ r, k0_pay563 (F := Ideal) V Wh XS Y0 XS (ix2 s r) = (Cr (lr 0 r)).kE s * (Cr (lr 0 r)).xs s := fun r => by
    pointwise [k0_pay563]
    rw [e0_at Cr hV hWh hXS hY0, hXS s _ (lr 0 r)]
  pointwise [k0_pay567]
  split
  · rename_i h
    rw [h0, lr0' _ h]
  · rename_i h
    rw [e1_at Cr hV hWh hXS hY1, hXS s _ (lr 1 ⟨r.val - 128, by omega⟩), show lr 1 ⟨r.val - 128, by omega⟩ = r from by
      apply Fin.ext; simp only [lr]; simp; omega]
end Dot

section Fold
variable {ES : Vec Ideal S256x256 .bf16} {XT : Vec Ideal S128x256 .bf16} {T : Vec Ideal S1x128x128 .f32}
  (hES : ∀ s r, ES (ix2 s r) = (Cr r).kE s * (Cr r).xs s)
  (hXT : ∀ k s r, XT (ix2 k s) = (Cr r).X s (gk g k))
include hES hXT
theorem gt_at (k : Fin 128) (r : Fin 256) : k0_pay576 (F := Ideal) ES XT (ix2 k r) = (Cr r).kG (gk g k) := by
  pointwise [k0_pay576]
  simp only [hES, hXT _ _ r]
  rfl

theorem shp_piece0 (hT : ∀ d r, T (ix3 0 d r) = (Cr (lr 0 r)).ktp (gk g d)) (inb) (x) :
    k0_pay575 (F := Ideal) (extractStridedSlice S128x128 ![0, 0] (k0_pay576 ES XT) slices_S128x256_o0_0_S128x128) T x
    = Bshp Cr ((Rect.unit (s := S2x128x128) ![0, g.val * 8, 0] S1x8x128.size inb).emb x) := by
  obtain ⟨a, b, c, rfl⟩ := exi3 x
  pointwise [k0_pay575]
  simp only [hT, gt_at Cr g hES hXT, ← lr0' c.val c.isLt]
  trans (Cr (lr 0 c)).kshp (pj g b)
  · simp only [Col.kshp, pd_pj]
  refine congr_arg₂ (fun r d => (Cr r).kshp d) ?_ ?_ <;> apply Fin.ext <;> simp [lr, pj, Rect.emb, Rect.unit, LoadRect.idx]

theorem shp_piece1 (hT : ∀ d r, T (ix3 0 d r) = (Cr (lr 1 r)).ktp (gk g d)) (inb) (x) :
    k0_pay575 (F := Ideal) (extractStridedSlice S128x128 ![0, 128] (k0_pay576 ES XT) slices_S128x256_o0_128_S128x128) T x
    = Bshp Cr ((Rect.unit (s := S2x128x128) ![1, g.val * 8, 0] S1x8x128.size inb).emb x) := by
  obtain ⟨a, b, c, rfl⟩ := exi3 x
  pointwise [k0_pay575]
  simp only [hT, gt_at Cr g hES hXT, ← lr1' c.val c.isLt]
  trans (Cr (lr 1 c)).kshp (pj g b)
  · simp only [Col.kshp, pd_pj]
  refine congr_arg₂ (fun r d => (Cr r).kshp d) ?_ ?_ <;> apply Fin.ext <;> simp [lr, pj, Rect.emb, Rect.unit, LoadRect.idx]

theorem scp_piece0 (hT : ∀ d r, T (ix3 0 d r) = (Cr (lr 0 r)).ktm (gk g d)) (inb) (x) :
    k0_pay575 (F := Ideal) (extractStridedSlice S128x128 ![0, 0] (k0_pay576 ES XT) slices_S128x256_o0_0_S128x128) T x
    = Bscp Cr ((Rect.unit (s := S2x128x128) ![0, g.val * 8, 0] S1x8x128.size inb).emb x) := by
  obtain ⟨a, b, c, rfl⟩ := exi3 x
  pointwise [k0_pay575]
  simp only [hT, gt_at Cr g hES hXT, ← lr0' c.val c.isLt]
  trans (Cr (lr 0 c)).kscp (pj g b)
  · simp only [Col.kscp, pd_pj]
  refine congr_arg₂ (fun r d => (Cr r).kscp d) ?_ ?_ <;> apply Fin.ext <;> simp [lr, pj, Rect.emb, Rect.unit, LoadRect.idx]

theorem scp_piece1 (hT : ∀ d r, T (ix3 0 d r) = (Cr (lr 1 r)).ktm (gk g d)) (inb) (x) :
    k0_pay575 (F := Ideal) (extractStridedSlice S128x128 ![0, 128] (k0_pay576 ES XT) slices_S128x256_o0_128_S128x128) T x
    = Bscp Cr ((Rect.unit (s := S2x128x128) ![1, g.val * 8, 0] S1x8x128.size inb).emb x) := by
  obtain ⟨a, b, c, rfl⟩ := exi3 x
  pointwise [k0_pay575]
  simp only [hT, gt_at Cr g hES hXT, ← lr1' c.val c.isLt]
  trans (Cr (lr 1 c)).kscp (pj g b)
  · simp only [Col.kscp, pd_pj]
  refine congr_arg₂ (fun r d => (Cr r).kscp d) ?_ ?_ <;> apply Fin.ext <;> simp [lr, pj, Rect.emb, Rect.unit, LoadRect.idx]
end Fold

/-! ### The statistics of a column -/

def sc1 (V : Vec Ideal S1x16x128 .f32) : FVec Ideal S16x128 .f32 := shapeCast S16x128 V shapeCasts_S1x16x128_S16x128
def fmx (M : Fin 8 → Vec Ideal S1x16x128 .f32) : FVec Ideal S16x128 .f32 :=
  maximumf (maximumf (maximumf (sc1 (M 0)) (sc1 (M 1))) (maximumf (sc1 (M 2)) (sc1 (M 3))))
    (maximumf (maximumf (sc1 (M 4)) (sc1 (M 5))) (maximumf (sc1 (M 6)) (sc1 (M 7))))
def fmn (M : Fin 8 → Vec Ideal S1x16x128 .f32) : FVec Ideal S16x128 .f32 :=
  minimumf (minimumf (minimumf (sc1 (M 0)) (sc1 (M 1))) (minimumf (sc1 (M 2)) (sc1 (M 3))))
    (minimumf (minimumf (sc1 (M 4)) (sc1 (M 5))) (minimumf (sc1 (M 6)) (sc1 (M 7))))
def sc2 (V : Vec Ideal S16x128 .f32) : FVec Ideal S16x128 .f32 := shapeCast S16x128 V shapeCasts_S16x128_S16x128
def f0 : Ideal .f32 := Scalar.ofBits .f32 0x00000000#32

theorem inv15 : Named.named (F := Ideal) (φ := .f32) κ "inv_15" 0x3D888889#32 = i15 :=
  IdealRules.named_const.ideal_named_scalar _ _ _ _ rfl

section Stats
variable {M N S K : Fin 8 → Vec Ideal S1x16x128 .f32} {GA BE : Vec Ideal S16x128 .f32}
  (hM : ∀ j g r, M j (ix3 0 g r) = (Cr (lr l r)).mxp (pj g j))
  (hN : ∀ j g r, N j (ix3 0 g r) = (Cr (lr l r)).mnp (pj g j))
  (hGA : ∀ g r, GA (ix2 g r) = (Cr (lr l r)).ga g) (hBE : ∀ g r, BE (ix2 g r) = (Cr (lr l r)).be g)
  (hS : ∀ j g r, S j (ix3 0 g r) = (Cr (lr l r)).kshp (pj g j))
  (hK : ∀ j g r, K j (ix3 0 g r) = (Cr (lr l r)).kscp (pj g j))

include hM in
theorem fmx_at (g r) : fmx M (ix2 g r) = (Cr (lr l r)).wmax g := by
  pointwise [fmx, sc1]
  simp only [hM]
  exact tree_max _ g
include hN in
theorem fmn_at (g r) : fmn N (ix2 g r) = (Cr (lr l r)).wmin g := by
  pointwise [fmn, sc1]
  simp only [hN]
  exact tree_min _ g
include hGA in
theorem sg_at (g r) : k0_pay208 (F := Ideal) GA (ix2 g r) = sgm ((Cr (lr l r)).ga g) := by
  pointwise [k0_pay208]
  rw [hGA]; rfl
include hBE in
theorem sb_at (g r) : k0_pay191 (F := Ideal) (sc2 BE) f0 (ix2 g r) = sgm ((Cr (lr l r)).be g) := by
  pointwise [k0_pay191, sc2, f0]
  rw [hBE]; rfl
include hBE hN in
theorem lo_at (g r) : k0_pay192 (F := Ideal) (fmn N) (sc2 BE) f0 (ix2 g r) = (Cr (lr l r)).lo g := by
  pointwise [k0_pay192]
  rw [fmn_at Cr l hN, sb_at Cr l hBE]; rfl
include hM hN hGA hBE
theorem h_at (g r) : k0_pay193 (F := Ideal) (fmx M) (fmn N) (k0_pay208 GA) (sc2 BE) f0 (ix2 g r) = (Cr (lr l r)).kh g := by
  pointwise [k0_pay193]
  rw [lo_at Cr l hN hBE, fmx_at Cr l hM, sg_at Cr l hGA, inv15]; rfl
theorem rh_at (g r) : k0_pay194 (F := Ideal) (fmx M) (fmn N) (k0_pay208 GA) (sc2 BE) f0 (ix2 g r) = (Cr (lr l r)).krh g := by
  pointwise [k0_pay194]
  rw [h_at Cr l hM hN hGA hBE]; rfl
theorem loh_at (g r) : k0_pay195 (F := Ideal) (fmx M) (fmn N) (k0_pay208 GA) (sc2 BE) f0 (ix2 g r) = (Cr (lr l r)).kloh g := by
  pointwise [k0_pay195]
  rw [lo_at Cr l hN hBE, rh_at Cr l hM hN hGA hBE]; rfl
theorem z_at (g r) : k0_pay196 (F := Ideal) (fmx M) (fmn N) (k0_pay208 GA) (sc2 BE) f0 (ix2 g r) = (Cr (lr l r)).kz g := by
  pointwise [k0_pay196]
  rw [loh_at Cr l hM hN hGA hBE]; rfl

theorem h_piece (inb) (x) : k0_pay193 (F := Ideal) (fmx M) (fmn N) (k0_pay208 GA) (sc2 BE) f0 x
    = Bh Cr ((Rect.unit (s := S16x256) ![0, l.val * 128] S16x128.size inb).emb x) := by
  obtain ⟨g, r, rfl⟩ := exi2 x
  rw [h_at Cr l hM hN hGA hBE]
  refine congr_arg₂ (fun r d => (Cr r).kh d) ?_ ?_ <;> apply Fin.ext <;> simp [lr, Rect.emb, Rect.unit, LoadRect.idx]
theorem z_piece (inb) (x) : k0_pay196 (F := Ideal) (fmx M) (fmn N) (k0_pay208 GA) (sc2 BE) f0 x
    = Bz Cr ((Rect.unit (s := S16x256) ![0, l.val * 128] S16x128.size inb).emb x) := by
  obtain ⟨g, r, rfl⟩ := exi2 x
  rw [z_at Cr l hM hN hGA hBE]
  refine congr_arg₂ (fun r d => (Cr r).kz d) ?_ ?_ <;> apply Fin.ext <;> simp [lr, Rect.emb, Rect.unit, LoadRect.idx]
theorem rh_piece (inb) (x) : k0_pay197 (F := Ideal) (fmx M) (fmn N) (k0_pay208 GA) (sc2 BE) f0 x
    = Brh Cr ((Rect.unit (s := S2x16x128) ![l.val, 0, 0] S1x16x128.size inb).emb x) := by
  obtain ⟨a, g, r, rfl⟩ := exi3 x
  pointwise [k0_pay197]
  rw [rh_at Cr l hM hN hGA hBE]
  refine congr_arg₂ (fun r d => (Cr r).krh d) ?_ ?_ <;> apply Fin.ext <;> simp [lr, Rect.emb, Rect.unit, LoadRect.idx]
theorem mz_piece (inb) (x) : k0_pay198 (F := Ideal) (fmx M) (fmn N) (k0_pay208 GA) (sc2 BE) f0 x
    = Bmz Cr ((Rect.unit (s := S2x16x128) ![l.val, 0, 0] S1x16x128.size inb).emb x) := by
  obtain ⟨a, g, r, rfl⟩ := exi3 x
  pointwise [k0_pay198]
  rw [z_at Cr l hM hN hGA hBE]
  trans (Cr (lr l r)).kmz g
  · rfl
  refine congr_arg₂ (fun r d => (Cr r).kmz d) ?_ ?_ <;> apply Fin.ext <;> simp [lr, Rect.emb, Rect.unit, LoadRect.idx]

omit hM hN hGA hBE in
include hK in
theorem sc_at (g r) : k0_pay692 (F := Ideal) (K 0) (K 1) (K 2) (K 3) (K 4) (K 5) (K 6) (K 7) (ix2 g r) = (Cr (lr l r)).kSc g := by
  pointwise [k0_pay692]
  simp only [hK]
  rfl
include hK hS
theorem sh15_at (g r) : k0_pay693 (F := Ideal) (k0_pay195 (fmx M) (fmn N) (k0_pay208 GA) (sc2 BE) f0)
    (k0_pay692 (K 0) (K 1) (K 2) (K 3) (K 4) (K 5) (K 6) (K 7)) (S 0) (S 1) (S 2) (S 3) (S 4) (S 5) (S 6) (S 7) (ix2 g r)
    = (Cr (lr l r)).kSh g * i15 := by
  pointwise [k0_pay693]
  rw [loh_at Cr l hM hN hGA hBE, sc_at Cr l hK, inv15]
  simp only [hS]
  rfl
theorem dg_piece (inb) (x) : k0_pay695 (F := Ideal) (fmx M) (k0_pay694 (k0_pay208 GA) (k0_pay195 (fmx M) (fmn N) (k0_pay208 GA) (sc2 BE) f0)
    (k0_pay692 (K 0) (K 1) (K 2) (K 3) (K 4) (K 5) (K 6) (K 7)) (S 0) (S 1) (S 2) (S 3) (S 4) (S 5) (S 6) (S 7)) x
    = Bdg Cr ((Rect.unit (s := S16x256) ![0, l.val * 128] S16x128.size inb).emb x) := by
  obtain ⟨g, r, rfl⟩ := exi2 x
  pointwise [k0_pay695, k0_pay694]
  rw [sh15_at Cr l hM hN hGA hBE hS hK, sg_at Cr l hGA, fmx_at Cr l hM]
  trans (Cr (lr l r)).kdg g
  · rfl
  refine congr_arg₂ (fun r d => (Cr r).kdg d) ?_ ?_ <;> apply Fin.ext <;> simp [lr, Rect.emb, Rect.unit, LoadRect.idx]
theorem db_piece (inb) (x) : k0_pay696 (F := Ideal) (fmn N) (k0_pay191 (sc2 BE) f0) (k0_pay692 (K 0) (K 1) (K 2) (K 3) (K 4) (K 5) (K 6) (K 7))
    (k0_pay693 (k0_pay195 (fmx M) (fmn N) (k0_pay208 GA) (sc2 BE) f0)
      (k0_pay692 (K 0) (K 1) (K 2) (K 3) (K 4) (K 5) (K 6) (K 7)) (S 0) (S 1) (S 2) (S 3) (S 4) (S 5) (S 6) (S 7)) x
    = Bdb Cr ((Rect.unit (s := S16x256) ![0, l.val * 128] S16x128.size inb).emb x) := by
  obtain ⟨g, r, rfl⟩ := exi2 x
  pointwise [k0_pay696]
  rw [sh15_at Cr l hM hN hGA hBE hS hK, sb_at Cr l hBE, fmn_at Cr l hN, sc_at Cr l hK]
  trans (Cr (lr l r)).kdb g
  · rfl
  refine congr_arg₂ (fun r d => (Cr r).kdb d) ?_ ?_ <;> apply Fin.ext <;> simp [lr, Rect.emb, Rect.unit, LoadRect.idx]
end Stats
end Pieces
end Cert.KernelIdeal.LW
-- ==== Proof.KRead.lean ====
/- Reading a buffer whose contents are known. -/
module
public import proofs.«01_k».proof.Proof.KVoc
public import Idealize.ShloMosaic.Lib.Ring
@[expose] public section
set_option maxRecDepth 16384
noncomputable section
namespace Cert.KernelIdeal.LW
open Cert.KernelIdeal Cert.KernelIdeal.Gen Idealize.ShloMosaic Idealize.ShloMosaic.TcCoe Idealize.SL.Sem
open LWC

/-- One more piece that agrees with `G`. -/
theorem pc {S : Shape} {e : EltTy} {G : S.Idx → Elt Ideal e} {r : Rect S} {w : r.shape.Idx → Elt Ideal e}
    {L : List (View.Piece (Elt Ideal) S e)} (h : ∀ x, w x = G (r.emb x))
    (t : ∀ p ∈ L, ∀ x, p.2 x = G (p.1.emb x)) :
    ∀ p ∈ ((⟨r, w⟩ : View.Piece (Elt Ideal) S e) :: L), ∀ x, p.2 x = G (p.1.emb x) := List.forall_mem_cons.2 ⟨h, t⟩
theorem pn {S : Shape} {e : EltTy} {G : S.Idx → Elt Ideal e} :
    ∀ p ∈ ([] : List (View.Piece (Elt Ideal) S e)), ∀ x, p.2 x = G (p.1.emb x) := by simp

theorem cn {S : Shape} {e : EltTy} {G : S.Idx → Elt Ideal e} {L : List (View.Piece (Elt Ideal) S e)}
    (hL : ∀ p ∈ L, ∀ x, p.2 x = G (p.1.emb x)) (size : Fin S.rank → ℕ) (ht : View.Piece.tiledL L size = true) :
    View.canon L = G :=
  funext fun y => View.canon_apply_of_pieces G L hL y (View.cover_of_tiledL L size ht y)

/-- A load of a whole buffer's contents. -/
theorem ra {S : Shape} {e : EltTy} {κ : Kind} {sp : Space} {M : Memref sig κ sp S e} (h : M.IsWhole)
    (X : Vec Ideal S e) (r : Rect S) (x) :
    View.readAt (Elt Ideal) M.view r.toLoadRect (h.unread X) x = X (r.toLoadRect.idx x) := by
  rw [View.readAt_eq_ld, h.read_unread]

variable {Cr : Fin 256 → Col}

section
variable {sg : RefSig} {κ : Kind} {sp : Space}

theorem rd_wt {v : View sg κ sp S2x2048x128 .f32} {L} (hL : View.canon L = Bwt Cr) (l : Fin 2) (g : Fin 16) (inb) (d r) :
    v.readCov L (Rect.unit (s := S2x2048x128) ![l.val, g.val * 128, 0] S1x128x128.size inb).toLoadRect (ix3 0 d r)
      = (Cr (lr l r)).w (gk g d) := by
  rw [View.readCov_eq_canon', hL]
  refine congr_arg₂ (fun r d => (Cr r).w d) ?_ ?_ <;> apply Fin.ext <;> simp [lr, gk, Rect.unit, LoadRect.idx]
theorem rd_tp {v : View sg κ sp S4x2048x128 .f32} {L} (hL : View.canon L = Btp Cr) (l : Fin 2) (q : Fin 4) (hq : q.val = l.val)
    (g : Fin 16) (inb) (d r) :
    v.readCov L (Rect.unit (s := S4x2048x128) ![q.val, g.val * 128, 0] S1x128x128.size inb).toLoadRect (ix3 0 d r)
      = (Cr (lr l r)).ktp (gk g d) := by
  rw [View.readCov_eq_canon', hL]
  trans tpf Cr q r (gk g d)
  · refine congr (congr_arg₂ (fun q r d => tpf Cr q r d) ?_ ?_) ?_ <;> apply Fin.ext <;> simp [gk, Rect.unit, LoadRect.idx]
  · rw [tpf, if_pos (by omega)]
    congr 3; apply Fin.ext; simp; omega
theorem rd_tm {v : View sg κ sp S4x2048x128 .f32} {L} (hL : View.canon L = Btp Cr) (l : Fin 2) (q : Fin 4) (hq : q.val = l.val + 2)
    (g : Fin 16) (inb) (d r) :
    v.readCov L (Rect.unit (s := S4x2048x128) ![q.val, g.val * 128, 0] S1x128x128.size inb).toLoadRect (ix3 0 d r)
      = (Cr (lr l r)).ktm (gk g d) := by
  rw [View.readCov_eq_canon', hL]
  trans tpf Cr q r (gk g d)
  · refine congr (congr_arg₂ (fun q r d => tpf Cr q r d) ?_ ?_) ?_ <;> apply Fin.ext <;> simp [gk, Rect.unit, LoadRect.idx]
  · rw [tpf, if_neg (by omega)]
    congr 3; apply Fin.ext; simp; omega
theorem rd_rh {v : View sg κ sp S2x16x128 .f32} {L} (hL : View.canon L = Brh Cr) (l : Fin 2) (g : Fin 16) (inb) (r) :
    v.readCov L (Rect.unit (s := S2x16x128) ![l.val, g.val, 0] S1x1x128.size inb).toLoadRect (ix3 0 0 r)
      = (Cr (lr l r)).krh g := by
  rw [View.readCov_eq_canon', hL]
  refine congr_arg₂ (fun r d => (Cr r).krh d) ?_ ?_ <;> apply Fin.ext <;> simp [lr, Rect.unit, LoadRect.idx]
theorem rd_mz {v : View sg κ sp S2x16x128 .f32} {L} (hL : View.canon L = Bmz Cr) (l : Fin 2) (g : Fin 16) (inb) (r) :
    v.readCov L (Rect.unit (s := S2x16x128) ![l.val, g.val, 0] S1x1x128.size inb).toLoadRect (ix3 0 0 r)
      = (Cr (lr l r)).kmz g := by
  rw [View.readCov_eq_canon', hL]
  refine congr_arg₂ (fun r d => (Cr r).kmz d) ?_ ?_ <;> apply Fin.ext <;> simp [lr, Rect.unit, LoadRect.idx]
theorem rd_h {v : View sg κ sp S16x256 .f32} {L} (hL : View.canon L = Bh Cr) (l : Fin 2) (g : Fin 16) (inb) (r) :
    v.readCov L (Rect.unit (s := S16x256) ![g.val, l.val * 128] S1x128.size inb).toLoadRect (ix2 0 r)
      = (Cr (lr l r)).kh g := by
  rw [View.readCov_eq_canon', hL]
  refine congr_arg₂ (fun r d => (Cr r).kh d) ?_ ?_ <;> apply Fin.ext <;> simp [lr, Rect.unit, LoadRect.idx]
theorem rd_what {v : View sg κ sp S2048x256 .bf16} {L} (hL : View.canon L = Bwhat Cr) (inb) (d r) :
    v.readCov L (Rect.unit (s := S2048x256) ![0, 0] S2048x256.size inb).toLoadRect (ix2 d r) = (Cr r).kwhat d := by
  rw [View.readCov_eq_canon', hL]
  refine congr_arg₂ (fun r d => (Cr r).kwhat d) ?_ ?_ <;> apply Fin.ext <;> simp [Rect.unit, LoadRect.idx]

/-- The load of every eighth row of a folded buffer. -/
def str8 (l : Fin 2) (j : Fin 8) : LoadRect S2x128x128 where
  off := ![l.val, j.val, 0]
  size := S1x16x128.size
  stride := ![1, 8, 1]
  inb := by intro a; right; fin_cases a <;> simp [S1x16x128, S2x128x128] <;> omega

theorem rd_mx {v : View sg κ sp S2x128x128 .f32} {L} (hL : View.canon L = Bmx Cr) (l : Fin 2) (j : Fin 8) (g r) :
    v.readCov L (str8 l j) (ix3 0 g r) = (Cr (lr l r)).mxp (pj g j) := by
  rw [View.readCov_eq_canon', hL]
  refine congr_arg₂ (fun r d => (Cr r).mxp d) ?_ ?_ <;> apply Fin.ext <;> simp [lr, pj, str8, LoadRect.idx] <;> omega

theorem rd_mn {v : View sg κ sp S2x128x128 .f32} {L} (hL : View.canon L = Bmn Cr) (l : Fin 2) (j : Fin 8) (g r) :
    v.readCov L (str8 l j) (ix3 0 g r) = (Cr (lr l r)).mnp (pj g j) := by
  rw [View.readCov_eq_canon', hL]
  refine congr_arg₂ (fun r d => (Cr r).mnp d) ?_ ?_ <;> apply Fin.ext <;> simp [lr, pj, str8, LoadRect.idx] <;> omega

theorem rd_shp {v : View sg κ sp S2x128x128 .f32} {L} (hL : View.canon L = Bshp Cr) (l : Fin 2) (j : Fin 8) (g r) :
    v.readCov L (str8 l j) (ix3 0 g r) = (Cr (lr l r)).kshp (pj g j) := by
  rw [View.readCov_eq_canon', hL]
  refine congr_arg₂ (fun r d => (Cr r).kshp d) ?_ ?_ <;> apply Fin.ext <;> simp [lr, pj, str8, LoadRect.idx] <;> omega

theorem rd_scp {v : View sg κ sp S2x128x128 .f32} {L} (hL : View.canon L = Bscp Cr) (l : Fin 2) (j : Fin 8) (g r) :
    v.readCov L (str8 l j) (ix3 0 g r) = (Cr (lr l r)).kscp (pj g j) := by
  rw [View.readCov_eq_canon', hL]
  refine congr_arg₂ (fun r d => (Cr r).kscp d) ?_ ?_ <;> apply Fin.ext <;> simp [lr, pj, str8, LoadRect.idx] <;> omega
end

section
variable {κ : Kind} {sp : Space}

theorem ra_w {M : Memref sig κ sp S256x2048 .f32} (h : M.IsWhole) {X : Vec Ideal S256x2048 .f32}
    (hX : ∀ r d, X (ix2 r d) = (Cr r).w d) (l : Fin 2) (g : Fin 16) (inb) (a b) :
    View.readAt (Elt Ideal) M.view (Rect.unit (s := S256x2048) ![l.val * 128, g.val * 128] S128x128.size inb).toLoadRect
      (h.unread X) (ix2 a b) = (Cr (lr l a)).w (gk g b) := by
  rw [ra, ← hX]
  congr 1; funext i; apply Fin.ext; fin_cases i <;> simp [lr, gk, Rect.unit, LoadRect.idx]
theorem ra_g {M : Memref sig κ sp S16x256 .f32} (h : M.IsWhole) {X : Vec Ideal S16x256 .f32} {f : Fin 16 → Fin 256 → EReal}
    (hX : ∀ g r, X (ix2 g r) = f g r) (l : Fin 2) (inb) (g r) :
    View.readAt (Elt Ideal) M.view (Rect.unit (s := S16x256) ![0, l.val * 128] S16x128.size inb).toLoadRect
      (h.unread X) (ix2 g r) = f g (lr l r) := by
  rw [ra, ← hX]
  congr 1; funext i; apply Fin.ext; fin_cases i <;> simp [lr, Rect.unit, LoadRect.idx]
theorem ra_y {M : Memref sig κ sp S256x256 .bf16} (h : M.IsWhole) {X : Vec Ideal S256x256 .bf16}
    (hX : ∀ s r, X (ix2 s r) = (Cr r).y s) (l : Fin 2) (inb) (s r) :
    View.readAt (Elt Ideal) M.view (Rect.unit (s := S256x256) ![0, l.val * 128] S256x128.size inb).toLoadRect
      (h.unread X) (ix2 s r) = (Cr (lr l r)).y s := by
  rw [ra, ← hX]
  congr 1; funext i; apply Fin.ext; fin_cases i <;> simp [lr, Rect.unit, LoadRect.idx]
theorem ra_xb {e : EltTy} {M : Memref sig κ sp S256x2048 e} (h : M.IsWhole) {X : Vec Ideal S256x2048 e} (inb) (s d) :
    View.readAt (Elt Ideal) M.view (Rect.unit (s := S256x2048) ![0, 0] S256x2048.size inb).toLoadRect
      (h.unread X) (ix2 s d) = X (ix2 s d) := by
  rw [ra]
  congr 1; funext i; apply Fin.ext; fin_cases i <;> simp [Rect.unit, LoadRect.idx]
theorem ra_x1 {M : Memref sig κ sp S1x256 .f32} (h : M.IsWhole) {X : Vec Ideal S1x256 .f32} (inb) (s d) :
    View.readAt (Elt Ideal) M.view (Rect.unit (s := S1x256) ![0, 0] S1x256.size inb).toLoadRect
      (h.unread X) (ix2 s d) = X (ix2 s d) := by
  rw [ra]
  congr 1; funext i; apply Fin.ext; fin_cases i <;> simp [Rect.unit, LoadRect.idx]
theorem ra_xsb {M : Memref sig κ sp S256x128 .f32} (h : M.IsWhole) {X : Vec Ideal S256x128 .f32} (inb) (s d) :
    View.readAt (Elt Ideal) M.view (Rect.unit (s := S256x128) ![0, 0] S256x128.size inb).toLoadRect
      (h.unread X) (ix2 s d) = X (ix2 s d) := by
  rw [ra]
  congr 1; funext i; apply Fin.ext; fin_cases i <;> simp [Rect.unit, LoadRect.idx]
theorem ra_lacc {M : Memref sig κ sp S8x128 .f32} (h : M.IsWhole) {X : Vec Ideal S8x128 .f32} (inb) (s d) :
    View.readAt (Elt Ideal) M.view (Rect.unit (s := S8x128) ![0, 0] S8x128.size inb).toLoadRect
      (h.unread X) (ix2 s d) = X (ix2 s d) := by
  rw [ra]
  congr 1; funext i; apply Fin.ext; fin_cases i <;> simp [Rect.unit, LoadRect.idx]
theorem ra_xt {M : Memref sig κ sp S2048x256 .bf16} (h : M.IsWhole) {X : Vec Ideal S2048x256 .bf16} {r : Fin 256}
    (hX : ∀ d s, X (ix2 d s) = (Cr r).X s d) (g : Fin 16) (inb) (k s) :
    View.readAt (Elt Ideal) M.view (Rect.unit (s := S2048x256) ![g.val * 128, 0] S128x256.size inb).toLoadRect
      (h.unread X) (ix2 k s) = (Cr r).X s (gk g k) := by
  rw [ra, ← hX]
  congr 1; funext i; apply Fin.ext; fin_cases i <;> simp [gk, Rect.unit, LoadRect.idx]
/-- The same loads from a buffer the step itself has filled. -/
theorem rd_xt {sg : RefSig} {v : View sg κ sp S2048x256 .bf16} {L} {X : Vec Ideal S2048x256 .bf16} (hL : View.canon L = X) {r : Fin 256}
    (hX : ∀ d s, X (ix2 d s) = (Cr r).X s d) (g : Fin 16) (inb) (k s) :
    v.readCov L (Rect.unit (s := S2048x256) ![g.val * 128, 0] S128x256.size inb).toLoadRect (ix2 k s) = (Cr r).X s (gk g k) := by
  rw [View.readCov_eq_canon', hL]; dsimp only; rw [← hX]
  congr 1; funext i; apply Fin.ext; fin_cases i <;> simp [gk, Rect.unit, LoadRect.idx]
theorem rd_all {sg : RefSig} {e : EltTy} {n m : ℕ} {v : View sg κ sp ⟨2, ![n, m]⟩ e} {L} {X : Vec Ideal ⟨2, ![n, m]⟩ e} (hL : View.canon L = X) (inb) (s d) :
    v.readCov L (Rect.unit (s := ⟨2, ![n, m]⟩) ![0, 0] ![n, m] inb).toLoadRect (ix2 s d) = X (ix2 s d) := by
  rw [View.readCov_eq_canon', hL]; dsimp only
  congr 1; funext i; apply Fin.ext; fin_cases i <;> simp [Rect.unit, LoadRect.idx]
end
end Cert.KernelIdeal.LW
-- ==== Proof.KLoss.lean ====
/- The running sum of squared errors the tiled kernel carries from step to step, and the loss read from it. -/
module
public import proofs.«01_k».proof.Proof.KRead
@[expose] public section
noncomputable section
namespace Cert.KernelIdeal.LW
open Cert.KernelIdeal Cert.KernelIdeal.Gen Idealize.ShloMosaic Idealize.ShloMosaic.TcCoe Idealize.SL.Sem
open LWC

theorem inv_n : (Named.named (F := Ideal) (φ := .f32) κ "inv_n" 0x353A2E8C#32 : Ideal .f32) = iN :=
  IdealRules.named_const.ideal_named_scalar _ _ _ _ rfl
theorem pay4 (V : Vec Ideal S8x128 .f32) : k0_pay4 (F := Ideal) V = (∑ p : Fin 8, ∑ r : Fin 128, V (ix2 p r)) * iN := by
  unfold k0_pay4
  rw [inv_n]
  pointwise

/-- A store of a whole two-dimensional buffer, made last. -/
theorem cw {n m : ℕ} {e : EltTy} {G : Vec Ideal ⟨2, ![n, m]⟩ e} {inb} {w} {L : List (View.Piece (Elt Ideal) ⟨2, ![n, m]⟩ e)}
    (h : ∀ p r, w (ix2 p r) = G (ix2 p r)) :
    View.canon ((⟨Rect.unit (s := ⟨2, ![n, m]⟩) ![0, 0] ![n, m] inb, w⟩ : View.Piece (Elt Ideal) ⟨2, ![n, m]⟩ e) :: L) = G := by
  funext y
  obtain ⟨a, b, rfl⟩ := exi2 y
  have : ix2 a b = (Rect.unit (s := ⟨2, ![n, m]⟩) ![0, 0] ![n, m] inb).emb (ix2 a b) := by
    funext i; apply Fin.ext; fin_cases i <;> simp [Rect.emb, Rect.unit, LoadRect.idx]
  rw [this, View.canon_cons_emb, h, ← this]

/-- The squared errors of one half of a step's columns, at one place of the running sum. -/
def lt (Cr : Fin 256 → Col) (l : Fin 2) (p : Fin 8) (r : Fin 128) : EReal :=
  ∑ a : Fin 32, (Cr (lr l r)).kE ⟨a.val * 8 + p.val, by omega⟩ * (Cr (lr l r)).kE ⟨a.val * 8 + p.val, by omega⟩
/-- The running sum after the first half, -/
def Bl0 (Cr : Fin 256 → Col) (X : Vec Ideal S8x128 .f32) : Vec Ideal S8x128 .f32 := fun j => X j + lt Cr 0 (j 0) (j 1)
/-- and after the whole step. -/
def Bl (Cr : Fin 256 → Col) (X : Vec Ideal S8x128 .f32) : Vec Ideal S8x128 .f32 := fun j => Bl0 Cr X j + lt Cr 1 (j 0) (j 1)
end Cert.KernelIdeal.LW
-- ==== Proof.CaseA.lean ====
/- Case A of the tiled kernel: every buffer of one step, as the mathematics of its columns. -/
module
public import proofs.«01_k».proof.Proof.KLoss
public import proofs.«01_k».proof.Proof.Gen.KernelIdeal.Frame
@[expose] public section
set_option maxRecDepth 32768
noncomputable section
namespace Cert.KernelIdeal.LW.A
open Cert.KernelIdeal Cert.KernelIdeal.Gen Idealize.ShloMosaic Idealize.ShloMosaic.TcCoe Idealize.SL.Sem
open LWC Cert.KernelIdeal.LW

variable (c : Dev nD) (i : grid0.Coords) (arg1 : Memref sig .tc .vmem S256x2048 .fp8e4m3) (harg1 : arg1.IsWhole) (arg2 : Memref sig .tc .vmem S1x256 .f32) (harg2 : arg2.IsWhole) (arg3 : Memref sig .tc .vmem S256x2048 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S256x256 .bf16) (harg6 : arg6.IsWhole) (arg7 : Memref sig .tc .vmem S16x256 .f32) (harg7 : arg7.IsWhole) (arg8 : Memref sig .tc .vmem S16x256 .f32) (harg8 : arg8.IsWhole) (arg9 : Memref sig .tc .smem S1x1 .f32) (harg9 : arg9.IsWhole) (arg10 : Memref sig .tc .vmem S256x2048 .i8) (harg10 : arg10.IsWhole) (arg11 : Memref sig .tc .vmem S16x256 .f32) (harg11 : arg11.IsWhole) (arg12 : Memref sig .tc .vmem S16x256 .f32) (harg12 : arg12.IsWhole) (arg13 : Memref sig .tc .vmem S256x2048 .bf16) (harg13 : arg13.IsWhole) (arg14 : Memref sig .tc .vmem S2048x256 .bf16) (harg14 : arg14.IsWhole) (arg15 : Memref sig .tc .vmem S256x128 .f32) (harg15 : arg15.IsWhole) (arg16 : Memref sig .tc .vmem S2x2048x128 .f32) (harg16 : arg16.IsWhole) (arg17 : Memref sig .tc .vmem S2048x256 .bf16) (harg17 : arg17.IsWhole) (arg18 : Memref sig .tc .vmem S4x2048x128 .f32) (harg18 : arg18.IsWhole) (arg19 : Memref sig .tc .vmem S2x128x128 .f32) (harg19 : arg19.IsWhole) (arg20 : Memref sig .tc .vmem S2x128x128 .f32) (harg20 : arg20.IsWhole) (arg21 : Memref sig .tc .vmem S2x16x128 .f32) (harg21 : arg21.IsWhole) (arg22 : Memref sig .tc .vmem S2x16x128 .f32) (harg22 : arg22.IsWhole) (arg23 : Memref sig .tc .vmem S2x128x128 .f32) (harg23 : arg23.IsWhole) (arg24 : Memref sig .tc .vmem S2x128x128 .f32) (harg24 : arg24.IsWhole) (arg25 : Memref sig .tc .vmem S8x128 .f32) (harg25 : arg25.IsWhole)
variable (hc0 : cond0_0 i)
variable (hc1 : ¬cond0_1 i)
variable (x0 : Vec Ideal S256x2048 .fp8e4m3) (x1 : Vec Ideal S1x256 .f32) (x2 : Vec Ideal S256x2048 .f32)
  (x3 : Vec Ideal S16x256 .f32) (x4 : Vec Ideal S16x256 .f32) (x5 : Vec Ideal S256x256 .bf16)
variable {Cr : Fin 256 → Col}
  (hw : ∀ r d, x2 (ix2 r d) = (Cr r).w d) (hga : ∀ g r, x3 (ix2 g r) = (Cr r).ga g)
  (hbe : ∀ g r, x4 (ix2 g r) = (Cr r).be g) (hy : ∀ s r, x5 (ix2 s r) = (Cr r).y s)
  (hx : ∀ s d r, x0 (ix2 s d) = (Cr r).X s d) (hxs : ∀ s r, x1 (ix2 0 s) = (Cr r).xs s)
include hw in
theorem HS3 : View.canon (kernelRun0_A.sl.HS3_32 c arg3 harg3 x2) = Bwt Cr := by
  exact cn (pc (wt_piece Cr ⟨1, by decide⟩ ⟨15, by decide⟩ (ra_w harg3 hw ⟨1, by decide⟩ ⟨15, by decide⟩ _) _) <|
    pc (wt_piece Cr ⟨1, by decide⟩ ⟨14, by decide⟩ (ra_w harg3 hw ⟨1, by decide⟩ ⟨14, by decide⟩ _) _) <|
    pc (wt_piece Cr ⟨1, by decide⟩ ⟨13, by decide⟩ (ra_w harg3 hw ⟨1, by decide⟩ ⟨13, by decide⟩ _) _) <|
    pc (wt_piece Cr ⟨1, by decide⟩ ⟨12, by decide⟩ (ra_w harg3 hw ⟨1, by decide⟩ ⟨12, by decide⟩ _) _) <|
    pc (wt_piece Cr ⟨1, by decide⟩ ⟨11, by decide⟩ (ra_w harg3 hw ⟨1, by decide⟩ ⟨11, by decide⟩ _) _) <|
    pc (wt_piece Cr ⟨1, by decide⟩ ⟨10, by decide⟩ (ra_w harg3 hw ⟨1, by decide⟩ ⟨10, by decide⟩ _) _) <|
    pc (wt_piece Cr ⟨1, by decide⟩ ⟨9, by decide⟩ (ra_w harg3 hw ⟨1, by decide⟩ ⟨9, by decide⟩ _) _) <|
    pc (wt_piece Cr ⟨1, by decide⟩ ⟨8, by decide⟩ (ra_w harg3 hw ⟨1, by decide⟩ ⟨8, by decide⟩ _) _) <|
    pc (wt_piece Cr ⟨1, by decide⟩ ⟨7, by decide⟩ (ra_w harg3 hw ⟨1, by decide⟩ ⟨7, by decide⟩ _) _) <|
    pc (wt_piece Cr ⟨1, by decide⟩ ⟨6, by decide⟩ (ra_w harg3 hw ⟨1, by decide⟩ ⟨6, by decide⟩ _) _) <|
    pc (wt_piece Cr ⟨1, by decide⟩ ⟨5, by decide⟩ (ra_w harg3 hw ⟨1, by decide⟩ ⟨5, by decide⟩ _) _) <|
    pc (wt_piece Cr ⟨1, by decide⟩ ⟨4, by decide⟩ (ra_w harg3 hw ⟨1, by decide⟩ ⟨4, by decide⟩ _) _) <|
    pc (wt_piece Cr ⟨1, by decide⟩ ⟨3, by decide⟩ (ra_w harg3 hw ⟨1, by decide⟩ ⟨3, by decide⟩ _) _) <|
    pc (wt_piece Cr ⟨1, by decide⟩ ⟨2, by decide⟩ (ra_w harg3 hw ⟨1, by decide⟩ ⟨2, by decide⟩ _) _) <|
    pc (wt_piece Cr ⟨1, by decide⟩ ⟨1, by decide⟩ (ra_w harg3 hw ⟨1, by decide⟩ ⟨1, by decide⟩ _) _) <|
    pc (wt_piece Cr ⟨1, by decide⟩ ⟨0, by decide⟩ (ra_w harg3 hw ⟨1, by decide⟩ ⟨0, by decide⟩ _) _) <|
    pc (wt_piece Cr ⟨0, by decide⟩ ⟨15, by decide⟩ (ra_w harg3 hw ⟨0, by decide⟩ ⟨15, by decide⟩ _) _) <|
    pc (wt_piece Cr ⟨0, by decide⟩ ⟨14, by decide⟩ (ra_w harg3 hw ⟨0, by decide⟩ ⟨14, by decide⟩ _) _) <|
    pc (wt_piece Cr ⟨0, by decide⟩ ⟨13, by decide⟩ (ra_w harg3 hw ⟨0, by decide⟩ ⟨13, by decide⟩ _) _) <|
    pc (wt_piece Cr ⟨0, by decide⟩ ⟨12, by decide⟩ (ra_w harg3 hw ⟨0, by decide⟩ ⟨12, by decide⟩ _) _) <|
    pc (wt_piece Cr ⟨0, by decide⟩ ⟨11, by decide⟩ (ra_w harg3 hw ⟨0, by decide⟩ ⟨11, by decide⟩ _) _) <|
    pc (wt_piece Cr ⟨0, by decide⟩ ⟨10, by decide⟩ (ra_w harg3 hw ⟨0, by decide⟩ ⟨10, by decide⟩ _) _) <|
    pc (wt_piece Cr ⟨0, by decide⟩ ⟨9, by decide⟩ (ra_w harg3 hw ⟨0, by decide⟩ ⟨9, by decide⟩ _) _) <|
    pc (wt_piece Cr ⟨0, by decide⟩ ⟨8, by decide⟩ (ra_w harg3 hw ⟨0, by decide⟩ ⟨8, by decide⟩ _) _) <|
    pc (wt_piece Cr ⟨0, by decide⟩ ⟨7, by decide⟩ (ra_w harg3 hw ⟨0, by decide⟩ ⟨7, by decide⟩ _) _) <|
    pc (wt_piece Cr ⟨0, by decide⟩ ⟨6, by decide⟩ (ra_w harg3 hw ⟨0, by decide⟩ ⟨6, by decide⟩ _) _) <|
    pc (wt_piece Cr ⟨0, by decide⟩ ⟨5, by decide⟩ (ra_w harg3 hw ⟨0, by decide⟩ ⟨5, by decide⟩ _) _) <|
    pc (wt_piece Cr ⟨0, by decide⟩ ⟨4, by decide⟩ (ra_w harg3 hw ⟨0, by decide⟩ ⟨4, by decide⟩ _) _) <|
    pc (wt_piece Cr ⟨0, by decide⟩ ⟨3, by decide⟩ (ra_w harg3 hw ⟨0, by decide⟩ ⟨3, by decide⟩ _) _) <|
    pc (wt_piece Cr ⟨0, by decide⟩ ⟨2, by decide⟩ (ra_w harg3 hw ⟨0, by decide⟩ ⟨2, by decide⟩ _) _) <|
    pc (wt_piece Cr ⟨0, by decide⟩ ⟨1, by decide⟩ (ra_w harg3 hw ⟨0, by decide⟩ ⟨1, by decide⟩ _) _) <|
    pc (wt_piece Cr ⟨0, by decide⟩ ⟨0, by decide⟩ (ra_w harg3 hw ⟨0, by decide⟩ ⟨0, by decide⟩ _) _) <| pn) S1x128x128.size (by sl_kernel_rfl)
include hw in
theorem HS6 : View.canon (kernelRun0_A.sl.HS6_32 c arg3 harg3 x2) = Bmx Cr := by
  exact cn (pc (mx_piece Cr ⟨1, by decide⟩ ⟨15, by decide⟩ (ra_w harg3 hw ⟨1, by decide⟩ ⟨15, by decide⟩ _) _) <|
    pc (mx_piece Cr ⟨1, by decide⟩ ⟨14, by decide⟩ (ra_w harg3 hw ⟨1, by decide⟩ ⟨14, by decide⟩ _) _) <|
    pc (mx_piece Cr ⟨1, by decide⟩ ⟨13, by decide⟩ (ra_w harg3 hw ⟨1, by decide⟩ ⟨13, by decide⟩ _) _) <|
    pc (mx_piece Cr ⟨1, by decide⟩ ⟨12, by decide⟩ (ra_w harg3 hw ⟨1, by decide⟩ ⟨12, by decide⟩ _) _) <|
    pc (mx_piece Cr ⟨1, by decide⟩ ⟨11, by decide⟩ (ra_w harg3 hw ⟨1, by decide⟩ ⟨11, by decide⟩ _) _) <|
    pc (mx_piece Cr ⟨1, by decide⟩ ⟨10, by decide⟩ (ra_w harg3 hw ⟨1, by decide⟩ ⟨10, by decide⟩ _) _) <|
    pc (mx_piece Cr ⟨1, by decide⟩ ⟨9, by decide⟩ (ra_w harg3 hw ⟨1, by decide⟩ ⟨9, by decide⟩ _) _) <|
    pc (mx_piece Cr ⟨1, by decide⟩ ⟨8, by decide⟩ (ra_w harg3 hw ⟨1, by decide⟩ ⟨8, by decide⟩ _) _) <|
    pc (mx_piece Cr ⟨1, by decide⟩ ⟨7, by decide⟩ (ra_w harg3 hw ⟨1, by decide⟩ ⟨7, by decide⟩ _) _) <|
    pc (mx_piece Cr ⟨1, by decide⟩ ⟨6, by decide⟩ (ra_w harg3 hw ⟨1, by decide⟩ ⟨6, by decide⟩ _) _) <|
    pc (mx_piece Cr ⟨1, by decide⟩ ⟨5, by decide⟩ (ra_w harg3 hw ⟨1, by decide⟩ ⟨5, by decide⟩ _) _) <|
    pc (mx_piece Cr ⟨1, by decide⟩ ⟨4, by decide⟩ (ra_w harg3 hw ⟨1, by decide⟩ ⟨4, by decide⟩ _) _) <|
    pc (mx_piece Cr ⟨1, by decide⟩ ⟨3, by decide⟩ (ra_w harg3 hw ⟨1, by decide⟩ ⟨3, by decide⟩ _) _) <|
    pc (mx_piece Cr ⟨1, by decide⟩ ⟨2, by decide⟩ (ra_w harg3 hw ⟨1, by decide⟩ ⟨2, by decide⟩ _) _) <|
    pc (mx_piece Cr ⟨1, by decide⟩ ⟨1, by decide⟩ (ra_w harg3 hw ⟨1, by decide⟩ ⟨1, by decide⟩ _) _) <|
    pc (mx_piece Cr ⟨1, by decide⟩ ⟨0, by decide⟩ (ra_w harg3 hw ⟨1, by decide⟩ ⟨0, by decide⟩ _) _) <|
    pc (mx_piece Cr ⟨0, by decide⟩ ⟨15, by decide⟩ (ra_w harg3 hw ⟨0, by decide⟩ ⟨15, by decide⟩ _) _) <|
    pc (mx_piece Cr ⟨0, by decide⟩ ⟨14, by decide⟩ (ra_w harg3 hw ⟨0, by decide⟩ ⟨14, by decide⟩ _) _) <|
    pc (mx_piece Cr ⟨0, by decide⟩ ⟨13, by decide⟩ (ra_w harg3 hw ⟨0, by decide⟩ ⟨13, by decide⟩ _) _) <|
    pc (mx_piece Cr ⟨0, by decide⟩ ⟨12, by decide⟩ (ra_w harg3 hw ⟨0, by decide⟩ ⟨12, by decide⟩ _) _) <|
    pc (mx_piece Cr ⟨0, by decide⟩ ⟨11, by decide⟩ (ra_w harg3 hw ⟨0, by decide⟩ ⟨11, by decide⟩ _) _) <|
    pc (mx_piece Cr ⟨0, by decide⟩ ⟨10, by decide⟩ (ra_w harg3 hw ⟨0, by decide⟩ ⟨10, by decide⟩ _) _) <|
    pc (mx_piece Cr ⟨0, by decide⟩ ⟨9, by decide⟩ (ra_w harg3 hw ⟨0, by decide⟩ ⟨9, by decide⟩ _) _) <|
    pc (mx_piece Cr ⟨0, by decide⟩ ⟨8, by decide⟩ (ra_w harg3 hw ⟨0, by decide⟩ ⟨8, by decide⟩ _) _) <|
    pc (mx_piece Cr ⟨0, by decide⟩ ⟨7, by decide⟩ (ra_w harg3 hw ⟨0, by decide⟩ ⟨7, by decide⟩ _) _) <|
    pc (mx_piece Cr ⟨0, by decide⟩ ⟨6, by decide⟩ (ra_w harg3 hw ⟨0, by decide⟩ ⟨6, by decide⟩ _) _) <|
    pc (mx_piece Cr ⟨0, by decide⟩ ⟨5, by decide⟩ (ra_w harg3 hw ⟨0, by decide⟩ ⟨5, by decide⟩ _) _) <|
    pc (mx_piece Cr ⟨0, by decide⟩ ⟨4, by decide⟩ (ra_w harg3 hw ⟨0, by decide⟩ ⟨4, by decide⟩ _) _) <|
    pc (mx_piece Cr ⟨0, by decide⟩ ⟨3, by decide⟩ (ra_w harg3 hw ⟨0, by decide⟩ ⟨3, by decide⟩ _) _) <|
    pc (mx_piece Cr ⟨0, by decide⟩ ⟨2, by decide⟩ (ra_w harg3 hw ⟨0, by decide⟩ ⟨2, by decide⟩ _) _) <|
    pc (mx_piece Cr ⟨0, by decide⟩ ⟨1, by decide⟩ (ra_w harg3 hw ⟨0, by decide⟩ ⟨1, by decide⟩ _) _) <|
    pc (mx_piece Cr ⟨0, by decide⟩ ⟨0, by decide⟩ (ra_w harg3 hw ⟨0, by decide⟩ ⟨0, by decide⟩ _) _) <| pn) S1x8x128.size (by sl_kernel_rfl)
include hw in
theorem HS7 : View.canon (kernelRun0_A.sl.HS7_32 c arg3 harg3 x2) = Bmn Cr := by
  exact cn (pc (mn_piece Cr ⟨1, by decide⟩ ⟨15, by decide⟩ (ra_w harg3 hw ⟨1, by decide⟩ ⟨15, by decide⟩ _) _) <|
    pc (mn_piece Cr ⟨1, by decide⟩ ⟨14, by decide⟩ (ra_w harg3 hw ⟨1, by decide⟩ ⟨14, by decide⟩ _) _) <|
    pc (mn_piece Cr ⟨1, by decide⟩ ⟨13, by decide⟩ (ra_w harg3 hw ⟨1, by decide⟩ ⟨13, by decide⟩ _) _) <|
    pc (mn_piece Cr ⟨1, by decide⟩ ⟨12, by decide⟩ (ra_w harg3 hw ⟨1, by decide⟩ ⟨12, by decide⟩ _) _) <|
    pc (mn_piece Cr ⟨1, by decide⟩ ⟨11, by decide⟩ (ra_w harg3 hw ⟨1, by decide⟩ ⟨11, by decide⟩ _) _) <|
    pc (mn_piece Cr ⟨1, by decide⟩ ⟨10, by decide⟩ (ra_w harg3 hw ⟨1, by decide⟩ ⟨10, by decide⟩ _) _) <|
    pc (mn_piece Cr ⟨1, by decide⟩ ⟨9, by decide⟩ (ra_w harg3 hw ⟨1, by decide⟩ ⟨9, by decide⟩ _) _) <|
    pc (mn_piece Cr ⟨1, by decide⟩ ⟨8, by decide⟩ (ra_w harg3 hw ⟨1, by decide⟩ ⟨8, by decide⟩ _) _) <|
    pc (mn_piece Cr ⟨1, by decide⟩ ⟨7, by decide⟩ (ra_w harg3 hw ⟨1, by decide⟩ ⟨7, by decide⟩ _) _) <|
    pc (mn_piece Cr ⟨1, by decide⟩ ⟨6, by decide⟩ (ra_w harg3 hw ⟨1, by decide⟩ ⟨6, by decide⟩ _) _) <|
    pc (mn_piece Cr ⟨1, by decide⟩ ⟨5, by decide⟩ (ra_w harg3 hw ⟨1, by decide⟩ ⟨5, by decide⟩ _) _) <|
    pc (mn_piece Cr ⟨1, by decide⟩ ⟨4, by decide⟩ (ra_w harg3 hw ⟨1, by decide⟩ ⟨4, by decide⟩ _) _) <|
    pc (mn_piece Cr ⟨1, by decide⟩ ⟨3, by decide⟩ (ra_w harg3 hw ⟨1, by decide⟩ ⟨3, by decide⟩ _) _) <|
    pc (mn_piece Cr ⟨1, by decide⟩ ⟨2, by decide⟩ (ra_w harg3 hw ⟨1, by decide⟩ ⟨2, by decide⟩ _) _) <|
    pc (mn_piece Cr ⟨1, by decide⟩ ⟨1, by decide⟩ (ra_w harg3 hw ⟨1, by decide⟩ ⟨1, by decide⟩ _) _) <|
    pc (mn_piece Cr ⟨1, by decide⟩ ⟨0, by decide⟩ (ra_w harg3 hw ⟨1, by decide⟩ ⟨0, by decide⟩ _) _) <|
    pc (mn_piece Cr ⟨0, by decide⟩ ⟨15, by decide⟩ (ra_w harg3 hw ⟨0, by decide⟩ ⟨15, by decide⟩ _) _) <|
    pc (mn_piece Cr ⟨0, by decide⟩ ⟨14, by decide⟩ (ra_w harg3 hw ⟨0, by decide⟩ ⟨14, by decide⟩ _) _) <|
    pc (mn_piece Cr ⟨0, by decide⟩ ⟨13, by decide⟩ (ra_w harg3 hw ⟨0, by decide⟩ ⟨13, by decide⟩ _) _) <|
    pc (mn_piece Cr ⟨0, by decide⟩ ⟨12, by decide⟩ (ra_w harg3 hw ⟨0, by decide⟩ ⟨12, by decide⟩ _) _) <|
    pc (mn_piece Cr ⟨0, by decide⟩ ⟨11, by decide⟩ (ra_w harg3 hw ⟨0, by decide⟩ ⟨11, by decide⟩ _) _) <|
    pc (mn_piece Cr ⟨0, by decide⟩ ⟨10, by decide⟩ (ra_w harg3 hw ⟨0, by decide⟩ ⟨10, by decide⟩ _) _) <|
    pc (mn_piece Cr ⟨0, by decide⟩ ⟨9, by decide⟩ (ra_w harg3 hw ⟨0, by decide⟩ ⟨9, by decide⟩ _) _) <|
    pc (mn_piece Cr ⟨0, by decide⟩ ⟨8, by decide⟩ (ra_w harg3 hw ⟨0, by decide⟩ ⟨8, by decide⟩ _) _) <|
    pc (mn_piece Cr ⟨0, by decide⟩ ⟨7, by decide⟩ (ra_w harg3 hw ⟨0, by decide⟩ ⟨7, by decide⟩ _) _) <|
    pc (mn_piece Cr ⟨0, by decide⟩ ⟨6, by decide⟩ (ra_w harg3 hw ⟨0, by decide⟩ ⟨6, by decide⟩ _) _) <|
    pc (mn_piece Cr ⟨0, by decide⟩ ⟨5, by decide⟩ (ra_w harg3 hw ⟨0, by decide⟩ ⟨5, by decide⟩ _) _) <|
    pc (mn_piece Cr ⟨0, by decide⟩ ⟨4, by decide⟩ (ra_w harg3 hw ⟨0, by decide⟩ ⟨4, by decide⟩ _) _) <|
    pc (mn_piece Cr ⟨0, by decide⟩ ⟨3, by decide⟩ (ra_w harg3 hw ⟨0, by decide⟩ ⟨3, by decide⟩ _) _) <|
    pc (mn_piece Cr ⟨0, by decide⟩ ⟨2, by decide⟩ (ra_w harg3 hw ⟨0, by decide⟩ ⟨2, by decide⟩ _) _) <|
    pc (mn_piece Cr ⟨0, by decide⟩ ⟨1, by decide⟩ (ra_w harg3 hw ⟨0, by decide⟩ ⟨1, by decide⟩ _) _) <|
    pc (mn_piece Cr ⟨0, by decide⟩ ⟨0, by decide⟩ (ra_w harg3 hw ⟨0, by decide⟩ ⟨0, by decide⟩ _) _) <| pn) S1x8x128.size (by sl_kernel_rfl)
include hw hga hbe in
theorem H10 : View.canon (kernelRun0_A.sl.H10_2 c arg3 harg3 arg4 harg4 arg5 harg5 arg19 arg20 x2 x3 x4) = Bh Cr := by
  have h6 := HS6 c arg3 harg3 x2 hw
  have h7 := HS7 c arg3 harg3 x2 hw
  exact cn (pc (h_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (h_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S16x128.size (by sl_kernel_rfl)
include hw hga hbe in
theorem HS8 : View.canon (kernelRun0_A.sl.HS8_2 c arg3 harg3 arg4 harg4 arg5 harg5 arg19 arg20 x2 x3 x4) = Brh Cr := by
  have h6 := HS6 c arg3 harg3 x2 hw
  have h7 := HS7 c arg3 harg3 x2 hw
  exact cn (pc (rh_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (rh_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S1x16x128.size (by sl_kernel_rfl)
include hw hga hbe in
theorem HS9 : View.canon (kernelRun0_A.sl.HS9_2 c arg3 harg3 arg4 harg4 arg5 harg5 arg19 arg20 x2 x3 x4) = Bmz Cr := by
  have h6 := HS6 c arg3 harg3 x2 hw
  have h7 := HS7 c arg3 harg3 x2 hw
  exact cn (pc (mz_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (mz_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S1x16x128.size (by sl_kernel_rfl)
include hw hga hbe in
theorem HS4 : View.canon (kernelRun0_A.sl.HS4_32 c arg3 harg3 arg4 harg4 arg5 harg5 arg11 arg16 arg19 arg20 arg21 arg22 x2 x3 x4) = Bwhat Cr := by
  have h3 := HS3 c arg3 harg3 x2 hw
  have h8 := HS8 c arg3 harg3 arg4 harg4 arg5 harg5 arg19 arg20 x2 x3 x4 hw hga hbe
  have h9 := HS9 c arg3 harg3 arg4 harg4 arg5 harg5 arg19 arg20 x2 x3 x4 hw hga hbe
  have h10 := H10 c arg3 harg3 arg4 harg4 arg5 harg5 arg19 arg20 x2 x3 x4 hw hga hbe
  exact cn (pc (what_piece Cr ⟨1, by decide⟩ ⟨15, by decide⟩ (rd_rh (v := arg21.view) h8 ⟨1, by decide⟩ ⟨15, by decide⟩ _) (rd_mz (v := arg22.view) h9 ⟨1, by decide⟩ ⟨15, by decide⟩ _) (rd_h (v := arg11.view) h10 ⟨1, by decide⟩ ⟨15, by decide⟩ _) (rd_wt (v := arg16.view) h3 ⟨1, by decide⟩ ⟨15, by decide⟩ _) _) <|
    pc (what_piece Cr ⟨1, by decide⟩ ⟨14, by decide⟩ (rd_rh (v := arg21.view) h8 ⟨1, by decide⟩ ⟨14, by decide⟩ _) (rd_mz (v := arg22.view) h9 ⟨1, by decide⟩ ⟨14, by decide⟩ _) (rd_h (v := arg11.view) h10 ⟨1, by decide⟩ ⟨14, by decide⟩ _) (rd_wt (v := arg16.view) h3 ⟨1, by decide⟩ ⟨14, by decide⟩ _) _) <|
    pc (what_piece Cr ⟨1, by decide⟩ ⟨13, by decide⟩ (rd_rh (v := arg21.view) h8 ⟨1, by decide⟩ ⟨13, by decide⟩ _) (rd_mz (v := arg22.view) h9 ⟨1, by decide⟩ ⟨13, by decide⟩ _) (rd_h (v := arg11.view) h10 ⟨1, by decide⟩ ⟨13, by decide⟩ _) (rd_wt (v := arg16.view) h3 ⟨1, by decide⟩ ⟨13, by decide⟩ _) _) <|
    pc (what_piece Cr ⟨1, by decide⟩ ⟨12, by decide⟩ (rd_rh (v := arg21.view) h8 ⟨1, by decide⟩ ⟨12, by decide⟩ _) (rd_mz (v := arg22.view) h9 ⟨1, by decide⟩ ⟨12, by decide⟩ _) (rd_h (v := arg11.view) h10 ⟨1, by decide⟩ ⟨12, by decide⟩ _) (rd_wt (v := arg16.view) h3 ⟨1, by decide⟩ ⟨12, by decide⟩ _) _) <|
    pc (what_piece Cr ⟨1, by decide⟩ ⟨11, by decide⟩ (rd_rh (v := arg21.view) h8 ⟨1, by decide⟩ ⟨11, by decide⟩ _) (rd_mz (v := arg22.view) h9 ⟨1, by decide⟩ ⟨11, by decide⟩ _) (rd_h (v := arg11.view) h10 ⟨1, by decide⟩ ⟨11, by decide⟩ _) (rd_wt (v := arg16.view) h3 ⟨1, by decide⟩ ⟨11, by decide⟩ _) _) <|
    pc (what_piece Cr ⟨1, by decide⟩ ⟨10, by decide⟩ (rd_rh (v := arg21.view) h8 ⟨1, by decide⟩ ⟨10, by decide⟩ _) (rd_mz (v := arg22.view) h9 ⟨1, by decide⟩ ⟨10, by decide⟩ _) (rd_h (v := arg11.view) h10 ⟨1, by decide⟩ ⟨10, by decide⟩ _) (rd_wt (v := arg16.view) h3 ⟨1, by decide⟩ ⟨10, by decide⟩ _) _) <|
    pc (what_piece Cr ⟨1, by decide⟩ ⟨9, by decide⟩ (rd_rh (v := arg21.view) h8 ⟨1, by decide⟩ ⟨9, by decide⟩ _) (rd_mz (v := arg22.view) h9 ⟨1, by decide⟩ ⟨9, by decide⟩ _) (rd_h (v := arg11.view) h10 ⟨1, by decide⟩ ⟨9, by decide⟩ _) (rd_wt (v := arg16.view) h3 ⟨1, by decide⟩ ⟨9, by decide⟩ _) _) <|
    pc (what_piece Cr ⟨1, by decide⟩ ⟨8, by decide⟩ (rd_rh (v := arg21.view) h8 ⟨1, by decide⟩ ⟨8, by decide⟩ _) (rd_mz (v := arg22.view) h9 ⟨1, by decide⟩ ⟨8, by decide⟩ _) (rd_h (v := arg11.view) h10 ⟨1, by decide⟩ ⟨8, by decide⟩ _) (rd_wt (v := arg16.view) h3 ⟨1, by decide⟩ ⟨8, by decide⟩ _) _) <|
    pc (what_piece Cr ⟨1, by decide⟩ ⟨7, by decide⟩ (rd_rh (v := arg21.view) h8 ⟨1, by decide⟩ ⟨7, by decide⟩ _) (rd_mz (v := arg22.view) h9 ⟨1, by decide⟩ ⟨7, by decide⟩ _) (rd_h (v := arg11.view) h10 ⟨1, by decide⟩ ⟨7, by decide⟩ _) (rd_wt (v := arg16.view) h3 ⟨1, by decide⟩ ⟨7, by decide⟩ _) _) <|
    pc (what_piece Cr ⟨1, by decide⟩ ⟨6, by decide⟩ (rd_rh (v := arg21.view) h8 ⟨1, by decide⟩ ⟨6, by decide⟩ _) (rd_mz (v := arg22.view) h9 ⟨1, by decide⟩ ⟨6, by decide⟩ _) (rd_h (v := arg11.view) h10 ⟨1, by decide⟩ ⟨6, by decide⟩ _) (rd_wt (v := arg16.view) h3 ⟨1, by decide⟩ ⟨6, by decide⟩ _) _) <|
    pc (what_piece Cr ⟨1, by decide⟩ ⟨5, by decide⟩ (rd_rh (v := arg21.view) h8 ⟨1, by decide⟩ ⟨5, by decide⟩ _) (rd_mz (v := arg22.view) h9 ⟨1, by decide⟩ ⟨5, by decide⟩ _) (rd_h (v := arg11.view) h10 ⟨1, by decide⟩ ⟨5, by decide⟩ _) (rd_wt (v := arg16.view) h3 ⟨1, by decide⟩ ⟨5, by decide⟩ _) _) <|
    pc (what_piece Cr ⟨1, by decide⟩ ⟨4, by decide⟩ (rd_rh (v := arg21.view) h8 ⟨1, by decide⟩ ⟨4, by decide⟩ _) (rd_mz (v := arg22.view) h9 ⟨1, by decide⟩ ⟨4, by decide⟩ _) (rd_h (v := arg11.view) h10 ⟨1, by decide⟩ ⟨4, by decide⟩ _) (rd_wt (v := arg16.view) h3 ⟨1, by decide⟩ ⟨4, by decide⟩ _) _) <|
    pc (what_piece Cr ⟨1, by decide⟩ ⟨3, by decide⟩ (rd_rh (v := arg21.view) h8 ⟨1, by decide⟩ ⟨3, by decide⟩ _) (rd_mz (v := arg22.view) h9 ⟨1, by decide⟩ ⟨3, by decide⟩ _) (rd_h (v := arg11.view) h10 ⟨1, by decide⟩ ⟨3, by decide⟩ _) (rd_wt (v := arg16.view) h3 ⟨1, by decide⟩ ⟨3, by decide⟩ _) _) <|
    pc (what_piece Cr ⟨1, by decide⟩ ⟨2, by decide⟩ (rd_rh (v := arg21.view) h8 ⟨1, by decide⟩ ⟨2, by decide⟩ _) (rd_mz (v := arg22.view) h9 ⟨1, by decide⟩ ⟨2, by decide⟩ _) (rd_h (v := arg11.view) h10 ⟨1, by decide⟩ ⟨2, by decide⟩ _) (rd_wt (v := arg16.view) h3 ⟨1, by decide⟩ ⟨2, by decide⟩ _) _) <|
    pc (what_piece Cr ⟨1, by decide⟩ ⟨1, by decide⟩ (rd_rh (v := arg21.view) h8 ⟨1, by decide⟩ ⟨1, by decide⟩ _) (rd_mz (v := arg22.view) h9 ⟨1, by decide⟩ ⟨1, by decide⟩ _) (rd_h (v := arg11.view) h10 ⟨1, by decide⟩ ⟨1, by decide⟩ _) (rd_wt (v := arg16.view) h3 ⟨1, by decide⟩ ⟨1, by decide⟩ _) _) <|
    pc (what_piece Cr ⟨1, by decide⟩ ⟨0, by decide⟩ (rd_rh (v := arg21.view) h8 ⟨1, by decide⟩ ⟨0, by decide⟩ _) (rd_mz (v := arg22.view) h9 ⟨1, by decide⟩ ⟨0, by decide⟩ _) (rd_h (v := arg11.view) h10 ⟨1, by decide⟩ ⟨0, by decide⟩ _) (rd_wt (v := arg16.view) h3 ⟨1, by decide⟩ ⟨0, by decide⟩ _) _) <|
    pc (what_piece Cr ⟨0, by decide⟩ ⟨15, by decide⟩ (rd_rh (v := arg21.view) h8 ⟨0, by decide⟩ ⟨15, by decide⟩ _) (rd_mz (v := arg22.view) h9 ⟨0, by decide⟩ ⟨15, by decide⟩ _) (rd_h (v := arg11.view) h10 ⟨0, by decide⟩ ⟨15, by decide⟩ _) (rd_wt (v := arg16.view) h3 ⟨0, by decide⟩ ⟨15, by decide⟩ _) _) <|
    pc (what_piece Cr ⟨0, by decide⟩ ⟨14, by decide⟩ (rd_rh (v := arg21.view) h8 ⟨0, by decide⟩ ⟨14, by decide⟩ _) (rd_mz (v := arg22.view) h9 ⟨0, by decide⟩ ⟨14, by decide⟩ _) (rd_h (v := arg11.view) h10 ⟨0, by decide⟩ ⟨14, by decide⟩ _) (rd_wt (v := arg16.view) h3 ⟨0, by decide⟩ ⟨14, by decide⟩ _) _) <|
    pc (what_piece Cr ⟨0, by decide⟩ ⟨13, by decide⟩ (rd_rh (v := arg21.view) h8 ⟨0, by decide⟩ ⟨13, by decide⟩ _) (rd_mz (v := arg22.view) h9 ⟨0, by decide⟩ ⟨13, by decide⟩ _) (rd_h (v := arg11.view) h10 ⟨0, by decide⟩ ⟨13, by decide⟩ _) (rd_wt (v := arg16.view) h3 ⟨0, by decide⟩ ⟨13, by decide⟩ _) _) <|
    pc (what_piece Cr ⟨0, by decide⟩ ⟨12, by decide⟩ (rd_rh (v := arg21.view) h8 ⟨0, by decide⟩ ⟨12, by decide⟩ _) (rd_mz (v := arg22.view) h9 ⟨0, by decide⟩ ⟨12, by decide⟩ _) (rd_h (v := arg11.view) h10 ⟨0, by decide⟩ ⟨12, by decide⟩ _) (rd_wt (v := arg16.view) h3 ⟨0, by decide⟩ ⟨12, by decide⟩ _) _) <|
    pc (what_piece Cr ⟨0, by decide⟩ ⟨11, by decide⟩ (rd_rh (v := arg21.view) h8 ⟨0, by decide⟩ ⟨11, by decide⟩ _) (rd_mz (v := arg22.view) h9 ⟨0, by decide⟩ ⟨11, by decide⟩ _) (rd_h (v := arg11.view) h10 ⟨0, by decide⟩ ⟨11, by decide⟩ _) (rd_wt (v := arg16.view) h3 ⟨0, by decide⟩ ⟨11, by decide⟩ _) _) <|
    pc (what_piece Cr ⟨0, by decide⟩ ⟨10, by decide⟩ (rd_rh (v := arg21.view) h8 ⟨0, by decide⟩ ⟨10, by decide⟩ _) (rd_mz (v := arg22.view) h9 ⟨0, by decide⟩ ⟨10, by decide⟩ _) (rd_h (v := arg11.view) h10 ⟨0, by decide⟩ ⟨10, by decide⟩ _) (rd_wt (v := arg16.view) h3 ⟨0, by decide⟩ ⟨10, by decide⟩ _) _) <|
    pc (what_piece Cr ⟨0, by decide⟩ ⟨9, by decide⟩ (rd_rh (v := arg21.view) h8 ⟨0, by decide⟩ ⟨9, by decide⟩ _) (rd_mz (v := arg22.view) h9 ⟨0, by decide⟩ ⟨9, by decide⟩ _) (rd_h (v := arg11.view) h10 ⟨0, by decide⟩ ⟨9, by decide⟩ _) (rd_wt (v := arg16.view) h3 ⟨0, by decide⟩ ⟨9, by decide⟩ _) _) <|
    pc (what_piece Cr ⟨0, by decide⟩ ⟨8, by decide⟩ (rd_rh (v := arg21.view) h8 ⟨0, by decide⟩ ⟨8, by decide⟩ _) (rd_mz (v := arg22.view) h9 ⟨0, by decide⟩ ⟨8, by decide⟩ _) (rd_h (v := arg11.view) h10 ⟨0, by decide⟩ ⟨8, by decide⟩ _) (rd_wt (v := arg16.view) h3 ⟨0, by decide⟩ ⟨8, by decide⟩ _) _) <|
    pc (what_piece Cr ⟨0, by decide⟩ ⟨7, by decide⟩ (rd_rh (v := arg21.view) h8 ⟨0, by decide⟩ ⟨7, by decide⟩ _) (rd_mz (v := arg22.view) h9 ⟨0, by decide⟩ ⟨7, by decide⟩ _) (rd_h (v := arg11.view) h10 ⟨0, by decide⟩ ⟨7, by decide⟩ _) (rd_wt (v := arg16.view) h3 ⟨0, by decide⟩ ⟨7, by decide⟩ _) _) <|
    pc (what_piece Cr ⟨0, by decide⟩ ⟨6, by decide⟩ (rd_rh (v := arg21.view) h8 ⟨0, by decide⟩ ⟨6, by decide⟩ _) (rd_mz (v := arg22.view) h9 ⟨0, by decide⟩ ⟨6, by decide⟩ _) (rd_h (v := arg11.view) h10 ⟨0, by decide⟩ ⟨6, by decide⟩ _) (rd_wt (v := arg16.view) h3 ⟨0, by decide⟩ ⟨6, by decide⟩ _) _) <|
    pc (what_piece Cr ⟨0, by decide⟩ ⟨5, by decide⟩ (rd_rh (v := arg21.view) h8 ⟨0, by decide⟩ ⟨5, by decide⟩ _) (rd_mz (v := arg22.view) h9 ⟨0, by decide⟩ ⟨5, by decide⟩ _) (rd_h (v := arg11.view) h10 ⟨0, by decide⟩ ⟨5, by decide⟩ _) (rd_wt (v := arg16.view) h3 ⟨0, by decide⟩ ⟨5, by decide⟩ _) _) <|
    pc (what_piece Cr ⟨0, by decide⟩ ⟨4, by decide⟩ (rd_rh (v := arg21.view) h8 ⟨0, by decide⟩ ⟨4, by decide⟩ _) (rd_mz (v := arg22.view) h9 ⟨0, by decide⟩ ⟨4, by decide⟩ _) (rd_h (v := arg11.view) h10 ⟨0, by decide⟩ ⟨4, by decide⟩ _) (rd_wt (v := arg16.view) h3 ⟨0, by decide⟩ ⟨4, by decide⟩ _) _) <|
    pc (what_piece Cr ⟨0, by decide⟩ ⟨3, by decide⟩ (rd_rh (v := arg21.view) h8 ⟨0, by decide⟩ ⟨3, by decide⟩ _) (rd_mz (v := arg22.view) h9 ⟨0, by decide⟩ ⟨3, by decide⟩ _) (rd_h (v := arg11.view) h10 ⟨0, by decide⟩ ⟨3, by decide⟩ _) (rd_wt (v := arg16.view) h3 ⟨0, by decide⟩ ⟨3, by decide⟩ _) _) <|
    pc (what_piece Cr ⟨0, by decide⟩ ⟨2, by decide⟩ (rd_rh (v := arg21.view) h8 ⟨0, by decide⟩ ⟨2, by decide⟩ _) (rd_mz (v := arg22.view) h9 ⟨0, by decide⟩ ⟨2, by decide⟩ _) (rd_h (v := arg11.view) h10 ⟨0, by decide⟩ ⟨2, by decide⟩ _) (rd_wt (v := arg16.view) h3 ⟨0, by decide⟩ ⟨2, by decide⟩ _) _) <|
    pc (what_piece Cr ⟨0, by decide⟩ ⟨1, by decide⟩ (rd_rh (v := arg21.view) h8 ⟨0, by decide⟩ ⟨1, by decide⟩ _) (rd_mz (v := arg22.view) h9 ⟨0, by decide⟩ ⟨1, by decide⟩ _) (rd_h (v := arg11.view) h10 ⟨0, by decide⟩ ⟨1, by decide⟩ _) (rd_wt (v := arg16.view) h3 ⟨0, by decide⟩ ⟨1, by decide⟩ _) _) <|
    pc (what_piece Cr ⟨0, by decide⟩ ⟨0, by decide⟩ (rd_rh (v := arg21.view) h8 ⟨0, by decide⟩ ⟨0, by decide⟩ _) (rd_mz (v := arg22.view) h9 ⟨0, by decide⟩ ⟨0, by decide⟩ _) (rd_h (v := arg11.view) h10 ⟨0, by decide⟩ ⟨0, by decide⟩ _) (rd_wt (v := arg16.view) h3 ⟨0, by decide⟩ ⟨0, by decide⟩ _) _) <| pn) S128x128.size (by sl_kernel_rfl)
include hw hga hbe in
theorem HS5 : View.canon (kernelRun0_A.sl.HS5_64 c arg3 harg3 arg4 harg4 arg5 harg5 arg16 arg19 arg20 arg21 arg22 x2 x3 x4) = Btp Cr := by
  have h3 := HS3 c arg3 harg3 x2 hw
  have h8 := HS8 c arg3 harg3 arg4 harg4 arg5 harg5 arg19 arg20 x2 x3 x4 hw hga hbe
  have h9 := HS9 c arg3 harg3 arg4 harg4 arg5 harg5 arg19 arg20 x2 x3 x4 hw hga hbe
  exact cn (pc (tm_piece Cr ⟨1, by decide⟩ ⟨15, by decide⟩ (rd_rh (v := arg21.view) h8 ⟨1, by decide⟩ ⟨15, by decide⟩ _) (rd_mz (v := arg22.view) h9 ⟨1, by decide⟩ ⟨15, by decide⟩ _) (rd_wt (v := arg16.view) h3 ⟨1, by decide⟩ ⟨15, by decide⟩ _) ⟨3, by decide⟩ rfl _) <|
    pc (tp_piece Cr ⟨1, by decide⟩ ⟨15, by decide⟩ (rd_rh (v := arg21.view) h8 ⟨1, by decide⟩ ⟨15, by decide⟩ _) (rd_mz (v := arg22.view) h9 ⟨1, by decide⟩ ⟨15, by decide⟩ _) (rd_wt (v := arg16.view) h3 ⟨1, by decide⟩ ⟨15, by decide⟩ _) ⟨1, by decide⟩ rfl _) <|
    pc (tm_piece Cr ⟨1, by decide⟩ ⟨14, by decide⟩ (rd_rh (v := arg21.view) h8 ⟨1, by decide⟩ ⟨14, by decide⟩ _) (rd_mz (v := arg22.view) h9 ⟨1, by decide⟩ ⟨14, by decide⟩ _) (rd_wt (v := arg16.view) h3 ⟨1, by decide⟩ ⟨14, by decide⟩ _) ⟨3, by decide⟩ rfl _) <|
    pc (tp_piece Cr ⟨1, by decide⟩ ⟨14, by decide⟩ (rd_rh (v := arg21.view) h8 ⟨1, by decide⟩ ⟨14, by decide⟩ _) (rd_mz (v := arg22.view) h9 ⟨1, by decide⟩ ⟨14, by decide⟩ _) (rd_wt (v := arg16.view) h3 ⟨1, by decide⟩ ⟨14, by decide⟩ _) ⟨1, by decide⟩ rfl _) <|
    pc (tm_piece Cr ⟨1, by decide⟩ ⟨13, by decide⟩ (rd_rh (v := arg21.view) h8 ⟨1, by decide⟩ ⟨13, by decide⟩ _) (rd_mz (v := arg22.view) h9 ⟨1, by decide⟩ ⟨13, by decide⟩ _) (rd_wt (v := arg16.view) h3 ⟨1, by decide⟩ ⟨13, by decide⟩ _) ⟨3, by decide⟩ rfl _) <|
    pc (tp_piece Cr ⟨1, by decide⟩ ⟨13, by decide⟩ (rd_rh (v := arg21.view) h8 ⟨1, by decide⟩ ⟨13, by decide⟩ _) (rd_mz (v := arg22.view) h9 ⟨1, by decide⟩ ⟨13, by decide⟩ _) (rd_wt (v := arg16.view) h3 ⟨1, by decide⟩ ⟨13, by decide⟩ _) ⟨1, by decide⟩ rfl _) <|
    pc (tm_piece Cr ⟨1, by decide⟩ ⟨12, by decide⟩ (rd_rh (v := arg21.view) h8 ⟨1, by decide⟩ ⟨12, by decide⟩ _) (rd_mz (v := arg22.view) h9 ⟨1, by decide⟩ ⟨12, by decide⟩ _) (rd_wt (v := arg16.view) h3 ⟨1, by decide⟩ ⟨12, by decide⟩ _) ⟨3, by decide⟩ rfl _) <|
    pc (tp_piece Cr ⟨1, by decide⟩ ⟨12, by decide⟩ (rd_rh (v := arg21.view) h8 ⟨1, by decide⟩ ⟨12, by decide⟩ _) (rd_mz (v := arg22.view) h9 ⟨1, by decide⟩ ⟨12, by decide⟩ _) (rd_wt (v := arg16.view) h3 ⟨1, by decide⟩ ⟨12, by decide⟩ _) ⟨1, by decide⟩ rfl _) <|
    pc (tm_piece Cr ⟨1, by decide⟩ ⟨11, by decide⟩ (rd_rh (v := arg21.view) h8 ⟨1, by decide⟩ ⟨11, by decide⟩ _) (rd_mz (v := arg22.view) h9 ⟨1, by decide⟩ ⟨11, by decide⟩ _) (rd_wt (v := arg16.view) h3 ⟨1, by decide⟩ ⟨11, by decide⟩ _) ⟨3, by decide⟩ rfl _) <|
    pc (tp_piece Cr ⟨1, by decide⟩ ⟨11, by decide⟩ (rd_rh (v := arg21.view) h8 ⟨1, by decide⟩ ⟨11, by decide⟩ _) (rd_mz (v := arg22.view) h9 ⟨1, by decide⟩ ⟨11, by decide⟩ _) (rd_wt (v := arg16.view) h3 ⟨1, by decide⟩ ⟨11, by decide⟩ _) ⟨1, by decide⟩ rfl _) <|
    pc (tm_piece Cr ⟨1, by decide⟩ ⟨10, by decide⟩ (rd_rh (v := arg21.view) h8 ⟨1, by decide⟩ ⟨10, by decide⟩ _) (rd_mz (v := arg22.view) h9 ⟨1, by decide⟩ ⟨10, by decide⟩ _) (rd_wt (v := arg16.view) h3 ⟨1, by decide⟩ ⟨10, by decide⟩ _) ⟨3, by decide⟩ rfl _) <|
    pc (tp_piece Cr ⟨1, by decide⟩ ⟨10, by decide⟩ (rd_rh (v := arg21.view) h8 ⟨1, by decide⟩ ⟨10, by decide⟩ _) (rd_mz (v := arg22.view) h9 ⟨1, by decide⟩ ⟨10, by decide⟩ _) (rd_wt (v := arg16.view) h3 ⟨1, by decide⟩ ⟨10, by decide⟩ _) ⟨1, by decide⟩ rfl _) <|
    pc (tm_piece Cr ⟨1, by decide⟩ ⟨9, by decide⟩ (rd_rh (v := arg21.view) h8 ⟨1, by decide⟩ ⟨9, by decide⟩ _) (rd_mz (v := arg22.view) h9 ⟨1, by decide⟩ ⟨9, by decide⟩ _) (rd_wt (v := arg16.view) h3 ⟨1, by decide⟩ ⟨9, by decide⟩ _) ⟨3, by decide⟩ rfl _) <|
    pc (tp_piece Cr ⟨1, by decide⟩ ⟨9, by decide⟩ (rd_rh (v := arg21.view) h8 ⟨1, by decide⟩ ⟨9, by decide⟩ _) (rd_mz (v := arg22.view) h9 ⟨1, by decide⟩ ⟨9, by decide⟩ _) (rd_wt (v := arg16.view) h3 ⟨1, by decide⟩ ⟨9, by decide⟩ _) ⟨1, by decide⟩ rfl _) <|
    pc (tm_piece Cr ⟨1, by decide⟩ ⟨8, by decide⟩ (rd_rh (v := arg21.view) h8 ⟨1, by decide⟩ ⟨8, by decide⟩ _) (rd_mz (v := arg22.view) h9 ⟨1, by decide⟩ ⟨8, by decide⟩ _) (rd_wt (v := arg16.view) h3 ⟨1, by decide⟩ ⟨8, by decide⟩ _) ⟨3, by decide⟩ rfl _) <|
    pc (tp_piece Cr ⟨1, by decide⟩ ⟨8, by decide⟩ (rd_rh (v := arg21.view) h8 ⟨1, by decide⟩ ⟨8, by decide⟩ _) (rd_mz (v := arg22.view) h9 ⟨1, by decide⟩ ⟨8, by decide⟩ _) (rd_wt (v := arg16.view) h3 ⟨1, by decide⟩ ⟨8, by decide⟩ _) ⟨1, by decide⟩ rfl _) <|
    pc (tm_piece Cr ⟨1, by decide⟩ ⟨7, by decide⟩ (rd_rh (v := arg21.view) h8 ⟨1, by decide⟩ ⟨7, by decide⟩ _) (rd_mz (v := arg22.view) h9 ⟨1, by decide⟩ ⟨7, by decide⟩ _) (rd_wt (v := arg16.view) h3 ⟨1, by decide⟩ ⟨7, by decide⟩ _) ⟨3, by decide⟩ rfl _) <|
    pc (tp_piece Cr ⟨1, by decide⟩ ⟨7, by decide⟩ (rd_rh (v := arg21.view) h8 ⟨1, by decide⟩ ⟨7, by decide⟩ _) (rd_mz (v := arg22.view) h9 ⟨1, by decide⟩ ⟨7, by decide⟩ _) (rd_wt (v := arg16.view) h3 ⟨1, by decide⟩ ⟨7, by decide⟩ _) ⟨1, by decide⟩ rfl _) <|
    pc (tm_piece Cr ⟨1, by decide⟩ ⟨6, by decide⟩ (rd_rh (v := arg21.view) h8 ⟨1, by decide⟩ ⟨6, by decide⟩ _) (rd_mz (v := arg22.view) h9 ⟨1, by decide⟩ ⟨6, by decide⟩ _) (rd_wt (v := arg16.view) h3 ⟨1, by decide⟩ ⟨6, by decide⟩ _) ⟨3, by decide⟩ rfl _) <|
    pc (tp_piece Cr ⟨1, by decide⟩ ⟨6, by decide⟩ (rd_rh (v := arg21.view) h8 ⟨1, by decide⟩ ⟨6, by decide⟩ _) (rd_mz (v := arg22.view) h9 ⟨1, by decide⟩ ⟨6, by decide⟩ _) (rd_wt (v := arg16.view) h3 ⟨1, by decide⟩ ⟨6, by decide⟩ _) ⟨1, by decide⟩ rfl _) <|
    pc (tm_piece Cr ⟨1, by decide⟩ ⟨5, by decide⟩ (rd_rh (v := arg21.view) h8 ⟨1, by decide⟩ ⟨5, by decide⟩ _) (rd_mz (v := arg22.view) h9 ⟨1, by decide⟩ ⟨5, by decide⟩ _) (rd_wt (v := arg16.view) h3 ⟨1, by decide⟩ ⟨5, by decide⟩ _) ⟨3, by decide⟩ rfl _) <|
    pc (tp_piece Cr ⟨1, by decide⟩ ⟨5, by decide⟩ (rd_rh (v := arg21.view) h8 ⟨1, by decide⟩ ⟨5, by decide⟩ _) (rd_mz (v := arg22.view) h9 ⟨1, by decide⟩ ⟨5, by decide⟩ _) (rd_wt (v := arg16.view) h3 ⟨1, by decide⟩ ⟨5, by decide⟩ _) ⟨1, by decide⟩ rfl _) <|
    pc (tm_piece Cr ⟨1, by decide⟩ ⟨4, by decide⟩ (rd_rh (v := arg21.view) h8 ⟨1, by decide⟩ ⟨4, by decide⟩ _) (rd_mz (v := arg22.view) h9 ⟨1, by decide⟩ ⟨4, by decide⟩ _) (rd_wt (v := arg16.view) h3 ⟨1, by decide⟩ ⟨4, by decide⟩ _) ⟨3, by decide⟩ rfl _) <|
    pc (tp_piece Cr ⟨1, by decide⟩ ⟨4, by decide⟩ (rd_rh (v := arg21.view) h8 ⟨1, by decide⟩ ⟨4, by decide⟩ _) (rd_mz (v := arg22.view) h9 ⟨1, by decide⟩ ⟨4, by decide⟩ _) (rd_wt (v := arg16.view) h3 ⟨1, by decide⟩ ⟨4, by decide⟩ _) ⟨1, by decide⟩ rfl _) <|
    pc (tm_piece Cr ⟨1, by decide⟩ ⟨3, by decide⟩ (rd_rh (v := arg21.view) h8 ⟨1, by decide⟩ ⟨3, by decide⟩ _) (rd_mz (v := arg22.view) h9 ⟨1, by decide⟩ ⟨3, by decide⟩ _) (rd_wt (v := arg16.view) h3 ⟨1, by decide⟩ ⟨3, by decide⟩ _) ⟨3, by decide⟩ rfl _) <|
    pc (tp_piece Cr ⟨1, by decide⟩ ⟨3, by decide⟩ (rd_rh (v := arg21.view) h8 ⟨1, by decide⟩ ⟨3, by decide⟩ _) (rd_mz (v := arg22.view) h9 ⟨1, by decide⟩ ⟨3, by decide⟩ _) (rd_wt (v := arg16.view) h3 ⟨1, by decide⟩ ⟨3, by decide⟩ _) ⟨1, by decide⟩ rfl _) <|
    pc (tm_piece Cr ⟨1, by decide⟩ ⟨2, by decide⟩ (rd_rh (v := arg21.view) h8 ⟨1, by decide⟩ ⟨2, by decide⟩ _) (rd_mz (v := arg22.view) h9 ⟨1, by decide⟩ ⟨2, by decide⟩ _) (rd_wt (v := arg16.view) h3 ⟨1, by decide⟩ ⟨2, by decide⟩ _) ⟨3, by decide⟩ rfl _) <|
    pc (tp_piece Cr ⟨1, by decide⟩ ⟨2, by decide⟩ (rd_rh (v := arg21.view) h8 ⟨1, by decide⟩ ⟨2, by decide⟩ _) (rd_mz (v := arg22.view) h9 ⟨1, by decide⟩ ⟨2, by decide⟩ _) (rd_wt (v := arg16.view) h3 ⟨1, by decide⟩ ⟨2, by decide⟩ _) ⟨1, by decide⟩ rfl _) <|
    pc (tm_piece Cr ⟨1, by decide⟩ ⟨1, by decide⟩ (rd_rh (v := arg21.view) h8 ⟨1, by decide⟩ ⟨1, by decide⟩ _) (rd_mz (v := arg22.view) h9 ⟨1, by decide⟩ ⟨1, by decide⟩ _) (rd_wt (v := arg16.view) h3 ⟨1, by decide⟩ ⟨1, by decide⟩ _) ⟨3, by decide⟩ rfl _) <|
    pc (tp_piece Cr ⟨1, by decide⟩ ⟨1, by decide⟩ (rd_rh (v := arg21.view) h8 ⟨1, by decide⟩ ⟨1, by decide⟩ _) (rd_mz (v := arg22.view) h9 ⟨1, by decide⟩ ⟨1, by decide⟩ _) (rd_wt (v := arg16.view) h3 ⟨1, by decide⟩ ⟨1, by decide⟩ _) ⟨1, by decide⟩ rfl _) <|
    pc (tm_piece Cr ⟨1, by decide⟩ ⟨0, by decide⟩ (rd_rh (v := arg21.view) h8 ⟨1, by decide⟩ ⟨0, by decide⟩ _) (rd_mz (v := arg22.view) h9 ⟨1, by decide⟩ ⟨0, by decide⟩ _) (rd_wt (v := arg16.view) h3 ⟨1, by decide⟩ ⟨0, by decide⟩ _) ⟨3, by decide⟩ rfl _) <|
    pc (tp_piece Cr ⟨1, by decide⟩ ⟨0, by decide⟩ (rd_rh (v := arg21.view) h8 ⟨1, by decide⟩ ⟨0, by decide⟩ _) (rd_mz (v := arg22.view) h9 ⟨1, by decide⟩ ⟨0, by decide⟩ _) (rd_wt (v := arg16.view) h3 ⟨1, by decide⟩ ⟨0, by decide⟩ _) ⟨1, by decide⟩ rfl _) <|
    pc (tm_piece Cr ⟨0, by decide⟩ ⟨15, by decide⟩ (rd_rh (v := arg21.view) h8 ⟨0, by decide⟩ ⟨15, by decide⟩ _) (rd_mz (v := arg22.view) h9 ⟨0, by decide⟩ ⟨15, by decide⟩ _) (rd_wt (v := arg16.view) h3 ⟨0, by decide⟩ ⟨15, by decide⟩ _) ⟨2, by decide⟩ rfl _) <|
    pc (tp_piece Cr ⟨0, by decide⟩ ⟨15, by decide⟩ (rd_rh (v := arg21.view) h8 ⟨0, by decide⟩ ⟨15, by decide⟩ _) (rd_mz (v := arg22.view) h9 ⟨0, by decide⟩ ⟨15, by decide⟩ _) (rd_wt (v := arg16.view) h3 ⟨0, by decide⟩ ⟨15, by decide⟩ _) ⟨0, by decide⟩ rfl _) <|
    pc (tm_piece Cr ⟨0, by decide⟩ ⟨14, by decide⟩ (rd_rh (v := arg21.view) h8 ⟨0, by decide⟩ ⟨14, by decide⟩ _) (rd_mz (v := arg22.view) h9 ⟨0, by decide⟩ ⟨14, by decide⟩ _) (rd_wt (v := arg16.view) h3 ⟨0, by decide⟩ ⟨14, by decide⟩ _) ⟨2, by decide⟩ rfl _) <|
    pc (tp_piece Cr ⟨0, by decide⟩ ⟨14, by decide⟩ (rd_rh (v := arg21.view) h8 ⟨0, by decide⟩ ⟨14, by decide⟩ _) (rd_mz (v := arg22.view) h9 ⟨0, by decide⟩ ⟨14, by decide⟩ _) (rd_wt (v := arg16.view) h3 ⟨0, by decide⟩ ⟨14, by decide⟩ _) ⟨0, by decide⟩ rfl _) <|
    pc (tm_piece Cr ⟨0, by decide⟩ ⟨13, by decide⟩ (rd_rh (v := arg21.view) h8 ⟨0, by decide⟩ ⟨13, by decide⟩ _) (rd_mz (v := arg22.view) h9 ⟨0, by decide⟩ ⟨13, by decide⟩ _) (rd_wt (v := arg16.view) h3 ⟨0, by decide⟩ ⟨13, by decide⟩ _) ⟨2, by decide⟩ rfl _) <|
    pc (tp_piece Cr ⟨0, by decide⟩ ⟨13, by decide⟩ (rd_rh (v := arg21.view) h8 ⟨0, by decide⟩ ⟨13, by decide⟩ _) (rd_mz (v := arg22.view) h9 ⟨0, by decide⟩ ⟨13, by decide⟩ _) (rd_wt (v := arg16.view) h3 ⟨0, by decide⟩ ⟨13, by decide⟩ _) ⟨0, by decide⟩ rfl _) <|
    pc (tm_piece Cr ⟨0, by decide⟩ ⟨12, by decide⟩ (rd_rh (v := arg21.view) h8 ⟨0, by decide⟩ ⟨12, by decide⟩ _) (rd_mz (v := arg22.view) h9 ⟨0, by decide⟩ ⟨12, by decide⟩ _) (rd_wt (v := arg16.view) h3 ⟨0, by decide⟩ ⟨12, by decide⟩ _) ⟨2, by decide⟩ rfl _) <|
    pc (tp_piece Cr ⟨0, by decide⟩ ⟨12, by decide⟩ (rd_rh (v := arg21.view) h8 ⟨0, by decide⟩ ⟨12, by decide⟩ _) (rd_mz (v := arg22.view) h9 ⟨0, by decide⟩ ⟨12, by decide⟩ _) (rd_wt (v := arg16.view) h3 ⟨0, by decide⟩ ⟨12, by decide⟩ _) ⟨0, by decide⟩ rfl _) <|
    pc (tm_piece Cr ⟨0, by decide⟩ ⟨11, by decide⟩ (rd_rh (v := arg21.view) h8 ⟨0, by decide⟩ ⟨11, by decide⟩ _) (rd_mz (v := arg22.view) h9 ⟨0, by decide⟩ ⟨11, by decide⟩ _) (rd_wt (v := arg16.view) h3 ⟨0, by decide⟩ ⟨11, by decide⟩ _) ⟨2, by decide⟩ rfl _) <|
    pc (tp_piece Cr ⟨0, by decide⟩ ⟨11, by decide⟩ (rd_rh (v := arg21.view) h8 ⟨0, by decide⟩ ⟨11, by decide⟩ _) (rd_mz (v := arg22.view) h9 ⟨0, by decide⟩ ⟨11, by decide⟩ _) (rd_wt (v := arg16.view) h3 ⟨0, by decide⟩ ⟨11, by decide⟩ _) ⟨0, by decide⟩ rfl _) <|
    pc (tm_piece Cr ⟨0, by decide⟩ ⟨10, by decide⟩ (rd_rh (v := arg21.view) h8 ⟨0, by decide⟩ ⟨10, by decide⟩ _) (rd_mz (v := arg22.view) h9 ⟨0, by decide⟩ ⟨10, by decide⟩ _) (rd_wt (v := arg16.view) h3 ⟨0, by decide⟩ ⟨10, by decide⟩ _) ⟨2, by decide⟩ rfl _) <|
    pc (tp_piece Cr ⟨0, by decide⟩ ⟨10, by decide⟩ (rd_rh (v := arg21.view) h8 ⟨0, by decide⟩ ⟨10, by decide⟩ _) (rd_mz (v := arg22.view) h9 ⟨0, by decide⟩ ⟨10, by decide⟩ _) (rd_wt (v := arg16.view) h3 ⟨0, by decide⟩ ⟨10, by decide⟩ _) ⟨0, by decide⟩ rfl _) <|
    pc (tm_piece Cr ⟨0, by decide⟩ ⟨9, by decide⟩ (rd_rh (v := arg21.view) h8 ⟨0, by decide⟩ ⟨9, by decide⟩ _) (rd_mz (v := arg22.view) h9 ⟨0, by decide⟩ ⟨9, by decide⟩ _) (rd_wt (v := arg16.view) h3 ⟨0, by decide⟩ ⟨9, by decide⟩ _) ⟨2, by decide⟩ rfl _) <|
    pc (tp_piece Cr ⟨0, by decide⟩ ⟨9, by decide⟩ (rd_rh (v := arg21.view) h8 ⟨0, by decide⟩ ⟨9, by decide⟩ _) (rd_mz (v := arg22.view) h9 ⟨0, by decide⟩ ⟨9, by decide⟩ _) (rd_wt (v := arg16.view) h3 ⟨0, by decide⟩ ⟨9, by decide⟩ _) ⟨0, by decide⟩ rfl _) <|
    pc (tm_piece Cr ⟨0, by decide⟩ ⟨8, by decide⟩ (rd_rh (v := arg21.view) h8 ⟨0, by decide⟩ ⟨8, by decide⟩ _) (rd_mz (v := arg22.view) h9 ⟨0, by decide⟩ ⟨8, by decide⟩ _) (rd_wt (v := arg16.view) h3 ⟨0, by decide⟩ ⟨8, by decide⟩ _) ⟨2, by decide⟩ rfl _) <|
    pc (tp_piece Cr ⟨0, by decide⟩ ⟨8, by decide⟩ (rd_rh (v := arg21.view) h8 ⟨0, by decide⟩ ⟨8, by decide⟩ _) (rd_mz (v := arg22.view) h9 ⟨0, by decide⟩ ⟨8, by decide⟩ _) (rd_wt (v := arg16.view) h3 ⟨0, by decide⟩ ⟨8, by decide⟩ _) ⟨0, by decide⟩ rfl _) <|
    pc (tm_piece Cr ⟨0, by decide⟩ ⟨7, by decide⟩ (rd_rh (v := arg21.view) h8 ⟨0, by decide⟩ ⟨7, by decide⟩ _) (rd_mz (v := arg22.view) h9 ⟨0, by decide⟩ ⟨7, by decide⟩ _) (rd_wt (v := arg16.view) h3 ⟨0, by decide⟩ ⟨7, by decide⟩ _) ⟨2, by decide⟩ rfl _) <|
    pc (tp_piece Cr ⟨0, by decide⟩ ⟨7, by decide⟩ (rd_rh (v := arg21.view) h8 ⟨0, by decide⟩ ⟨7, by decide⟩ _) (rd_mz (v := arg22.view) h9 ⟨0, by decide⟩ ⟨7, by decide⟩ _) (rd_wt (v := arg16.view) h3 ⟨0, by decide⟩ ⟨7, by decide⟩ _) ⟨0, by decide⟩ rfl _) <|
    pc (tm_piece Cr ⟨0, by decide⟩ ⟨6, by decide⟩ (rd_rh (v := arg21.view) h8 ⟨0, by decide⟩ ⟨6, by decide⟩ _) (rd_mz (v := arg22.view) h9 ⟨0, by decide⟩ ⟨6, by decide⟩ _) (rd_wt (v := arg16.view) h3 ⟨0, by decide⟩ ⟨6, by decide⟩ _) ⟨2, by decide⟩ rfl _) <|
    pc (tp_piece Cr ⟨0, by decide⟩ ⟨6, by decide⟩ (rd_rh (v := arg21.view) h8 ⟨0, by decide⟩ ⟨6, by decide⟩ _) (rd_mz (v := arg22.view) h9 ⟨0, by decide⟩ ⟨6, by decide⟩ _) (rd_wt (v := arg16.view) h3 ⟨0, by decide⟩ ⟨6, by decide⟩ _) ⟨0, by decide⟩ rfl _) <|
    pc (tm_piece Cr ⟨0, by decide⟩ ⟨5, by decide⟩ (rd_rh (v := arg21.view) h8 ⟨0, by decide⟩ ⟨5, by decide⟩ _) (rd_mz (v := arg22.view) h9 ⟨0, by decide⟩ ⟨5, by decide⟩ _) (rd_wt (v := arg16.view) h3 ⟨0, by decide⟩ ⟨5, by decide⟩ _) ⟨2, by decide⟩ rfl _) <|
    pc (tp_piece Cr ⟨0, by decide⟩ ⟨5, by decide⟩ (rd_rh (v := arg21.view) h8 ⟨0, by decide⟩ ⟨5, by decide⟩ _) (rd_mz (v := arg22.view) h9 ⟨0, by decide⟩ ⟨5, by decide⟩ _) (rd_wt (v := arg16.view) h3 ⟨0, by decide⟩ ⟨5, by decide⟩ _) ⟨0, by decide⟩ rfl _) <|
    pc (tm_piece Cr ⟨0, by decide⟩ ⟨4, by decide⟩ (rd_rh (v := arg21.view) h8 ⟨0, by decide⟩ ⟨4, by decide⟩ _) (rd_mz (v := arg22.view) h9 ⟨0, by decide⟩ ⟨4, by decide⟩ _) (rd_wt (v := arg16.view) h3 ⟨0, by decide⟩ ⟨4, by decide⟩ _) ⟨2, by decide⟩ rfl _) <|
    pc (tp_piece Cr ⟨0, by decide⟩ ⟨4, by decide⟩ (rd_rh (v := arg21.view) h8 ⟨0, by decide⟩ ⟨4, by decide⟩ _) (rd_mz (v := arg22.view) h9 ⟨0, by decide⟩ ⟨4, by decide⟩ _) (rd_wt (v := arg16.view) h3 ⟨0, by decide⟩ ⟨4, by decide⟩ _) ⟨0, by decide⟩ rfl _) <|
    pc (tm_piece Cr ⟨0, by decide⟩ ⟨3, by decide⟩ (rd_rh (v := arg21.view) h8 ⟨0, by decide⟩ ⟨3, by decide⟩ _) (rd_mz (v := arg22.view) h9 ⟨0, by decide⟩ ⟨3, by decide⟩ _) (rd_wt (v := arg16.view) h3 ⟨0, by decide⟩ ⟨3, by decide⟩ _) ⟨2, by decide⟩ rfl _) <|
    pc (tp_piece Cr ⟨0, by decide⟩ ⟨3, by decide⟩ (rd_rh (v := arg21.view) h8 ⟨0, by decide⟩ ⟨3, by decide⟩ _) (rd_mz (v := arg22.view) h9 ⟨0, by decide⟩ ⟨3, by decide⟩ _) (rd_wt (v := arg16.view) h3 ⟨0, by decide⟩ ⟨3, by decide⟩ _) ⟨0, by decide⟩ rfl _) <|
    pc (tm_piece Cr ⟨0, by decide⟩ ⟨2, by decide⟩ (rd_rh (v := arg21.view) h8 ⟨0, by decide⟩ ⟨2, by decide⟩ _) (rd_mz (v := arg22.view) h9 ⟨0, by decide⟩ ⟨2, by decide⟩ _) (rd_wt (v := arg16.view) h3 ⟨0, by decide⟩ ⟨2, by decide⟩ _) ⟨2, by decide⟩ rfl _) <|
    pc (tp_piece Cr ⟨0, by decide⟩ ⟨2, by decide⟩ (rd_rh (v := arg21.view) h8 ⟨0, by decide⟩ ⟨2, by decide⟩ _) (rd_mz (v := arg22.view) h9 ⟨0, by decide⟩ ⟨2, by decide⟩ _) (rd_wt (v := arg16.view) h3 ⟨0, by decide⟩ ⟨2, by decide⟩ _) ⟨0, by decide⟩ rfl _) <|
    pc (tm_piece Cr ⟨0, by decide⟩ ⟨1, by decide⟩ (rd_rh (v := arg21.view) h8 ⟨0, by decide⟩ ⟨1, by decide⟩ _) (rd_mz (v := arg22.view) h9 ⟨0, by decide⟩ ⟨1, by decide⟩ _) (rd_wt (v := arg16.view) h3 ⟨0, by decide⟩ ⟨1, by decide⟩ _) ⟨2, by decide⟩ rfl _) <|
    pc (tp_piece Cr ⟨0, by decide⟩ ⟨1, by decide⟩ (rd_rh (v := arg21.view) h8 ⟨0, by decide⟩ ⟨1, by decide⟩ _) (rd_mz (v := arg22.view) h9 ⟨0, by decide⟩ ⟨1, by decide⟩ _) (rd_wt (v := arg16.view) h3 ⟨0, by decide⟩ ⟨1, by decide⟩ _) ⟨0, by decide⟩ rfl _) <|
    pc (tm_piece Cr ⟨0, by decide⟩ ⟨0, by decide⟩ (rd_rh (v := arg21.view) h8 ⟨0, by decide⟩ ⟨0, by decide⟩ _) (rd_mz (v := arg22.view) h9 ⟨0, by decide⟩ ⟨0, by decide⟩ _) (rd_wt (v := arg16.view) h3 ⟨0, by decide⟩ ⟨0, by decide⟩ _) ⟨2, by decide⟩ rfl _) <|
    pc (tp_piece Cr ⟨0, by decide⟩ ⟨0, by decide⟩ (rd_rh (v := arg21.view) h8 ⟨0, by decide⟩ ⟨0, by decide⟩ _) (rd_mz (v := arg22.view) h9 ⟨0, by decide⟩ ⟨0, by decide⟩ _) (rd_wt (v := arg16.view) h3 ⟨0, by decide⟩ ⟨0, by decide⟩ _) ⟨0, by decide⟩ rfl _) <| pn) S1x128x128.size (by sl_kernel_rfl)

theorem HS0 : View.canon (kernelRun0_A.sl.HS0_1 c arg1 harg1 x0) = (fun j => x0 j : Vec Ideal S256x2048 .bf16) := by
  refine cn (pc (fun x => ?_) <| pn) S256x2048.size (by sl_kernel_rfl)
  obtain ⟨a, b, rfl⟩ := exi2 x
  change k0_pay6 (F := Ideal) _ _ = _
  pointwise [k0_pay6, k0_pay5]
  rw [ra_xb]
  congr 1; funext i; apply Fin.ext; fin_cases i <;> simp [Rect.emb, Rect.unit, LoadRect.idx]
def Bxt (x0 : Vec Ideal S256x2048 .fp8e4m3) : Vec Ideal S2048x256 .bf16 := fun j => x0 (ix2 (j 1) (j 0))
def Bxs (x1 : Vec Ideal S1x256 .f32) : Vec Ideal S256x128 .f32 := fun j => x1 (ix2 0 (j 0))
def Blz : Vec Ideal S8x128 .f32 := fun _ => 0
theorem HS1 : View.canon (kernelRun0_A.sl.HS1_1 c arg1 harg1 x0) = Bxt x0 := by
  refine cn (pc (fun x => ?_) <| pn) S2048x256.size (by sl_kernel_rfl)
  obtain ⟨a, b, rfl⟩ := exi2 x
  change k0_pay7 (F := Ideal) _ _ = _
  pointwise [k0_pay7, k0_pay5]
  rw [ra_xb]
  unfold Bxt
  congr 1; funext i; apply Fin.ext; fin_cases i <;> simp [Rect.emb, Rect.unit, LoadRect.idx]
theorem HS2 : View.canon (kernelRun0_A.sl.HS2_1 c arg2 harg2 x1) = Bxs x1 := by
  refine cn (pc (fun x => ?_) <| pn) S256x128.size (by sl_kernel_rfl)
  obtain ⟨a, b, rfl⟩ := exi2 x
  change k0_pay8 (F := Ideal) _ _ = _
  pointwise [k0_pay8]
  rw [ra_x1]
  unfold Bxs
  congr 1; funext i; apply Fin.ext; fin_cases i <;> simp [Rect.emb, Rect.unit, LoadRect.idx]
theorem HS12a : View.canon (kernelRun0_A.sl.HS12_1 (F := Ideal)) = Blz := by
  refine cn (pc (fun x => ?_) <| pn) S8x128.size (by sl_kernel_rfl)
  obtain ⟨a, b, rfl⟩ := exi2 x
  change k0_pay9 (F := Ideal) _ = _
  unfold Blz
  pointwise [k0_pay9]
theorem bxt (hx : ∀ s d r, x0 (ix2 s d) = (Cr r).X s d) (r d s) : Bxt x0 (ix2 d s) = (Cr r).X s d := hx s d r

include hw hga hbe hy hx hxs in
theorem ES (s r : Fin 256) : (kernelRun0_A.sl.r_21 c arg1 harg1 arg2 harg2 arg3 harg3 arg4 harg4 arg5 harg5 arg6 harg6 arg11 arg13 arg15 arg16 arg17 arg19 arg20 arg21 arg22 x0 x1 x2 x3 x4 x5) (ix2 s r) = (Cr r).kE s * (Cr r).xs s := by
  have h4 := HS4 c arg3 harg3 arg4 harg4 arg5 harg5 arg11 arg16 arg19 arg20 arg21 arg22 x2 x3 x4 hw hga hbe
  have hV : ∀ s d r, _ := fun s d r => (rd_all (v := arg13.view) (HS0 c arg1 harg1 x0) inb_S256x2048_S256x2048_0_0 s d).trans (hx s d r)
  have hXS : ∀ s a r, _ := fun s a r => (rd_all (v := arg15.view) (HS2 c arg2 harg2 x1) inb_S256x128_S256x128_0_0 s a).trans (hxs s r)
  have hWh := rd_what (v := arg17.view) h4 inb_S2048x256_S2048x256_0_0
  have hY0 := ra_y harg6 hy ⟨0, by decide⟩ inb_S256x256_S256x128_0_0
  have hY1 := ra_y harg6 hy ⟨1, by decide⟩ inb_S256x256_S256x128_0_128
  exact es_at Cr hV hWh hXS hY0 hY1 s r
include hw hga hbe hy hx hxs in
theorem HS10 : View.canon (kernelRun0_A.sl.HS10_32 c arg1 harg1 arg2 harg2 arg3 harg3 arg4 harg4 arg5 harg5 arg6 harg6 arg11 arg13 arg14 arg15 arg16 arg17 arg18 arg19 arg20 arg21 arg22 x0 x1 x2 x3 x4 x5) = Bshp Cr := by
  have h5 := HS5 c arg3 harg3 arg4 harg4 arg5 harg5 arg16 arg19 arg20 arg21 arg22 x2 x3 x4 hw hga hbe
  have hES := ES c arg1 harg1 arg2 harg2 arg3 harg3 arg4 harg4 arg5 harg5 arg6 harg6 arg11 arg13 arg15 arg16 arg17 arg19 arg20 arg21 arg22 x0 x1 x2 x3 x4 x5 hw hga hbe hy hx hxs
  have hT0 : ∀ k s r, _ := (fun k s r => rd_xt (Cr := Cr) (v := arg14.view) (HS1 c arg1 harg1 x0) (bxt x0 hx r) ⟨0, by decide⟩ inb_S2048x256_S128x256_0_0 k s)
  have hT1 : ∀ k s r, _ := (fun k s r => rd_xt (Cr := Cr) (v := arg14.view) (HS1 c arg1 harg1 x0) (bxt x0 hx r) ⟨1, by decide⟩ inb_S2048x256_S128x256_128_0 k s)
  have hT2 : ∀ k s r, _ := (fun k s r => rd_xt (Cr := Cr) (v := arg14.view) (HS1 c arg1 harg1 x0) (bxt x0 hx r) ⟨2, by decide⟩ inb_S2048x256_S128x256_256_0 k s)
  have hT3 : ∀ k s r, _ := (fun k s r => rd_xt (Cr := Cr) (v := arg14.view) (HS1 c arg1 harg1 x0) (bxt x0 hx r) ⟨3, by decide⟩ inb_S2048x256_S128x256_384_0 k s)
  have hT4 : ∀ k s r, _ := (fun k s r => rd_xt (Cr := Cr) (v := arg14.view) (HS1 c arg1 harg1 x0) (bxt x0 hx r) ⟨4, by decide⟩ inb_S2048x256_S128x256_512_0 k s)
  have hT5 : ∀ k s r, _ := (fun k s r => rd_xt (Cr := Cr) (v := arg14.view) (HS1 c arg1 harg1 x0) (bxt x0 hx r) ⟨5, by decide⟩ inb_S2048x256_S128x256_640_0 k s)
  have hT6 : ∀ k s r, _ := (fun k s r => rd_xt (Cr := Cr) (v := arg14.view) (HS1 c arg1 harg1 x0) (bxt x0 hx r) ⟨6, by decide⟩ inb_S2048x256_S128x256_768_0 k s)
  have hT7 : ∀ k s r, _ := (fun k s r => rd_xt (Cr := Cr) (v := arg14.view) (HS1 c arg1 harg1 x0) (bxt x0 hx r) ⟨7, by decide⟩ inb_S2048x256_S128x256_896_0 k s)
  have hT8 : ∀ k s r, _ := (fun k s r => rd_xt (Cr := Cr) (v := arg14.view) (HS1 c arg1 harg1 x0) (bxt x0 hx r) ⟨8, by decide⟩ inb_S2048x256_S128x256_1024_0 k s)
  have hT9 : ∀ k s r, _ := (fun k s r => rd_xt (Cr := Cr) (v := arg14.view) (HS1 c arg1 harg1 x0) (bxt x0 hx r) ⟨9, by decide⟩ inb_S2048x256_S128x256_1152_0 k s)
  have hT10 : ∀ k s r, _ := (fun k s r => rd_xt (Cr := Cr) (v := arg14.view) (HS1 c arg1 harg1 x0) (bxt x0 hx r) ⟨10, by decide⟩ inb_S2048x256_S128x256_1280_0 k s)
  have hT11 : ∀ k s r, _ := (fun k s r => rd_xt (Cr := Cr) (v := arg14.view) (HS1 c arg1 harg1 x0) (bxt x0 hx r) ⟨11, by decide⟩ inb_S2048x256_S128x256_1408_0 k s)
  have hT12 : ∀ k s r, _ := (fun k s r => rd_xt (Cr := Cr) (v := arg14.view) (HS1 c arg1 harg1 x0) (bxt x0 hx r) ⟨12, by decide⟩ inb_S2048x256_S128x256_1536_0 k s)
  have hT13 : ∀ k s r, _ := (fun k s r => rd_xt (Cr := Cr) (v := arg14.view) (HS1 c arg1 harg1 x0) (bxt x0 hx r) ⟨13, by decide⟩ inb_S2048x256_S128x256_1664_0 k s)
  have hT14 : ∀ k s r, _ := (fun k s r => rd_xt (Cr := Cr) (v := arg14.view) (HS1 c arg1 harg1 x0) (bxt x0 hx r) ⟨14, by decide⟩ inb_S2048x256_S128x256_1792_0 k s)
  have hT15 : ∀ k s r, _ := (fun k s r => rd_xt (Cr := Cr) (v := arg14.view) (HS1 c arg1 harg1 x0) (bxt x0 hx r) ⟨15, by decide⟩ inb_S2048x256_S128x256_1920_0 k s)
  exact cn (pc (shp_piece1 Cr ⟨15, by decide⟩ hES hT15 (rd_tp (v := arg18.view) h5 ⟨1, by decide⟩ ⟨1, by decide⟩ rfl ⟨15, by decide⟩ _) _) <|
    pc (shp_piece0 Cr ⟨15, by decide⟩ hES hT15 (rd_tp (v := arg18.view) h5 ⟨0, by decide⟩ ⟨0, by decide⟩ rfl ⟨15, by decide⟩ _) _) <|
    pc (shp_piece1 Cr ⟨14, by decide⟩ hES hT14 (rd_tp (v := arg18.view) h5 ⟨1, by decide⟩ ⟨1, by decide⟩ rfl ⟨14, by decide⟩ _) _) <|
    pc (shp_piece0 Cr ⟨14, by decide⟩ hES hT14 (rd_tp (v := arg18.view) h5 ⟨0, by decide⟩ ⟨0, by decide⟩ rfl ⟨14, by decide⟩ _) _) <|
    pc (shp_piece1 Cr ⟨13, by decide⟩ hES hT13 (rd_tp (v := arg18.view) h5 ⟨1, by decide⟩ ⟨1, by decide⟩ rfl ⟨13, by decide⟩ _) _) <|
    pc (shp_piece0 Cr ⟨13, by decide⟩ hES hT13 (rd_tp (v := arg18.view) h5 ⟨0, by decide⟩ ⟨0, by decide⟩ rfl ⟨13, by decide⟩ _) _) <|
    pc (shp_piece1 Cr ⟨12, by decide⟩ hES hT12 (rd_tp (v := arg18.view) h5 ⟨1, by decide⟩ ⟨1, by decide⟩ rfl ⟨12, by decide⟩ _) _) <|
    pc (shp_piece0 Cr ⟨12, by decide⟩ hES hT12 (rd_tp (v := arg18.view) h5 ⟨0, by decide⟩ ⟨0, by decide⟩ rfl ⟨12, by decide⟩ _) _) <|
    pc (shp_piece1 Cr ⟨11, by decide⟩ hES hT11 (rd_tp (v := arg18.view) h5 ⟨1, by decide⟩ ⟨1, by decide⟩ rfl ⟨11, by decide⟩ _) _) <|
    pc (shp_piece0 Cr ⟨11, by decide⟩ hES hT11 (rd_tp (v := arg18.view) h5 ⟨0, by decide⟩ ⟨0, by decide⟩ rfl ⟨11, by decide⟩ _) _) <|
    pc (shp_piece1 Cr ⟨10, by decide⟩ hES hT10 (rd_tp (v := arg18.view) h5 ⟨1, by decide⟩ ⟨1, by decide⟩ rfl ⟨10, by decide⟩ _) _) <|
    pc (shp_piece0 Cr ⟨10, by decide⟩ hES hT10 (rd_tp (v := arg18.view) h5 ⟨0, by decide⟩ ⟨0, by decide⟩ rfl ⟨10, by decide⟩ _) _) <|
    pc (shp_piece1 Cr ⟨9, by decide⟩ hES hT9 (rd_tp (v := arg18.view) h5 ⟨1, by decide⟩ ⟨1, by decide⟩ rfl ⟨9, by decide⟩ _) _) <|
    pc (shp_piece0 Cr ⟨9, by decide⟩ hES hT9 (rd_tp (v := arg18.view) h5 ⟨0, by decide⟩ ⟨0, by decide⟩ rfl ⟨9, by decide⟩ _) _) <|
    pc (shp_piece1 Cr ⟨8, by decide⟩ hES hT8 (rd_tp (v := arg18.view) h5 ⟨1, by decide⟩ ⟨1, by decide⟩ rfl ⟨8, by decide⟩ _) _) <|
    pc (shp_piece0 Cr ⟨8, by decide⟩ hES hT8 (rd_tp (v := arg18.view) h5 ⟨0, by decide⟩ ⟨0, by decide⟩ rfl ⟨8, by decide⟩ _) _) <|
    pc (shp_piece1 Cr ⟨7, by decide⟩ hES hT7 (rd_tp (v := arg18.view) h5 ⟨1, by decide⟩ ⟨1, by decide⟩ rfl ⟨7, by decide⟩ _) _) <|
    pc (shp_piece0 Cr ⟨7, by decide⟩ hES hT7 (rd_tp (v := arg18.view) h5 ⟨0, by decide⟩ ⟨0, by decide⟩ rfl ⟨7, by decide⟩ _) _) <|
    pc (shp_piece1 Cr ⟨6, by decide⟩ hES hT6 (rd_tp (v := arg18.view) h5 ⟨1, by decide⟩ ⟨1, by decide⟩ rfl ⟨6, by decide⟩ _) _) <|
    pc (shp_piece0 Cr ⟨6, by decide⟩ hES hT6 (rd_tp (v := arg18.view) h5 ⟨0, by decide⟩ ⟨0, by decide⟩ rfl ⟨6, by decide⟩ _) _) <|
    pc (shp_piece1 Cr ⟨5, by decide⟩ hES hT5 (rd_tp (v := arg18.view) h5 ⟨1, by decide⟩ ⟨1, by decide⟩ rfl ⟨5, by decide⟩ _) _) <|
    pc (shp_piece0 Cr ⟨5, by decide⟩ hES hT5 (rd_tp (v := arg18.view) h5 ⟨0, by decide⟩ ⟨0, by decide⟩ rfl ⟨5, by decide⟩ _) _) <|
    pc (shp_piece1 Cr ⟨4, by decide⟩ hES hT4 (rd_tp (v := arg18.view) h5 ⟨1, by decide⟩ ⟨1, by decide⟩ rfl ⟨4, by decide⟩ _) _) <|
    pc (shp_piece0 Cr ⟨4, by decide⟩ hES hT4 (rd_tp (v := arg18.view) h5 ⟨0, by decide⟩ ⟨0, by decide⟩ rfl ⟨4, by decide⟩ _) _) <|
    pc (shp_piece1 Cr ⟨3, by decide⟩ hES hT3 (rd_tp (v := arg18.view) h5 ⟨1, by decide⟩ ⟨1, by decide⟩ rfl ⟨3, by decide⟩ _) _) <|
    pc (shp_piece0 Cr ⟨3, by decide⟩ hES hT3 (rd_tp (v := arg18.view) h5 ⟨0, by decide⟩ ⟨0, by decide⟩ rfl ⟨3, by decide⟩ _) _) <|
    pc (shp_piece1 Cr ⟨2, by decide⟩ hES hT2 (rd_tp (v := arg18.view) h5 ⟨1, by decide⟩ ⟨1, by decide⟩ rfl ⟨2, by decide⟩ _) _) <|
    pc (shp_piece0 Cr ⟨2, by decide⟩ hES hT2 (rd_tp (v := arg18.view) h5 ⟨0, by decide⟩ ⟨0, by decide⟩ rfl ⟨2, by decide⟩ _) _) <|
    pc (shp_piece1 Cr ⟨1, by decide⟩ hES hT1 (rd_tp (v := arg18.view) h5 ⟨1, by decide⟩ ⟨1, by decide⟩ rfl ⟨1, by decide⟩ _) _) <|
    pc (shp_piece0 Cr ⟨1, by decide⟩ hES hT1 (rd_tp (v := arg18.view) h5 ⟨0, by decide⟩ ⟨0, by decide⟩ rfl ⟨1, by decide⟩ _) _) <|
    pc (shp_piece1 Cr ⟨0, by decide⟩ hES hT0 (rd_tp (v := arg18.view) h5 ⟨1, by decide⟩ ⟨1, by decide⟩ rfl ⟨0, by decide⟩ _) _) <|
    pc (shp_piece0 Cr ⟨0, by decide⟩ hES hT0 (rd_tp (v := arg18.view) h5 ⟨0, by decide⟩ ⟨0, by decide⟩ rfl ⟨0, by decide⟩ _) _) <| pn) S1x8x128.size (by sl_kernel_rfl)
include hw hga hbe hy hx hxs in
theorem HS11 : View.canon (kernelRun0_A.sl.HS11_32 c arg1 harg1 arg2 harg2 arg3 harg3 arg4 harg4 arg5 harg5 arg6 harg6 arg11 arg13 arg14 arg15 arg16 arg17 arg18 arg19 arg20 arg21 arg22 x0 x1 x2 x3 x4 x5) = Bscp Cr := by
  have h5 := HS5 c arg3 harg3 arg4 harg4 arg5 harg5 arg16 arg19 arg20 arg21 arg22 x2 x3 x4 hw hga hbe
  have hES := ES c arg1 harg1 arg2 harg2 arg3 harg3 arg4 harg4 arg5 harg5 arg6 harg6 arg11 arg13 arg15 arg16 arg17 arg19 arg20 arg21 arg22 x0 x1 x2 x3 x4 x5 hw hga hbe hy hx hxs
  have hT0 : ∀ k s r, _ := (fun k s r => rd_xt (Cr := Cr) (v := arg14.view) (HS1 c arg1 harg1 x0) (bxt x0 hx r) ⟨0, by decide⟩ inb_S2048x256_S128x256_0_0 k s)
  have hT1 : ∀ k s r, _ := (fun k s r => rd_xt (Cr := Cr) (v := arg14.view) (HS1 c arg1 harg1 x0) (bxt x0 hx r) ⟨1, by decide⟩ inb_S2048x256_S128x256_128_0 k s)
  have hT2 : ∀ k s r, _ := (fun k s r => rd_xt (Cr := Cr) (v := arg14.view) (HS1 c arg1 harg1 x0) (bxt x0 hx r) ⟨2, by decide⟩ inb_S2048x256_S128x256_256_0 k s)
  have hT3 : ∀ k s r, _ := (fun k s r => rd_xt (Cr := Cr) (v := arg14.view) (HS1 c arg1 harg1 x0) (bxt x0 hx r) ⟨3, by decide⟩ inb_S2048x256_S128x256_384_0 k s)
  have hT4 : ∀ k s r, _ := (fun k s r => rd_xt (Cr := Cr) (v := arg14.view) (HS1 c arg1 harg1 x0) (bxt x0 hx r) ⟨4, by decide⟩ inb_S2048x256_S128x256_512_0 k s)
  have hT5 : ∀ k s r, _ := (fun k s r => rd_xt (Cr := Cr) (v := arg14.view) (HS1 c arg1 harg1 x0) (bxt x0 hx r) ⟨5, by decide⟩ inb_S2048x256_S128x256_640_0 k s)
  have hT6 : ∀ k s r, _ := (fun k s r => rd_xt (Cr := Cr) (v := arg14.view) (HS1 c arg1 harg1 x0) (bxt x0 hx r) ⟨6, by decide⟩ inb_S2048x256_S128x256_768_0 k s)
  have hT7 : ∀ k s r, _ := (fun k s r => rd_xt (Cr := Cr) (v := arg14.view) (HS1 c arg1 harg1 x0) (bxt x0 hx r) ⟨7, by decide⟩ inb_S2048x256_S128x256_896_0 k s)
  have hT8 : ∀ k s r, _ := (fun k s r => rd_xt (Cr := Cr) (v := arg14.view) (HS1 c arg1 harg1 x0) (bxt x0 hx r) ⟨8, by decide⟩ inb_S2048x256_S128x256_1024_0 k s)
  have hT9 : ∀ k s r, _ := (fun k s r => rd_xt (Cr := Cr) (v := arg14.view) (HS1 c arg1 harg1 x0) (bxt x0 hx r) ⟨9, by decide⟩ inb_S2048x256_S128x256_1152_0 k s)
  have hT10 : ∀ k s r, _ := (fun k s r => rd_xt (Cr := Cr) (v := arg14.view) (HS1 c arg1 harg1 x0) (bxt x0 hx r) ⟨10, by decide⟩ inb_S2048x256_S128x256_1280_0 k s)
  have hT11 : ∀ k s r, _ := (fun k s r => rd_xt (Cr := Cr) (v := arg14.view) (HS1 c arg1 harg1 x0) (bxt x0 hx r) ⟨11, by decide⟩ inb_S2048x256_S128x256_1408_0 k s)
  have hT12 : ∀ k s r, _ := (fun k s r => rd_xt (Cr := Cr) (v := arg14.view) (HS1 c arg1 harg1 x0) (bxt x0 hx r) ⟨12, by decide⟩ inb_S2048x256_S128x256_1536_0 k s)
  have hT13 : ∀ k s r, _ := (fun k s r => rd_xt (Cr := Cr) (v := arg14.view) (HS1 c arg1 harg1 x0) (bxt x0 hx r) ⟨13, by decide⟩ inb_S2048x256_S128x256_1664_0 k s)
  have hT14 : ∀ k s r, _ := (fun k s r => rd_xt (Cr := Cr) (v := arg14.view) (HS1 c arg1 harg1 x0) (bxt x0 hx r) ⟨14, by decide⟩ inb_S2048x256_S128x256_1792_0 k s)
  have hT15 : ∀ k s r, _ := (fun k s r => rd_xt (Cr := Cr) (v := arg14.view) (HS1 c arg1 harg1 x0) (bxt x0 hx r) ⟨15, by decide⟩ inb_S2048x256_S128x256_1920_0 k s)
  exact cn (pc (scp_piece1 Cr ⟨15, by decide⟩ hES hT15 (rd_tm (v := arg18.view) h5 ⟨1, by decide⟩ ⟨3, by decide⟩ rfl ⟨15, by decide⟩ _) _) <|
    pc (scp_piece0 Cr ⟨15, by decide⟩ hES hT15 (rd_tm (v := arg18.view) h5 ⟨0, by decide⟩ ⟨2, by decide⟩ rfl ⟨15, by decide⟩ _) _) <|
    pc (scp_piece1 Cr ⟨14, by decide⟩ hES hT14 (rd_tm (v := arg18.view) h5 ⟨1, by decide⟩ ⟨3, by decide⟩ rfl ⟨14, by decide⟩ _) _) <|
    pc (scp_piece0 Cr ⟨14, by decide⟩ hES hT14 (rd_tm (v := arg18.view) h5 ⟨0, by decide⟩ ⟨2, by decide⟩ rfl ⟨14, by decide⟩ _) _) <|
    pc (scp_piece1 Cr ⟨13, by decide⟩ hES hT13 (rd_tm (v := arg18.view) h5 ⟨1, by decide⟩ ⟨3, by decide⟩ rfl ⟨13, by decide⟩ _) _) <|
    pc (scp_piece0 Cr ⟨13, by decide⟩ hES hT13 (rd_tm (v := arg18.view) h5 ⟨0, by decide⟩ ⟨2, by decide⟩ rfl ⟨13, by decide⟩ _) _) <|
    pc (scp_piece1 Cr ⟨12, by decide⟩ hES hT12 (rd_tm (v := arg18.view) h5 ⟨1, by decide⟩ ⟨3, by decide⟩ rfl ⟨12, by decide⟩ _) _) <|
    pc (scp_piece0 Cr ⟨12, by decide⟩ hES hT12 (rd_tm (v := arg18.view) h5 ⟨0, by decide⟩ ⟨2, by decide⟩ rfl ⟨12, by decide⟩ _) _) <|
    pc (scp_piece1 Cr ⟨11, by decide⟩ hES hT11 (rd_tm (v := arg18.view) h5 ⟨1, by decide⟩ ⟨3, by decide⟩ rfl ⟨11, by decide⟩ _) _) <|
    pc (scp_piece0 Cr ⟨11, by decide⟩ hES hT11 (rd_tm (v := arg18.view) h5 ⟨0, by decide⟩ ⟨2, by decide⟩ rfl ⟨11, by decide⟩ _) _) <|
    pc (scp_piece1 Cr ⟨10, by decide⟩ hES hT10 (rd_tm (v := arg18.view) h5 ⟨1, by decide⟩ ⟨3, by decide⟩ rfl ⟨10, by decide⟩ _) _) <|
    pc (scp_piece0 Cr ⟨10, by decide⟩ hES hT10 (rd_tm (v := arg18.view) h5 ⟨0, by decide⟩ ⟨2, by decide⟩ rfl ⟨10, by decide⟩ _) _) <|
    pc (scp_piece1 Cr ⟨9, by decide⟩ hES hT9 (rd_tm (v := arg18.view) h5 ⟨1, by decide⟩ ⟨3, by decide⟩ rfl ⟨9, by decide⟩ _) _) <|
    pc (scp_piece0 Cr ⟨9, by decide⟩ hES hT9 (rd_tm (v := arg18.view) h5 ⟨0, by decide⟩ ⟨2, by decide⟩ rfl ⟨9, by decide⟩ _) _) <|
    pc (scp_piece1 Cr ⟨8, by decide⟩ hES hT8 (rd_tm (v := arg18.view) h5 ⟨1, by decide⟩ ⟨3, by decide⟩ rfl ⟨8, by decide⟩ _) _) <|
    pc (scp_piece0 Cr ⟨8, by decide⟩ hES hT8 (rd_tm (v := arg18.view) h5 ⟨0, by decide⟩ ⟨2, by decide⟩ rfl ⟨8, by decide⟩ _) _) <|
    pc (scp_piece1 Cr ⟨7, by decide⟩ hES hT7 (rd_tm (v := arg18.view) h5 ⟨1, by decide⟩ ⟨3, by decide⟩ rfl ⟨7, by decide⟩ _) _) <|
    pc (scp_piece0 Cr ⟨7, by decide⟩ hES hT7 (rd_tm (v := arg18.view) h5 ⟨0, by decide⟩ ⟨2, by decide⟩ rfl ⟨7, by decide⟩ _) _) <|
    pc (scp_piece1 Cr ⟨6, by decide⟩ hES hT6 (rd_tm (v := arg18.view) h5 ⟨1, by decide⟩ ⟨3, by decide⟩ rfl ⟨6, by decide⟩ _) _) <|
    pc (scp_piece0 Cr ⟨6, by decide⟩ hES hT6 (rd_tm (v := arg18.view) h5 ⟨0, by decide⟩ ⟨2, by decide⟩ rfl ⟨6, by decide⟩ _) _) <|
    pc (scp_piece1 Cr ⟨5, by decide⟩ hES hT5 (rd_tm (v := arg18.view) h5 ⟨1, by decide⟩ ⟨3, by decide⟩ rfl ⟨5, by decide⟩ _) _) <|
    pc (scp_piece0 Cr ⟨5, by decide⟩ hES hT5 (rd_tm (v := arg18.view) h5 ⟨0, by decide⟩ ⟨2, by decide⟩ rfl ⟨5, by decide⟩ _) _) <|
    pc (scp_piece1 Cr ⟨4, by decide⟩ hES hT4 (rd_tm (v := arg18.view) h5 ⟨1, by decide⟩ ⟨3, by decide⟩ rfl ⟨4, by decide⟩ _) _) <|
    pc (scp_piece0 Cr ⟨4, by decide⟩ hES hT4 (rd_tm (v := arg18.view) h5 ⟨0, by decide⟩ ⟨2, by decide⟩ rfl ⟨4, by decide⟩ _) _) <|
    pc (scp_piece1 Cr ⟨3, by decide⟩ hES hT3 (rd_tm (v := arg18.view) h5 ⟨1, by decide⟩ ⟨3, by decide⟩ rfl ⟨3, by decide⟩ _) _) <|
    pc (scp_piece0 Cr ⟨3, by decide⟩ hES hT3 (rd_tm (v := arg18.view) h5 ⟨0, by decide⟩ ⟨2, by decide⟩ rfl ⟨3, by decide⟩ _) _) <|
    pc (scp_piece1 Cr ⟨2, by decide⟩ hES hT2 (rd_tm (v := arg18.view) h5 ⟨1, by decide⟩ ⟨3, by decide⟩ rfl ⟨2, by decide⟩ _) _) <|
    pc (scp_piece0 Cr ⟨2, by decide⟩ hES hT2 (rd_tm (v := arg18.view) h5 ⟨0, by decide⟩ ⟨2, by decide⟩ rfl ⟨2, by decide⟩ _) _) <|
    pc (scp_piece1 Cr ⟨1, by decide⟩ hES hT1 (rd_tm (v := arg18.view) h5 ⟨1, by decide⟩ ⟨3, by decide⟩ rfl ⟨1, by decide⟩ _) _) <|
    pc (scp_piece0 Cr ⟨1, by decide⟩ hES hT1 (rd_tm (v := arg18.view) h5 ⟨0, by decide⟩ ⟨2, by decide⟩ rfl ⟨1, by decide⟩ _) _) <|
    pc (scp_piece1 Cr ⟨0, by decide⟩ hES hT0 (rd_tm (v := arg18.view) h5 ⟨1, by decide⟩ ⟨3, by decide⟩ rfl ⟨0, by decide⟩ _) _) <|
    pc (scp_piece0 Cr ⟨0, by decide⟩ hES hT0 (rd_tm (v := arg18.view) h5 ⟨0, by decide⟩ ⟨2, by decide⟩ rfl ⟨0, by decide⟩ _) _) <| pn) S1x8x128.size (by sl_kernel_rfl)
include hw hga hbe hy hx hxs in
theorem out6 : out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 = Bdg Cr := by
  have h6 := HS6 c arg3 harg3 x2 hw
  have h7 := HS7 c arg3 harg3 x2 hw
  have h10s := HS10 c arg1 harg1 arg2 harg2 arg3 harg3 arg4 harg4 arg5 harg5 arg6 harg6 arg11 arg13 arg14 arg15 arg16 arg17 arg18 arg19 arg20 arg21 arg22 x0 x1 x2 x3 x4 x5 hw hga hbe hy hx hxs
  have h11 := HS11 c arg1 harg1 arg2 harg2 arg3 harg3 arg4 harg4 arg5 harg5 arg6 harg6 arg11 arg13 arg14 arg15 arg16 arg17 arg18 arg19 arg20 arg21 arg22 x0 x1 x2 x3 x4 x5 hw hga hbe hy hx hxs
  unfold out0_A_6
  rw [View.read_writes_junk_eq_canon]
  exact cn (pc (dg_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) (rd_shp (v := arg23.view) h10s ⟨1, by decide⟩) (rd_scp (v := arg24.view) h11 ⟨1, by decide⟩) _) <|
    pc (dg_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) (rd_shp (v := arg23.view) h10s ⟨0, by decide⟩) (rd_scp (v := arg24.view) h11 ⟨0, by decide⟩) _) <| pn) S16x128.size (by sl_kernel_rfl)
include hw hga hbe hy hx hxs in
theorem out7 : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 = Bdb Cr := by
  have h6 := HS6 c arg3 harg3 x2 hw
  have h7 := HS7 c arg3 harg3 x2 hw
  have h10s := HS10 c arg1 harg1 arg2 harg2 arg3 harg3 arg4 harg4 arg5 harg5 arg6 harg6 arg11 arg13 arg14 arg15 arg16 arg17 arg18 arg19 arg20 arg21 arg22 x0 x1 x2 x3 x4 x5 hw hga hbe hy hx hxs
  have h11 := HS11 c arg1 harg1 arg2 harg2 arg3 harg3 arg4 harg4 arg5 harg5 arg6 harg6 arg11 arg13 arg14 arg15 arg16 arg17 arg18 arg19 arg20 arg21 arg22 x0 x1 x2 x3 x4 x5 hw hga hbe hy hx hxs
  unfold out0_A_7
  rw [View.read_writes_junk_eq_canon]
  exact cn (pc (db_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) (rd_shp (v := arg23.view) h10s ⟨1, by decide⟩) (rd_scp (v := arg24.view) h11 ⟨1, by decide⟩) _) <|
    pc (db_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) (rd_shp (v := arg23.view) h10s ⟨0, by decide⟩) (rd_scp (v := arg24.view) h11 ⟨0, by decide⟩) _) <| pn) S16x128.size (by sl_kernel_rfl)
include hw hga hbe in
theorem out9 : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 = Bcode Cr := by
  have h3 := HS3 c arg3 harg3 x2 hw
  have h8 := HS8 c arg3 harg3 arg4 harg4 arg5 harg5 arg19 arg20 x2 x3 x4 hw hga hbe
  have h9 := HS9 c arg3 harg3 arg4 harg4 arg5 harg5 arg19 arg20 x2 x3 x4 hw hga hbe
  unfold out0_A_9
  rw [View.read_writes_junk_eq_canon]
  exact cn (pc (code_piece Cr ⟨1, by decide⟩ ⟨15, by decide⟩ (rd_rh (v := arg21.view) h8 ⟨1, by decide⟩ ⟨15, by decide⟩ _) (rd_mz (v := arg22.view) h9 ⟨1, by decide⟩ ⟨15, by decide⟩ _) (rd_wt (v := arg16.view) h3 ⟨1, by decide⟩ ⟨15, by decide⟩ _) _) <|
    pc (code_piece Cr ⟨1, by decide⟩ ⟨14, by decide⟩ (rd_rh (v := arg21.view) h8 ⟨1, by decide⟩ ⟨14, by decide⟩ _) (rd_mz (v := arg22.view) h9 ⟨1, by decide⟩ ⟨14, by decide⟩ _) (rd_wt (v := arg16.view) h3 ⟨1, by decide⟩ ⟨14, by decide⟩ _) _) <|
    pc (code_piece Cr ⟨1, by decide⟩ ⟨13, by decide⟩ (rd_rh (v := arg21.view) h8 ⟨1, by decide⟩ ⟨13, by decide⟩ _) (rd_mz (v := arg22.view) h9 ⟨1, by decide⟩ ⟨13, by decide⟩ _) (rd_wt (v := arg16.view) h3 ⟨1, by decide⟩ ⟨13, by decide⟩ _) _) <|
    pc (code_piece Cr ⟨1, by decide⟩ ⟨12, by decide⟩ (rd_rh (v := arg21.view) h8 ⟨1, by decide⟩ ⟨12, by decide⟩ _) (rd_mz (v := arg22.view) h9 ⟨1, by decide⟩ ⟨12, by decide⟩ _) (rd_wt (v := arg16.view) h3 ⟨1, by decide⟩ ⟨12, by decide⟩ _) _) <|
    pc (code_piece Cr ⟨1, by decide⟩ ⟨11, by decide⟩ (rd_rh (v := arg21.view) h8 ⟨1, by decide⟩ ⟨11, by decide⟩ _) (rd_mz (v := arg22.view) h9 ⟨1, by decide⟩ ⟨11, by decide⟩ _) (rd_wt (v := arg16.view) h3 ⟨1, by decide⟩ ⟨11, by decide⟩ _) _) <|
    pc (code_piece Cr ⟨1, by decide⟩ ⟨10, by decide⟩ (rd_rh (v := arg21.view) h8 ⟨1, by decide⟩ ⟨10, by decide⟩ _) (rd_mz (v := arg22.view) h9 ⟨1, by decide⟩ ⟨10, by decide⟩ _) (rd_wt (v := arg16.view) h3 ⟨1, by decide⟩ ⟨10, by decide⟩ _) _) <|
    pc (code_piece Cr ⟨1, by decide⟩ ⟨9, by decide⟩ (rd_rh (v := arg21.view) h8 ⟨1, by decide⟩ ⟨9, by decide⟩ _) (rd_mz (v := arg22.view) h9 ⟨1, by decide⟩ ⟨9, by decide⟩ _) (rd_wt (v := arg16.view) h3 ⟨1, by decide⟩ ⟨9, by decide⟩ _) _) <|
    pc (code_piece Cr ⟨1, by decide⟩ ⟨8, by decide⟩ (rd_rh (v := arg21.view) h8 ⟨1, by decide⟩ ⟨8, by decide⟩ _) (rd_mz (v := arg22.view) h9 ⟨1, by decide⟩ ⟨8, by decide⟩ _) (rd_wt (v := arg16.view) h3 ⟨1, by decide⟩ ⟨8, by decide⟩ _) _) <|
    pc (code_piece Cr ⟨1, by decide⟩ ⟨7, by decide⟩ (rd_rh (v := arg21.view) h8 ⟨1, by decide⟩ ⟨7, by decide⟩ _) (rd_mz (v := arg22.view) h9 ⟨1, by decide⟩ ⟨7, by decide⟩ _) (rd_wt (v := arg16.view) h3 ⟨1, by decide⟩ ⟨7, by decide⟩ _) _) <|
    pc (code_piece Cr ⟨1, by decide⟩ ⟨6, by decide⟩ (rd_rh (v := arg21.view) h8 ⟨1, by decide⟩ ⟨6, by decide⟩ _) (rd_mz (v := arg22.view) h9 ⟨1, by decide⟩ ⟨6, by decide⟩ _) (rd_wt (v := arg16.view) h3 ⟨1, by decide⟩ ⟨6, by decide⟩ _) _) <|
    pc (code_piece Cr ⟨1, by decide⟩ ⟨5, by decide⟩ (rd_rh (v := arg21.view) h8 ⟨1, by decide⟩ ⟨5, by decide⟩ _) (rd_mz (v := arg22.view) h9 ⟨1, by decide⟩ ⟨5, by decide⟩ _) (rd_wt (v := arg16.view) h3 ⟨1, by decide⟩ ⟨5, by decide⟩ _) _) <|
    pc (code_piece Cr ⟨1, by decide⟩ ⟨4, by decide⟩ (rd_rh (v := arg21.view) h8 ⟨1, by decide⟩ ⟨4, by decide⟩ _) (rd_mz (v := arg22.view) h9 ⟨1, by decide⟩ ⟨4, by decide⟩ _) (rd_wt (v := arg16.view) h3 ⟨1, by decide⟩ ⟨4, by decide⟩ _) _) <|
    pc (code_piece Cr ⟨1, by decide⟩ ⟨3, by decide⟩ (rd_rh (v := arg21.view) h8 ⟨1, by decide⟩ ⟨3, by decide⟩ _) (rd_mz (v := arg22.view) h9 ⟨1, by decide⟩ ⟨3, by decide⟩ _) (rd_wt (v := arg16.view) h3 ⟨1, by decide⟩ ⟨3, by decide⟩ _) _) <|
    pc (code_piece Cr ⟨1, by decide⟩ ⟨2, by decide⟩ (rd_rh (v := arg21.view) h8 ⟨1, by decide⟩ ⟨2, by decide⟩ _) (rd_mz (v := arg22.view) h9 ⟨1, by decide⟩ ⟨2, by decide⟩ _) (rd_wt (v := arg16.view) h3 ⟨1, by decide⟩ ⟨2, by decide⟩ _) _) <|
    pc (code_piece Cr ⟨1, by decide⟩ ⟨1, by decide⟩ (rd_rh (v := arg21.view) h8 ⟨1, by decide⟩ ⟨1, by decide⟩ _) (rd_mz (v := arg22.view) h9 ⟨1, by decide⟩ ⟨1, by decide⟩ _) (rd_wt (v := arg16.view) h3 ⟨1, by decide⟩ ⟨1, by decide⟩ _) _) <|
    pc (code_piece Cr ⟨1, by decide⟩ ⟨0, by decide⟩ (rd_rh (v := arg21.view) h8 ⟨1, by decide⟩ ⟨0, by decide⟩ _) (rd_mz (v := arg22.view) h9 ⟨1, by decide⟩ ⟨0, by decide⟩ _) (rd_wt (v := arg16.view) h3 ⟨1, by decide⟩ ⟨0, by decide⟩ _) _) <|
    pc (code_piece Cr ⟨0, by decide⟩ ⟨15, by decide⟩ (rd_rh (v := arg21.view) h8 ⟨0, by decide⟩ ⟨15, by decide⟩ _) (rd_mz (v := arg22.view) h9 ⟨0, by decide⟩ ⟨15, by decide⟩ _) (rd_wt (v := arg16.view) h3 ⟨0, by decide⟩ ⟨15, by decide⟩ _) _) <|
    pc (code_piece Cr ⟨0, by decide⟩ ⟨14, by decide⟩ (rd_rh (v := arg21.view) h8 ⟨0, by decide⟩ ⟨14, by decide⟩ _) (rd_mz (v := arg22.view) h9 ⟨0, by decide⟩ ⟨14, by decide⟩ _) (rd_wt (v := arg16.view) h3 ⟨0, by decide⟩ ⟨14, by decide⟩ _) _) <|
    pc (code_piece Cr ⟨0, by decide⟩ ⟨13, by decide⟩ (rd_rh (v := arg21.view) h8 ⟨0, by decide⟩ ⟨13, by decide⟩ _) (rd_mz (v := arg22.view) h9 ⟨0, by decide⟩ ⟨13, by decide⟩ _) (rd_wt (v := arg16.view) h3 ⟨0, by decide⟩ ⟨13, by decide⟩ _) _) <|
    pc (code_piece Cr ⟨0, by decide⟩ ⟨12, by decide⟩ (rd_rh (v := arg21.view) h8 ⟨0, by decide⟩ ⟨12, by decide⟩ _) (rd_mz (v := arg22.view) h9 ⟨0, by decide⟩ ⟨12, by decide⟩ _) (rd_wt (v := arg16.view) h3 ⟨0, by decide⟩ ⟨12, by decide⟩ _) _) <|
    pc (code_piece Cr ⟨0, by decide⟩ ⟨11, by decide⟩ (rd_rh (v := arg21.view) h8 ⟨0, by decide⟩ ⟨11, by decide⟩ _) (rd_mz (v := arg22.view) h9 ⟨0, by decide⟩ ⟨11, by decide⟩ _) (rd_wt (v := arg16.view) h3 ⟨0, by decide⟩ ⟨11, by decide⟩ _) _) <|
    pc (code_piece Cr ⟨0, by decide⟩ ⟨10, by decide⟩ (rd_rh (v := arg21.view) h8 ⟨0, by decide⟩ ⟨10, by decide⟩ _) (rd_mz (v := arg22.view) h9 ⟨0, by decide⟩ ⟨10, by decide⟩ _) (rd_wt (v := arg16.view) h3 ⟨0, by decide⟩ ⟨10, by decide⟩ _) _) <|
    pc (code_piece Cr ⟨0, by decide⟩ ⟨9, by decide⟩ (rd_rh (v := arg21.view) h8 ⟨0, by decide⟩ ⟨9, by decide⟩ _) (rd_mz (v := arg22.view) h9 ⟨0, by decide⟩ ⟨9, by decide⟩ _) (rd_wt (v := arg16.view) h3 ⟨0, by decide⟩ ⟨9, by decide⟩ _) _) <|
    pc (code_piece Cr ⟨0, by decide⟩ ⟨8, by decide⟩ (rd_rh (v := arg21.view) h8 ⟨0, by decide⟩ ⟨8, by decide⟩ _) (rd_mz (v := arg22.view) h9 ⟨0, by decide⟩ ⟨8, by decide⟩ _) (rd_wt (v := arg16.view) h3 ⟨0, by decide⟩ ⟨8, by decide⟩ _) _) <|
    pc (code_piece Cr ⟨0, by decide⟩ ⟨7, by decide⟩ (rd_rh (v := arg21.view) h8 ⟨0, by decide⟩ ⟨7, by decide⟩ _) (rd_mz (v := arg22.view) h9 ⟨0, by decide⟩ ⟨7, by decide⟩ _) (rd_wt (v := arg16.view) h3 ⟨0, by decide⟩ ⟨7, by decide⟩ _) _) <|
    pc (code_piece Cr ⟨0, by decide⟩ ⟨6, by decide⟩ (rd_rh (v := arg21.view) h8 ⟨0, by decide⟩ ⟨6, by decide⟩ _) (rd_mz (v := arg22.view) h9 ⟨0, by decide⟩ ⟨6, by decide⟩ _) (rd_wt (v := arg16.view) h3 ⟨0, by decide⟩ ⟨6, by decide⟩ _) _) <|
    pc (code_piece Cr ⟨0, by decide⟩ ⟨5, by decide⟩ (rd_rh (v := arg21.view) h8 ⟨0, by decide⟩ ⟨5, by decide⟩ _) (rd_mz (v := arg22.view) h9 ⟨0, by decide⟩ ⟨5, by decide⟩ _) (rd_wt (v := arg16.view) h3 ⟨0, by decide⟩ ⟨5, by decide⟩ _) _) <|
    pc (code_piece Cr ⟨0, by decide⟩ ⟨4, by decide⟩ (rd_rh (v := arg21.view) h8 ⟨0, by decide⟩ ⟨4, by decide⟩ _) (rd_mz (v := arg22.view) h9 ⟨0, by decide⟩ ⟨4, by decide⟩ _) (rd_wt (v := arg16.view) h3 ⟨0, by decide⟩ ⟨4, by decide⟩ _) _) <|
    pc (code_piece Cr ⟨0, by decide⟩ ⟨3, by decide⟩ (rd_rh (v := arg21.view) h8 ⟨0, by decide⟩ ⟨3, by decide⟩ _) (rd_mz (v := arg22.view) h9 ⟨0, by decide⟩ ⟨3, by decide⟩ _) (rd_wt (v := arg16.view) h3 ⟨0, by decide⟩ ⟨3, by decide⟩ _) _) <|
    pc (code_piece Cr ⟨0, by decide⟩ ⟨2, by decide⟩ (rd_rh (v := arg21.view) h8 ⟨0, by decide⟩ ⟨2, by decide⟩ _) (rd_mz (v := arg22.view) h9 ⟨0, by decide⟩ ⟨2, by decide⟩ _) (rd_wt (v := arg16.view) h3 ⟨0, by decide⟩ ⟨2, by decide⟩ _) _) <|
    pc (code_piece Cr ⟨0, by decide⟩ ⟨1, by decide⟩ (rd_rh (v := arg21.view) h8 ⟨0, by decide⟩ ⟨1, by decide⟩ _) (rd_mz (v := arg22.view) h9 ⟨0, by decide⟩ ⟨1, by decide⟩ _) (rd_wt (v := arg16.view) h3 ⟨0, by decide⟩ ⟨1, by decide⟩ _) _) <|
    pc (code_piece Cr ⟨0, by decide⟩ ⟨0, by decide⟩ (rd_rh (v := arg21.view) h8 ⟨0, by decide⟩ ⟨0, by decide⟩ _) (rd_mz (v := arg22.view) h9 ⟨0, by decide⟩ ⟨0, by decide⟩ _) (rd_wt (v := arg16.view) h3 ⟨0, by decide⟩ ⟨0, by decide⟩ _) _) <| pn) S128x128.size (by sl_kernel_rfl)
include hw hga hbe in
theorem out10 : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 = Bh Cr := by
  have h6 := HS6 c arg3 harg3 x2 hw
  have h7 := HS7 c arg3 harg3 x2 hw
  unfold out0_A_10
  rw [View.read_writes_junk_eq_canon]
  exact cn (pc (h_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (h_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S16x128.size (by sl_kernel_rfl)
include hw hga hbe in
theorem out11 : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 = Bz Cr := by
  have h6 := HS6 c arg3 harg3 x2 hw
  have h7 := HS7 c arg3 harg3 x2 hw
  unfold out0_A_11
  rw [View.read_writes_junk_eq_canon]
  exact cn (pc (z_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (z_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S16x128.size (by sl_kernel_rfl)
include hw hga hbe hy hx hxs in
theorem L0 : View.canon (kernelRun0_A.sl.HS12_2 c arg1 harg1 arg2 harg2 arg3 harg3 arg4 harg4 arg5 harg5 arg6 harg6 arg11 arg13 arg15 arg16 arg17 arg19 arg20 arg21 arg22 arg25 x0 x1 x2 x3 x4 x5) = Bl0 Cr Blz := by
  have h4 := HS4 c arg3 harg3 arg4 harg4 arg5 harg5 arg11 arg16 arg19 arg20 arg21 arg22 x2 x3 x4 hw hga hbe
  have hV : ∀ s d r, _ := fun s d r => (rd_all (v := arg13.view) (HS0 c arg1 harg1 x0) inb_S256x2048_S256x2048_0_0 s d).trans (hx s d r)
  have hXS : ∀ s a r, _ := fun s a r => (rd_all (v := arg15.view) (HS2 c arg2 harg2 x1) inb_S256x128_S256x128_0_0 s a).trans (hxs s r)
  have hWh := rd_what (v := arg17.view) h4 inb_S2048x256_S2048x256_0_0
  have hY0 := ra_y harg6 hy ⟨0, by decide⟩ inb_S256x256_S256x128_0_0
  have hY1 := ra_y harg6 hy ⟨1, by decide⟩ inb_S256x256_S256x128_0_128
  have hP := rd_all (v := arg25.view) HS12a inb_S8x128_S8x128_0_0
  refine cw fun p r => (l0_at Cr hV hWh hXS hY0 p r).trans ?_
  exact congr_arg (· + _) (hP p r)
include hw hga hbe hy hx hxs in
theorem sout12 : sout0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 = Bl Cr Blz := by
  have h4 := HS4 c arg3 harg3 arg4 harg4 arg5 harg5 arg11 arg16 arg19 arg20 arg21 arg22 x2 x3 x4 hw hga hbe
  have hV : ∀ s d r, _ := fun s d r => (rd_all (v := arg13.view) (HS0 c arg1 harg1 x0) inb_S256x2048_S256x2048_0_0 s d).trans (hx s d r)
  have hXS : ∀ s a r, _ := fun s a r => (rd_all (v := arg15.view) (HS2 c arg2 harg2 x1) inb_S256x128_S256x128_0_0 s a).trans (hxs s r)
  have hWh := rd_what (v := arg17.view) h4 inb_S2048x256_S2048x256_0_0
  have hY0 := ra_y harg6 hy ⟨0, by decide⟩ inb_S256x256_S256x128_0_0
  have hY1 := ra_y harg6 hy ⟨1, by decide⟩ inb_S256x256_S256x128_0_128
  have hP := rd_all (v := arg25.view) (L0 c arg1 harg1 arg2 harg2 arg3 harg3 arg4 harg4 arg5 harg5 arg6 harg6 arg11 arg13 arg15 arg16 arg17 arg19 arg20 arg21 arg22 arg25 x0 x1 x2 x3 x4 x5 hw hga hbe hy hx hxs) inb_S8x128_S8x128_0_0
  unfold sout0_A_12
  rw [View.read_writes_junk_eq_canon]
  refine cw fun p r => (l1_at Cr hV hWh hXS hY1 p r).trans ?_
  exact congr_arg (· + _) (hP p r)
theorem sout0 : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 = (fun j => x0 j : Vec Ideal S256x2048 .bf16) := by
  unfold sout0_A_0
  rw [View.read_writes_junk_eq_canon]
  exact HS0 c arg1 harg1 x0
theorem sout1 : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 = Bxt x0 := by
  unfold sout0_A_1
  rw [View.read_writes_junk_eq_canon]
  exact HS1 c arg1 harg1 x0
theorem sout2 : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 = Bxs x1 := by
  unfold sout0_A_2
  rw [View.read_writes_junk_eq_canon]
  exact HS2 c arg2 harg2 x1
end Cert.KernelIdeal.LW.A
-- ==== Proof.CaseB.lean ====
/- Case B of the tiled kernel: every buffer of one step, as the mathematics of its columns. -/
module
public import proofs.«01_k».proof.Proof.KLoss
public import proofs.«01_k».proof.Proof.Gen.KernelIdeal.Frame
@[expose] public section
set_option maxRecDepth 32768
noncomputable section
namespace Cert.KernelIdeal.LW.B
open Cert.KernelIdeal Cert.KernelIdeal.Gen Idealize.ShloMosaic Idealize.ShloMosaic.TcCoe Idealize.SL.Sem
open LWC Cert.KernelIdeal.LW

variable (c : Dev nD) (i : grid0.Coords) (arg1 : Memref sig .tc .vmem S256x2048 .fp8e4m3) (harg1 : arg1.IsWhole) (arg2 : Memref sig .tc .vmem S1x256 .f32) (harg2 : arg2.IsWhole) (arg3 : Memref sig .tc .vmem S256x2048 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S256x256 .bf16) (harg6 : arg6.IsWhole) (arg7 : Memref sig .tc .vmem S16x256 .f32) (harg7 : arg7.IsWhole) (arg8 : Memref sig .tc .vmem S16x256 .f32) (harg8 : arg8.IsWhole) (arg9 : Memref sig .tc .smem S1x1 .f32) (harg9 : arg9.IsWhole) (arg10 : Memref sig .tc .vmem S256x2048 .i8) (harg10 : arg10.IsWhole) (arg11 : Memref sig .tc .vmem S16x256 .f32) (harg11 : arg11.IsWhole) (arg12 : Memref sig .tc .vmem S16x256 .f32) (harg12 : arg12.IsWhole) (arg13 : Memref sig .tc .vmem S256x2048 .bf16) (harg13 : arg13.IsWhole) (arg14 : Memref sig .tc .vmem S2048x256 .bf16) (harg14 : arg14.IsWhole) (arg15 : Memref sig .tc .vmem S256x128 .f32) (harg15 : arg15.IsWhole) (arg16 : Memref sig .tc .vmem S2x2048x128 .f32) (harg16 : arg16.IsWhole) (arg17 : Memref sig .tc .vmem S2048x256 .bf16) (harg17 : arg17.IsWhole) (arg18 : Memref sig .tc .vmem S4x2048x128 .f32) (harg18 : arg18.IsWhole) (arg19 : Memref sig .tc .vmem S2x128x128 .f32) (harg19 : arg19.IsWhole) (arg20 : Memref sig .tc .vmem S2x128x128 .f32) (harg20 : arg20.IsWhole) (arg21 : Memref sig .tc .vmem S2x16x128 .f32) (harg21 : arg21.IsWhole) (arg22 : Memref sig .tc .vmem S2x16x128 .f32) (harg22 : arg22.IsWhole) (arg23 : Memref sig .tc .vmem S2x128x128 .f32) (harg23 : arg23.IsWhole) (arg24 : Memref sig .tc .vmem S2x128x128 .f32) (harg24 : arg24.IsWhole) (arg25 : Memref sig .tc .vmem S8x128 .f32) (harg25 : arg25.IsWhole)
variable (hc0 : ¬cond0_0 i)
variable (hc1 : ¬cond0_1 i)
variable (x0 : Vec Ideal S256x2048 .fp8e4m3) (x1 : Vec Ideal S1x256 .f32) (x2 : Vec Ideal S256x2048 .f32)
  (x3 : Vec Ideal S16x256 .f32) (x4 : Vec Ideal S16x256 .f32) (x5 : Vec Ideal S256x256 .bf16)
variable (xs0 : Vec Ideal S256x2048 .bf16) (xs1 : Vec Ideal S2048x256 .bf16) (xs2 : Vec Ideal S256x128 .f32) (xs12 : Vec Ideal S8x128 .f32)
variable {Cr : Fin 256 → Col}
  (hw : ∀ r d, x2 (ix2 r d) = (Cr r).w d) (hga : ∀ g r, x3 (ix2 g r) = (Cr r).ga g)
  (hbe : ∀ g r, x4 (ix2 g r) = (Cr r).be g) (hy : ∀ s r, x5 (ix2 s r) = (Cr r).y s)
  (hx : ∀ s d r, xs0 (ix2 s d) = (Cr r).X s d) (hxt : ∀ d s r, xs1 (ix2 d s) = (Cr r).X s d)
  (hxs : ∀ s a r, xs2 (ix2 s a) = (Cr r).xs s)
include hw in
theorem HS3 : View.canon (kernelRun0_B.sl.HS3_32 c arg3 harg3 x2) = Bwt Cr := by
  exact cn (pc (wt_piece Cr ⟨1, by decide⟩ ⟨15, by decide⟩ (ra_w harg3 hw ⟨1, by decide⟩ ⟨15, by decide⟩ _) _) <|
    pc (wt_piece Cr ⟨1, by decide⟩ ⟨14, by decide⟩ (ra_w harg3 hw ⟨1, by decide⟩ ⟨14, by decide⟩ _) _) <|
    pc (wt_piece Cr ⟨1, by decide⟩ ⟨13, by decide⟩ (ra_w harg3 hw ⟨1, by decide⟩ ⟨13, by decide⟩ _) _) <|
    pc (wt_piece Cr ⟨1, by decide⟩ ⟨12, by decide⟩ (ra_w harg3 hw ⟨1, by decide⟩ ⟨12, by decide⟩ _) _) <|
    pc (wt_piece Cr ⟨1, by decide⟩ ⟨11, by decide⟩ (ra_w harg3 hw ⟨1, by decide⟩ ⟨11, by decide⟩ _) _) <|
    pc (wt_piece Cr ⟨1, by decide⟩ ⟨10, by decide⟩ (ra_w harg3 hw ⟨1, by decide⟩ ⟨10, by decide⟩ _) _) <|
    pc (wt_piece Cr ⟨1, by decide⟩ ⟨9, by decide⟩ (ra_w harg3 hw ⟨1, by decide⟩ ⟨9, by decide⟩ _) _) <|
    pc (wt_piece Cr ⟨1, by decide⟩ ⟨8, by decide⟩ (ra_w harg3 hw ⟨1, by decide⟩ ⟨8, by decide⟩ _) _) <|
    pc (wt_piece Cr ⟨1, by decide⟩ ⟨7, by decide⟩ (ra_w harg3 hw ⟨1, by decide⟩ ⟨7, by decide⟩ _) _) <|
    pc (wt_piece Cr ⟨1, by decide⟩ ⟨6, by decide⟩ (ra_w harg3 hw ⟨1, by decide⟩ ⟨6, by decide⟩ _) _) <|
    pc (wt_piece Cr ⟨1, by decide⟩ ⟨5, by decide⟩ (ra_w harg3 hw ⟨1, by decide⟩ ⟨5, by decide⟩ _) _) <|
    pc (wt_piece Cr ⟨1, by decide⟩ ⟨4, by decide⟩ (ra_w harg3 hw ⟨1, by decide⟩ ⟨4, by decide⟩ _) _) <|
    pc (wt_piece Cr ⟨1, by decide⟩ ⟨3, by decide⟩ (ra_w harg3 hw ⟨1, by decide⟩ ⟨3, by decide⟩ _) _) <|
    pc (wt_piece Cr ⟨1, by decide⟩ ⟨2, by decide⟩ (ra_w harg3 hw ⟨1, by decide⟩ ⟨2, by decide⟩ _) _) <|
    pc (wt_piece Cr ⟨1, by decide⟩ ⟨1, by decide⟩ (ra_w harg3 hw ⟨1, by decide⟩ ⟨1, by decide⟩ _) _) <|
    pc (wt_piece Cr ⟨1, by decide⟩ ⟨0, by decide⟩ (ra_w harg3 hw ⟨1, by decide⟩ ⟨0, by decide⟩ _) _) <|
    pc (wt_piece Cr ⟨0, by decide⟩ ⟨15, by decide⟩ (ra_w harg3 hw ⟨0, by decide⟩ ⟨15, by decide⟩ _) _) <|
    pc (wt_piece Cr ⟨0, by decide⟩ ⟨14, by decide⟩ (ra_w harg3 hw ⟨0, by decide⟩ ⟨14, by decide⟩ _) _) <|
    pc (wt_piece Cr ⟨0, by decide⟩ ⟨13, by decide⟩ (ra_w harg3 hw ⟨0, by decide⟩ ⟨13, by decide⟩ _) _) <|
    pc (wt_piece Cr ⟨0, by decide⟩ ⟨12, by decide⟩ (ra_w harg3 hw ⟨0, by decide⟩ ⟨12, by decide⟩ _) _) <|
    pc (wt_piece Cr ⟨0, by decide⟩ ⟨11, by decide⟩ (ra_w harg3 hw ⟨0, by decide⟩ ⟨11, by decide⟩ _) _) <|
    pc (wt_piece Cr ⟨0, by decide⟩ ⟨10, by decide⟩ (ra_w harg3 hw ⟨0, by decide⟩ ⟨10, by decide⟩ _) _) <|
    pc (wt_piece Cr ⟨0, by decide⟩ ⟨9, by decide⟩ (ra_w harg3 hw ⟨0, by decide⟩ ⟨9, by decide⟩ _) _) <|
    pc (wt_piece Cr ⟨0, by decide⟩ ⟨8, by decide⟩ (ra_w harg3 hw ⟨0, by decide⟩ ⟨8, by decide⟩ _) _) <|
    pc (wt_piece Cr ⟨0, by decide⟩ ⟨7, by decide⟩ (ra_w harg3 hw ⟨0, by decide⟩ ⟨7, by decide⟩ _) _) <|
    pc (wt_piece Cr ⟨0, by decide⟩ ⟨6, by decide⟩ (ra_w harg3 hw ⟨0, by decide⟩ ⟨6, by decide⟩ _) _) <|
    pc (wt_piece Cr ⟨0, by decide⟩ ⟨5, by decide⟩ (ra_w harg3 hw ⟨0, by decide⟩ ⟨5, by decide⟩ _) _) <|
    pc (wt_piece Cr ⟨0, by decide⟩ ⟨4, by decide⟩ (ra_w harg3 hw ⟨0, by decide⟩ ⟨4, by decide⟩ _) _) <|
    pc (wt_piece Cr ⟨0, by decide⟩ ⟨3, by decide⟩ (ra_w harg3 hw ⟨0, by decide⟩ ⟨3, by decide⟩ _) _) <|
    pc (wt_piece Cr ⟨0, by decide⟩ ⟨2, by decide⟩ (ra_w harg3 hw ⟨0, by decide⟩ ⟨2, by decide⟩ _) _) <|
    pc (wt_piece Cr ⟨0, by decide⟩ ⟨1, by decide⟩ (ra_w harg3 hw ⟨0, by decide⟩ ⟨1, by decide⟩ _) _) <|
    pc (wt_piece Cr ⟨0, by decide⟩ ⟨0, by decide⟩ (ra_w harg3 hw ⟨0, by decide⟩ ⟨0, by decide⟩ _) _) <| pn) S1x128x128.size (by sl_kernel_rfl)
include hw in
theorem HS6 : View.canon (kernelRun0_B.sl.HS6_32 c arg3 harg3 x2) = Bmx Cr := by
  exact cn (pc (mx_piece Cr ⟨1, by decide⟩ ⟨15, by decide⟩ (ra_w harg3 hw ⟨1, by decide⟩ ⟨15, by decide⟩ _) _) <|
    pc (mx_piece Cr ⟨1, by decide⟩ ⟨14, by decide⟩ (ra_w harg3 hw ⟨1, by decide⟩ ⟨14, by decide⟩ _) _) <|
    pc (mx_piece Cr ⟨1, by decide⟩ ⟨13, by decide⟩ (ra_w harg3 hw ⟨1, by decide⟩ ⟨13, by decide⟩ _) _) <|
    pc (mx_piece Cr ⟨1, by decide⟩ ⟨12, by decide⟩ (ra_w harg3 hw ⟨1, by decide⟩ ⟨12, by decide⟩ _) _) <|
    pc (mx_piece Cr ⟨1, by decide⟩ ⟨11, by decide⟩ (ra_w harg3 hw ⟨1, by decide⟩ ⟨11, by decide⟩ _) _) <|
    pc (mx_piece Cr ⟨1, by decide⟩ ⟨10, by decide⟩ (ra_w harg3 hw ⟨1, by decide⟩ ⟨10, by decide⟩ _) _) <|
    pc (mx_piece Cr ⟨1, by decide⟩ ⟨9, by decide⟩ (ra_w harg3 hw ⟨1, by decide⟩ ⟨9, by decide⟩ _) _) <|
    pc (mx_piece Cr ⟨1, by decide⟩ ⟨8, by decide⟩ (ra_w harg3 hw ⟨1, by decide⟩ ⟨8, by decide⟩ _) _) <|
    pc (mx_piece Cr ⟨1, by decide⟩ ⟨7, by decide⟩ (ra_w harg3 hw ⟨1, by decide⟩ ⟨7, by decide⟩ _) _) <|
    pc (mx_piece Cr ⟨1, by decide⟩ ⟨6, by decide⟩ (ra_w harg3 hw ⟨1, by decide⟩ ⟨6, by decide⟩ _) _) <|
    pc (mx_piece Cr ⟨1, by decide⟩ ⟨5, by decide⟩ (ra_w harg3 hw ⟨1, by decide⟩ ⟨5, by decide⟩ _) _) <|
    pc (mx_piece Cr ⟨1, by decide⟩ ⟨4, by decide⟩ (ra_w harg3 hw ⟨1, by decide⟩ ⟨4, by decide⟩ _) _) <|
    pc (mx_piece Cr ⟨1, by decide⟩ ⟨3, by decide⟩ (ra_w harg3 hw ⟨1, by decide⟩ ⟨3, by decide⟩ _) _) <|
    pc (mx_piece Cr ⟨1, by decide⟩ ⟨2, by decide⟩ (ra_w harg3 hw ⟨1, by decide⟩ ⟨2, by decide⟩ _) _) <|
    pc (mx_piece Cr ⟨1, by decide⟩ ⟨1, by decide⟩ (ra_w harg3 hw ⟨1, by decide⟩ ⟨1, by decide⟩ _) _) <|
    pc (mx_piece Cr ⟨1, by decide⟩ ⟨0, by decide⟩ (ra_w harg3 hw ⟨1, by decide⟩ ⟨0, by decide⟩ _) _) <|
    pc (mx_piece Cr ⟨0, by decide⟩ ⟨15, by decide⟩ (ra_w harg3 hw ⟨0, by decide⟩ ⟨15, by decide⟩ _) _) <|
    pc (mx_piece Cr ⟨0, by decide⟩ ⟨14, by decide⟩ (ra_w harg3 hw ⟨0, by decide⟩ ⟨14, by decide⟩ _) _) <|
    pc (mx_piece Cr ⟨0, by decide⟩ ⟨13, by decide⟩ (ra_w harg3 hw ⟨0, by decide⟩ ⟨13, by decide⟩ _) _) <|
    pc (mx_piece Cr ⟨0, by decide⟩ ⟨12, by decide⟩ (ra_w harg3 hw ⟨0, by decide⟩ ⟨12, by decide⟩ _) _) <|
    pc (mx_piece Cr ⟨0, by decide⟩ ⟨11, by decide⟩ (ra_w harg3 hw ⟨0, by decide⟩ ⟨11, by decide⟩ _) _) <|
    pc (mx_piece Cr ⟨0, by decide⟩ ⟨10, by decide⟩ (ra_w harg3 hw ⟨0, by decide⟩ ⟨10, by decide⟩ _) _) <|
    pc (mx_piece Cr ⟨0, by decide⟩ ⟨9, by decide⟩ (ra_w harg3 hw ⟨0, by decide⟩ ⟨9, by decide⟩ _) _) <|
    pc (mx_piece Cr ⟨0, by decide⟩ ⟨8, by decide⟩ (ra_w harg3 hw ⟨0, by decide⟩ ⟨8, by decide⟩ _) _) <|
    pc (mx_piece Cr ⟨0, by decide⟩ ⟨7, by decide⟩ (ra_w harg3 hw ⟨0, by decide⟩ ⟨7, by decide⟩ _) _) <|
    pc (mx_piece Cr ⟨0, by decide⟩ ⟨6, by decide⟩ (ra_w harg3 hw ⟨0, by decide⟩ ⟨6, by decide⟩ _) _) <|
    pc (mx_piece Cr ⟨0, by decide⟩ ⟨5, by decide⟩ (ra_w harg3 hw ⟨0, by decide⟩ ⟨5, by decide⟩ _) _) <|
    pc (mx_piece Cr ⟨0, by decide⟩ ⟨4, by decide⟩ (ra_w harg3 hw ⟨0, by decide⟩ ⟨4, by decide⟩ _) _) <|
    pc (mx_piece Cr ⟨0, by decide⟩ ⟨3, by decide⟩ (ra_w harg3 hw ⟨0, by decide⟩ ⟨3, by decide⟩ _) _) <|
    pc (mx_piece Cr ⟨0, by decide⟩ ⟨2, by decide⟩ (ra_w harg3 hw ⟨0, by decide⟩ ⟨2, by decide⟩ _) _) <|
    pc (mx_piece Cr ⟨0, by decide⟩ ⟨1, by decide⟩ (ra_w harg3 hw ⟨0, by decide⟩ ⟨1, by decide⟩ _) _) <|
    pc (mx_piece Cr ⟨0, by decide⟩ ⟨0, by decide⟩ (ra_w harg3 hw ⟨0, by decide⟩ ⟨0, by decide⟩ _) _) <| pn) S1x8x128.size (by sl_kernel_rfl)
include hw in
theorem HS7 : View.canon (kernelRun0_B.sl.HS7_32 c arg3 harg3 x2) = Bmn Cr := by
  exact cn (pc (mn_piece Cr ⟨1, by decide⟩ ⟨15, by decide⟩ (ra_w harg3 hw ⟨1, by decide⟩ ⟨15, by decide⟩ _) _) <|
    pc (mn_piece Cr ⟨1, by decide⟩ ⟨14, by decide⟩ (ra_w harg3 hw ⟨1, by decide⟩ ⟨14, by decide⟩ _) _) <|
    pc (mn_piece Cr ⟨1, by decide⟩ ⟨13, by decide⟩ (ra_w harg3 hw ⟨1, by decide⟩ ⟨13, by decide⟩ _) _) <|
    pc (mn_piece Cr ⟨1, by decide⟩ ⟨12, by decide⟩ (ra_w harg3 hw ⟨1, by decide⟩ ⟨12, by decide⟩ _) _) <|
    pc (mn_piece Cr ⟨1, by decide⟩ ⟨11, by decide⟩ (ra_w harg3 hw ⟨1, by decide⟩ ⟨11, by decide⟩ _) _) <|
    pc (mn_piece Cr ⟨1, by decide⟩ ⟨10, by decide⟩ (ra_w harg3 hw ⟨1, by decide⟩ ⟨10, by decide⟩ _) _) <|
    pc (mn_piece Cr ⟨1, by decide⟩ ⟨9, by decide⟩ (ra_w harg3 hw ⟨1, by decide⟩ ⟨9, by decide⟩ _) _) <|
    pc (mn_piece Cr ⟨1, by decide⟩ ⟨8, by decide⟩ (ra_w harg3 hw ⟨1, by decide⟩ ⟨8, by decide⟩ _) _) <|
    pc (mn_piece Cr ⟨1, by decide⟩ ⟨7, by decide⟩ (ra_w harg3 hw ⟨1, by decide⟩ ⟨7, by decide⟩ _) _) <|
    pc (mn_piece Cr ⟨1, by decide⟩ ⟨6, by decide⟩ (ra_w harg3 hw ⟨1, by decide⟩ ⟨6, by decide⟩ _) _) <|
    pc (mn_piece Cr ⟨1, by decide⟩ ⟨5, by decide⟩ (ra_w harg3 hw ⟨1, by decide⟩ ⟨5, by decide⟩ _) _) <|
    pc (mn_piece Cr ⟨1, by decide⟩ ⟨4, by decide⟩ (ra_w harg3 hw ⟨1, by decide⟩ ⟨4, by decide⟩ _) _) <|
    pc (mn_piece Cr ⟨1, by decide⟩ ⟨3, by decide⟩ (ra_w harg3 hw ⟨1, by decide⟩ ⟨3, by decide⟩ _) _) <|
    pc (mn_piece Cr ⟨1, by decide⟩ ⟨2, by decide⟩ (ra_w harg3 hw ⟨1, by decide⟩ ⟨2, by decide⟩ _) _) <|
    pc (mn_piece Cr ⟨1, by decide⟩ ⟨1, by decide⟩ (ra_w harg3 hw ⟨1, by decide⟩ ⟨1, by decide⟩ _) _) <|
    pc (mn_piece Cr ⟨1, by decide⟩ ⟨0, by decide⟩ (ra_w harg3 hw ⟨1, by decide⟩ ⟨0, by decide⟩ _) _) <|
    pc (mn_piece Cr ⟨0, by decide⟩ ⟨15, by decide⟩ (ra_w harg3 hw ⟨0, by decide⟩ ⟨15, by decide⟩ _) _) <|
    pc (mn_piece Cr ⟨0, by decide⟩ ⟨14, by decide⟩ (ra_w harg3 hw ⟨0, by decide⟩ ⟨14, by decide⟩ _) _) <|
    pc (mn_piece Cr ⟨0, by decide⟩ ⟨13, by decide⟩ (ra_w harg3 hw ⟨0, by decide⟩ ⟨13, by decide⟩ _) _) <|
    pc (mn_piece Cr ⟨0, by decide⟩ ⟨12, by decide⟩ (ra_w harg3 hw ⟨0, by decide⟩ ⟨12, by decide⟩ _) _) <|
    pc (mn_piece Cr ⟨0, by decide⟩ ⟨11, by decide⟩ (ra_w harg3 hw ⟨0, by decide⟩ ⟨11, by decide⟩ _) _) <|
    pc (mn_piece Cr ⟨0, by decide⟩ ⟨10, by decide⟩ (ra_w harg3 hw ⟨0, by decide⟩ ⟨10, by decide⟩ _) _) <|
    pc (mn_piece Cr ⟨0, by decide⟩ ⟨9, by decide⟩ (ra_w harg3 hw ⟨0, by decide⟩ ⟨9, by decide⟩ _) _) <|
    pc (mn_piece Cr ⟨0, by decide⟩ ⟨8, by decide⟩ (ra_w harg3 hw ⟨0, by decide⟩ ⟨8, by decide⟩ _) _) <|
    pc (mn_piece Cr ⟨0, by decide⟩ ⟨7, by decide⟩ (ra_w harg3 hw ⟨0, by decide⟩ ⟨7, by decide⟩ _) _) <|
    pc (mn_piece Cr ⟨0, by decide⟩ ⟨6, by decide⟩ (ra_w harg3 hw ⟨0, by decide⟩ ⟨6, by decide⟩ _) _) <|
    pc (mn_piece Cr ⟨0, by decide⟩ ⟨5, by decide⟩ (ra_w harg3 hw ⟨0, by decide⟩ ⟨5, by decide⟩ _) _) <|
    pc (mn_piece Cr ⟨0, by decide⟩ ⟨4, by decide⟩ (ra_w harg3 hw ⟨0, by decide⟩ ⟨4, by decide⟩ _) _) <|
    pc (mn_piece Cr ⟨0, by decide⟩ ⟨3, by decide⟩ (ra_w harg3 hw ⟨0, by decide⟩ ⟨3, by decide⟩ _) _) <|
    pc (mn_piece Cr ⟨0, by decide⟩ ⟨2, by decide⟩ (ra_w harg3 hw ⟨0, by decide⟩ ⟨2, by decide⟩ _) _) <|
    pc (mn_piece Cr ⟨0, by decide⟩ ⟨1, by decide⟩ (ra_w harg3 hw ⟨0, by decide⟩ ⟨1, by decide⟩ _) _) <|
    pc (mn_piece Cr ⟨0, by decide⟩ ⟨0, by decide⟩ (ra_w harg3 hw ⟨0, by decide⟩ ⟨0, by decide⟩ _) _) <| pn) S1x8x128.size (by sl_kernel_rfl)
include hw hga hbe in
theorem H10 : View.canon (kernelRun0_B.sl.H10_2 c arg3 harg3 arg4 harg4 arg5 harg5 arg19 arg20 x2 x3 x4) = Bh Cr := by
  have h6 := HS6 c arg3 harg3 x2 hw
  have h7 := HS7 c arg3 harg3 x2 hw
  exact cn (pc (h_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (h_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S16x128.size (by sl_kernel_rfl)
include hw hga hbe in
theorem HS8 : View.canon (kernelRun0_B.sl.HS8_2 c arg3 harg3 arg4 harg4 arg5 harg5 arg19 arg20 x2 x3 x4) = Brh Cr := by
  have h6 := HS6 c arg3 harg3 x2 hw
  have h7 := HS7 c arg3 harg3 x2 hw
  exact cn (pc (rh_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (rh_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S1x16x128.size (by sl_kernel_rfl)
include hw hga hbe in
theorem HS9 : View.canon (kernelRun0_B.sl.HS9_2 c arg3 harg3 arg4 harg4 arg5 harg5 arg19 arg20 x2 x3 x4) = Bmz Cr := by
  have h6 := HS6 c arg3 harg3 x2 hw
  have h7 := HS7 c arg3 harg3 x2 hw
  exact cn (pc (mz_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (mz_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S1x16x128.size (by sl_kernel_rfl)
include hw hga hbe in
theorem HS4 : View.canon (kernelRun0_B.sl.HS4_32 c arg3 harg3 arg4 harg4 arg5 harg5 arg11 arg16 arg19 arg20 arg21 arg22 x2 x3 x4) = Bwhat Cr := by
  have h3 := HS3 c arg3 harg3 x2 hw
  have h8 := HS8 c arg3 harg3 arg4 harg4 arg5 harg5 arg19 arg20 x2 x3 x4 hw hga hbe
  have h9 := HS9 c arg3 harg3 arg4 harg4 arg5 harg5 arg19 arg20 x2 x3 x4 hw hga hbe
  have h10 := H10 c arg3 harg3 arg4 harg4 arg5 harg5 arg19 arg20 x2 x3 x4 hw hga hbe
  exact cn (pc (what_piece Cr ⟨1, by decide⟩ ⟨15, by decide⟩ (rd_rh (v := arg21.view) h8 ⟨1, by decide⟩ ⟨15, by decide⟩ _) (rd_mz (v := arg22.view) h9 ⟨1, by decide⟩ ⟨15, by decide⟩ _) (rd_h (v := arg11.view) h10 ⟨1, by decide⟩ ⟨15, by decide⟩ _) (rd_wt (v := arg16.view) h3 ⟨1, by decide⟩ ⟨15, by decide⟩ _) _) <|
    pc (what_piece Cr ⟨1, by decide⟩ ⟨14, by decide⟩ (rd_rh (v := arg21.view) h8 ⟨1, by decide⟩ ⟨14, by decide⟩ _) (rd_mz (v := arg22.view) h9 ⟨1, by decide⟩ ⟨14, by decide⟩ _) (rd_h (v := arg11.view) h10 ⟨1, by decide⟩ ⟨14, by decide⟩ _) (rd_wt (v := arg16.view) h3 ⟨1, by decide⟩ ⟨14, by decide⟩ _) _) <|
    pc (what_piece Cr ⟨1, by decide⟩ ⟨13, by decide⟩ (rd_rh (v := arg21.view) h8 ⟨1, by decide⟩ ⟨13, by decide⟩ _) (rd_mz (v := arg22.view) h9 ⟨1, by decide⟩ ⟨13, by decide⟩ _) (rd_h (v := arg11.view) h10 ⟨1, by decide⟩ ⟨13, by decide⟩ _) (rd_wt (v := arg16.view) h3 ⟨1, by decide⟩ ⟨13, by decide⟩ _) _) <|
    pc (what_piece Cr ⟨1, by decide⟩ ⟨12, by decide⟩ (rd_rh (v := arg21.view) h8 ⟨1, by decide⟩ ⟨12, by decide⟩ _) (rd_mz (v := arg22.view) h9 ⟨1, by decide⟩ ⟨12, by decide⟩ _) (rd_h (v := arg11.view) h10 ⟨1, by decide⟩ ⟨12, by decide⟩ _) (rd_wt (v := arg16.view) h3 ⟨1, by decide⟩ ⟨12, by decide⟩ _) _) <|
    pc (what_piece Cr ⟨1, by decide⟩ ⟨11, by decide⟩ (rd_rh (v := arg21.view) h8 ⟨1, by decide⟩ ⟨11, by decide⟩ _) (rd_mz (v := arg22.view) h9 ⟨1, by decide⟩ ⟨11, by decide⟩ _) (rd_h (v := arg11.view) h10 ⟨1, by decide⟩ ⟨11, by decide⟩ _) (rd_wt (v := arg16.view) h3 ⟨1, by decide⟩ ⟨11, by decide⟩ _) _) <|
    pc (what_piece Cr ⟨1, by decide⟩ ⟨10, by decide⟩ (rd_rh (v := arg21.view) h8 ⟨1, by decide⟩ ⟨10, by decide⟩ _) (rd_mz (v := arg22.view) h9 ⟨1, by decide⟩ ⟨10, by decide⟩ _) (rd_h (v := arg11.view) h10 ⟨1, by decide⟩ ⟨10, by decide⟩ _) (rd_wt (v := arg16.view) h3 ⟨1, by decide⟩ ⟨10, by decide⟩ _) _) <|
    pc (what_piece Cr ⟨1, by decide⟩ ⟨9, by decide⟩ (rd_rh (v := arg21.view) h8 ⟨1, by decide⟩ ⟨9, by decide⟩ _) (rd_mz (v := arg22.view) h9 ⟨1, by decide⟩ ⟨9, by decide⟩ _) (rd_h (v := arg11.view) h10 ⟨1, by decide⟩ ⟨9, by decide⟩ _) (rd_wt (v := arg16.view) h3 ⟨1, by decide⟩ ⟨9, by decide⟩ _) _) <|
    pc (what_piece Cr ⟨1, by decide⟩ ⟨8, by decide⟩ (rd_rh (v := arg21.view) h8 ⟨1, by decide⟩ ⟨8, by decide⟩ _) (rd_mz (v := arg22.view) h9 ⟨1, by decide⟩ ⟨8, by decide⟩ _) (rd_h (v := arg11.view) h10 ⟨1, by decide⟩ ⟨8, by decide⟩ _) (rd_wt (v := arg16.view) h3 ⟨1, by decide⟩ ⟨8, by decide⟩ _) _) <|
    pc (what_piece Cr ⟨1, by decide⟩ ⟨7, by decide⟩ (rd_rh (v := arg21.view) h8 ⟨1, by decide⟩ ⟨7, by decide⟩ _) (rd_mz (v := arg22.view) h9 ⟨1, by decide⟩ ⟨7, by decide⟩ _) (rd_h (v := arg11.view) h10 ⟨1, by decide⟩ ⟨7, by decide⟩ _) (rd_wt (v := arg16.view) h3 ⟨1, by decide⟩ ⟨7, by decide⟩ _) _) <|
    pc (what_piece Cr ⟨1, by decide⟩ ⟨6, by decide⟩ (rd_rh (v := arg21.view) h8 ⟨1, by decide⟩ ⟨6, by decide⟩ _) (rd_mz (v := arg22.view) h9 ⟨1, by decide⟩ ⟨6, by decide⟩ _) (rd_h (v := arg11.view) h10 ⟨1, by decide⟩ ⟨6, by decide⟩ _) (rd_wt (v := arg16.view) h3 ⟨1, by decide⟩ ⟨6, by decide⟩ _) _) <|
    pc (what_piece Cr ⟨1, by decide⟩ ⟨5, by decide⟩ (rd_rh (v := arg21.view) h8 ⟨1, by decide⟩ ⟨5, by decide⟩ _) (rd_mz (v := arg22.view) h9 ⟨1, by decide⟩ ⟨5, by decide⟩ _) (rd_h (v := arg11.view) h10 ⟨1, by decide⟩ ⟨5, by decide⟩ _) (rd_wt (v := arg16.view) h3 ⟨1, by decide⟩ ⟨5, by decide⟩ _) _) <|
    pc (what_piece Cr ⟨1, by decide⟩ ⟨4, by decide⟩ (rd_rh (v := arg21.view) h8 ⟨1, by decide⟩ ⟨4, by decide⟩ _) (rd_mz (v := arg22.view) h9 ⟨1, by decide⟩ ⟨4, by decide⟩ _) (rd_h (v := arg11.view) h10 ⟨1, by decide⟩ ⟨4, by decide⟩ _) (rd_wt (v := arg16.view) h3 ⟨1, by decide⟩ ⟨4, by decide⟩ _) _) <|
    pc (what_piece Cr ⟨1, by decide⟩ ⟨3, by decide⟩ (rd_rh (v := arg21.view) h8 ⟨1, by decide⟩ ⟨3, by decide⟩ _) (rd_mz (v := arg22.view) h9 ⟨1, by decide⟩ ⟨3, by decide⟩ _) (rd_h (v := arg11.view) h10 ⟨1, by decide⟩ ⟨3, by decide⟩ _) (rd_wt (v := arg16.view) h3 ⟨1, by decide⟩ ⟨3, by decide⟩ _) _) <|
    pc (what_piece Cr ⟨1, by decide⟩ ⟨2, by decide⟩ (rd_rh (v := arg21.view) h8 ⟨1, by decide⟩ ⟨2, by decide⟩ _) (rd_mz (v := arg22.view) h9 ⟨1, by decide⟩ ⟨2, by decide⟩ _) (rd_h (v := arg11.view) h10 ⟨1, by decide⟩ ⟨2, by decide⟩ _) (rd_wt (v := arg16.view) h3 ⟨1, by decide⟩ ⟨2, by decide⟩ _) _) <|
    pc (what_piece Cr ⟨1, by decide⟩ ⟨1, by decide⟩ (rd_rh (v := arg21.view) h8 ⟨1, by decide⟩ ⟨1, by decide⟩ _) (rd_mz (v := arg22.view) h9 ⟨1, by decide⟩ ⟨1, by decide⟩ _) (rd_h (v := arg11.view) h10 ⟨1, by decide⟩ ⟨1, by decide⟩ _) (rd_wt (v := arg16.view) h3 ⟨1, by decide⟩ ⟨1, by decide⟩ _) _) <|
    pc (what_piece Cr ⟨1, by decide⟩ ⟨0, by decide⟩ (rd_rh (v := arg21.view) h8 ⟨1, by decide⟩ ⟨0, by decide⟩ _) (rd_mz (v := arg22.view) h9 ⟨1, by decide⟩ ⟨0, by decide⟩ _) (rd_h (v := arg11.view) h10 ⟨1, by decide⟩ ⟨0, by decide⟩ _) (rd_wt (v := arg16.view) h3 ⟨1, by decide⟩ ⟨0, by decide⟩ _) _) <|
    pc (what_piece Cr ⟨0, by decide⟩ ⟨15, by decide⟩ (rd_rh (v := arg21.view) h8 ⟨0, by decide⟩ ⟨15, by decide⟩ _) (rd_mz (v := arg22.view) h9 ⟨0, by decide⟩ ⟨15, by decide⟩ _) (rd_h (v := arg11.view) h10 ⟨0, by decide⟩ ⟨15, by decide⟩ _) (rd_wt (v := arg16.view) h3 ⟨0, by decide⟩ ⟨15, by decide⟩ _) _) <|
    pc (what_piece Cr ⟨0, by decide⟩ ⟨14, by decide⟩ (rd_rh (v := arg21.view) h8 ⟨0, by decide⟩ ⟨14, by decide⟩ _) (rd_mz (v := arg22.view) h9 ⟨0, by decide⟩ ⟨14, by decide⟩ _) (rd_h (v := arg11.view) h10 ⟨0, by decide⟩ ⟨14, by decide⟩ _) (rd_wt (v := arg16.view) h3 ⟨0, by decide⟩ ⟨14, by decide⟩ _) _) <|
    pc (what_piece Cr ⟨0, by decide⟩ ⟨13, by decide⟩ (rd_rh (v := arg21.view) h8 ⟨0, by decide⟩ ⟨13, by decide⟩ _) (rd_mz (v := arg22.view) h9 ⟨0, by decide⟩ ⟨13, by decide⟩ _) (rd_h (v := arg11.view) h10 ⟨0, by decide⟩ ⟨13, by decide⟩ _) (rd_wt (v := arg16.view) h3 ⟨0, by decide⟩ ⟨13, by decide⟩ _) _) <|
    pc (what_piece Cr ⟨0, by decide⟩ ⟨12, by decide⟩ (rd_rh (v := arg21.view) h8 ⟨0, by decide⟩ ⟨12, by decide⟩ _) (rd_mz (v := arg22.view) h9 ⟨0, by decide⟩ ⟨12, by decide⟩ _) (rd_h (v := arg11.view) h10 ⟨0, by decide⟩ ⟨12, by decide⟩ _) (rd_wt (v := arg16.view) h3 ⟨0, by decide⟩ ⟨12, by decide⟩ _) _) <|
    pc (what_piece Cr ⟨0, by decide⟩ ⟨11, by decide⟩ (rd_rh (v := arg21.view) h8 ⟨0, by decide⟩ ⟨11, by decide⟩ _) (rd_mz (v := arg22.view) h9 ⟨0, by decide⟩ ⟨11, by decide⟩ _) (rd_h (v := arg11.view) h10 ⟨0, by decide⟩ ⟨11, by decide⟩ _) (rd_wt (v := arg16.view) h3 ⟨0, by decide⟩ ⟨11, by decide⟩ _) _) <|
    pc (what_piece Cr ⟨0, by decide⟩ ⟨10, by decide⟩ (rd_rh (v := arg21.view) h8 ⟨0, by decide⟩ ⟨10, by decide⟩ _) (rd_mz (v := arg22.view) h9 ⟨0, by decide⟩ ⟨10, by decide⟩ _) (rd_h (v := arg11.view) h10 ⟨0, by decide⟩ ⟨10, by decide⟩ _) (rd_wt (v := arg16.view) h3 ⟨0, by decide⟩ ⟨10, by decide⟩ _) _) <|
    pc (what_piece Cr ⟨0, by decide⟩ ⟨9, by decide⟩ (rd_rh (v := arg21.view) h8 ⟨0, by decide⟩ ⟨9, by decide⟩ _) (rd_mz (v := arg22.view) h9 ⟨0, by decide⟩ ⟨9, by decide⟩ _) (rd_h (v := arg11.view) h10 ⟨0, by decide⟩ ⟨9, by decide⟩ _) (rd_wt (v := arg16.view) h3 ⟨0, by decide⟩ ⟨9, by decide⟩ _) _) <|
    pc (what_piece Cr ⟨0, by decide⟩ ⟨8, by decide⟩ (rd_rh (v := arg21.view) h8 ⟨0, by decide⟩ ⟨8, by decide⟩ _) (rd_mz (v := arg22.view) h9 ⟨0, by decide⟩ ⟨8, by decide⟩ _) (rd_h (v := arg11.view) h10 ⟨0, by decide⟩ ⟨8, by decide⟩ _) (rd_wt (v := arg16.view) h3 ⟨0, by decide⟩ ⟨8, by decide⟩ _) _) <|
    pc (what_piece Cr ⟨0, by decide⟩ ⟨7, by decide⟩ (rd_rh (v := arg21.view) h8 ⟨0, by decide⟩ ⟨7, by decide⟩ _) (rd_mz (v := arg22.view) h9 ⟨0, by decide⟩ ⟨7, by decide⟩ _) (rd_h (v := arg11.view) h10 ⟨0, by decide⟩ ⟨7, by decide⟩ _) (rd_wt (v := arg16.view) h3 ⟨0, by decide⟩ ⟨7, by decide⟩ _) _) <|
    pc (what_piece Cr ⟨0, by decide⟩ ⟨6, by decide⟩ (rd_rh (v := arg21.view) h8 ⟨0, by decide⟩ ⟨6, by decide⟩ _) (rd_mz (v := arg22.view) h9 ⟨0, by decide⟩ ⟨6, by decide⟩ _) (rd_h (v := arg11.view) h10 ⟨0, by decide⟩ ⟨6, by decide⟩ _) (rd_wt (v := arg16.view) h3 ⟨0, by decide⟩ ⟨6, by decide⟩ _) _) <|
    pc (what_piece Cr ⟨0, by decide⟩ ⟨5, by decide⟩ (rd_rh (v := arg21.view) h8 ⟨0, by decide⟩ ⟨5, by decide⟩ _) (rd_mz (v := arg22.view) h9 ⟨0, by decide⟩ ⟨5, by decide⟩ _) (rd_h (v := arg11.view) h10 ⟨0, by decide⟩ ⟨5, by decide⟩ _) (rd_wt (v := arg16.view) h3 ⟨0, by decide⟩ ⟨5, by decide⟩ _) _) <|
    pc (what_piece Cr ⟨0, by decide⟩ ⟨4, by decide⟩ (rd_rh (v := arg21.view) h8 ⟨0, by decide⟩ ⟨4, by decide⟩ _) (rd_mz (v := arg22.view) h9 ⟨0, by decide⟩ ⟨4, by decide⟩ _) (rd_h (v := arg11.view) h10 ⟨0, by decide⟩ ⟨4, by decide⟩ _) (rd_wt (v := arg16.view) h3 ⟨0, by decide⟩ ⟨4, by decide⟩ _) _) <|
    pc (what_piece Cr ⟨0, by decide⟩ ⟨3, by decide⟩ (rd_rh (v := arg21.view) h8 ⟨0, by decide⟩ ⟨3, by decide⟩ _) (rd_mz (v := arg22.view) h9 ⟨0, by decide⟩ ⟨3, by decide⟩ _) (rd_h (v := arg11.view) h10 ⟨0, by decide⟩ ⟨3, by decide⟩ _) (rd_wt (v := arg16.view) h3 ⟨0, by decide⟩ ⟨3, by decide⟩ _) _) <|
    pc (what_piece Cr ⟨0, by decide⟩ ⟨2, by decide⟩ (rd_rh (v := arg21.view) h8 ⟨0, by decide⟩ ⟨2, by decide⟩ _) (rd_mz (v := arg22.view) h9 ⟨0, by decide⟩ ⟨2, by decide⟩ _) (rd_h (v := arg11.view) h10 ⟨0, by decide⟩ ⟨2, by decide⟩ _) (rd_wt (v := arg16.view) h3 ⟨0, by decide⟩ ⟨2, by decide⟩ _) _) <|
    pc (what_piece Cr ⟨0, by decide⟩ ⟨1, by decide⟩ (rd_rh (v := arg21.view) h8 ⟨0, by decide⟩ ⟨1, by decide⟩ _) (rd_mz (v := arg22.view) h9 ⟨0, by decide⟩ ⟨1, by decide⟩ _) (rd_h (v := arg11.view) h10 ⟨0, by decide⟩ ⟨1, by decide⟩ _) (rd_wt (v := arg16.view) h3 ⟨0, by decide⟩ ⟨1, by decide⟩ _) _) <|
    pc (what_piece Cr ⟨0, by decide⟩ ⟨0, by decide⟩ (rd_rh (v := arg21.view) h8 ⟨0, by decide⟩ ⟨0, by decide⟩ _) (rd_mz (v := arg22.view) h9 ⟨0, by decide⟩ ⟨0, by decide⟩ _) (rd_h (v := arg11.view) h10 ⟨0, by decide⟩ ⟨0, by decide⟩ _) (rd_wt (v := arg16.view) h3 ⟨0, by decide⟩ ⟨0, by decide⟩ _) _) <| pn) S128x128.size (by sl_kernel_rfl)
include hw hga hbe in
theorem HS5 : View.canon (kernelRun0_B.sl.HS5_64 c arg3 harg3 arg4 harg4 arg5 harg5 arg16 arg19 arg20 arg21 arg22 x2 x3 x4) = Btp Cr := by
  have h3 := HS3 c arg3 harg3 x2 hw
  have h8 := HS8 c arg3 harg3 arg4 harg4 arg5 harg5 arg19 arg20 x2 x3 x4 hw hga hbe
  have h9 := HS9 c arg3 harg3 arg4 harg4 arg5 harg5 arg19 arg20 x2 x3 x4 hw hga hbe
  exact cn (pc (tm_piece Cr ⟨1, by decide⟩ ⟨15, by decide⟩ (rd_rh (v := arg21.view) h8 ⟨1, by decide⟩ ⟨15, by decide⟩ _) (rd_mz (v := arg22.view) h9 ⟨1, by decide⟩ ⟨15, by decide⟩ _) (rd_wt (v := arg16.view) h3 ⟨1, by decide⟩ ⟨15, by decide⟩ _) ⟨3, by decide⟩ rfl _) <|
    pc (tp_piece Cr ⟨1, by decide⟩ ⟨15, by decide⟩ (rd_rh (v := arg21.view) h8 ⟨1, by decide⟩ ⟨15, by decide⟩ _) (rd_mz (v := arg22.view) h9 ⟨1, by decide⟩ ⟨15, by decide⟩ _) (rd_wt (v := arg16.view) h3 ⟨1, by decide⟩ ⟨15, by decide⟩ _) ⟨1, by decide⟩ rfl _) <|
    pc (tm_piece Cr ⟨1, by decide⟩ ⟨14, by decide⟩ (rd_rh (v := arg21.view) h8 ⟨1, by decide⟩ ⟨14, by decide⟩ _) (rd_mz (v := arg22.view) h9 ⟨1, by decide⟩ ⟨14, by decide⟩ _) (rd_wt (v := arg16.view) h3 ⟨1, by decide⟩ ⟨14, by decide⟩ _) ⟨3, by decide⟩ rfl _) <|
    pc (tp_piece Cr ⟨1, by decide⟩ ⟨14, by decide⟩ (rd_rh (v := arg21.view) h8 ⟨1, by decide⟩ ⟨14, by decide⟩ _) (rd_mz (v := arg22.view) h9 ⟨1, by decide⟩ ⟨14, by decide⟩ _) (rd_wt (v := arg16.view) h3 ⟨1, by decide⟩ ⟨14, by decide⟩ _) ⟨1, by decide⟩ rfl _) <|
    pc (tm_piece Cr ⟨1, by decide⟩ ⟨13, by decide⟩ (rd_rh (v := arg21.view) h8 ⟨1, by decide⟩ ⟨13, by decide⟩ _) (rd_mz (v := arg22.view) h9 ⟨1, by decide⟩ ⟨13, by decide⟩ _) (rd_wt (v := arg16.view) h3 ⟨1, by decide⟩ ⟨13, by decide⟩ _) ⟨3, by decide⟩ rfl _) <|
    pc (tp_piece Cr ⟨1, by decide⟩ ⟨13, by decide⟩ (rd_rh (v := arg21.view) h8 ⟨1, by decide⟩ ⟨13, by decide⟩ _) (rd_mz (v := arg22.view) h9 ⟨1, by decide⟩ ⟨13, by decide⟩ _) (rd_wt (v := arg16.view) h3 ⟨1, by decide⟩ ⟨13, by decide⟩ _) ⟨1, by decide⟩ rfl _) <|
    pc (tm_piece Cr ⟨1, by decide⟩ ⟨12, by decide⟩ (rd_rh (v := arg21.view) h8 ⟨1, by decide⟩ ⟨12, by decide⟩ _) (rd_mz (v := arg22.view) h9 ⟨1, by decide⟩ ⟨12, by decide⟩ _) (rd_wt (v := arg16.view) h3 ⟨1, by decide⟩ ⟨12, by decide⟩ _) ⟨3, by decide⟩ rfl _) <|
    pc (tp_piece Cr ⟨1, by decide⟩ ⟨12, by decide⟩ (rd_rh (v := arg21.view) h8 ⟨1, by decide⟩ ⟨12, by decide⟩ _) (rd_mz (v := arg22.view) h9 ⟨1, by decide⟩ ⟨12, by decide⟩ _) (rd_wt (v := arg16.view) h3 ⟨1, by decide⟩ ⟨12, by decide⟩ _) ⟨1, by decide⟩ rfl _) <|
    pc (tm_piece Cr ⟨1, by decide⟩ ⟨11, by decide⟩ (rd_rh (v := arg21.view) h8 ⟨1, by decide⟩ ⟨11, by decide⟩ _) (rd_mz (v := arg22.view) h9 ⟨1, by decide⟩ ⟨11, by decide⟩ _) (rd_wt (v := arg16.view) h3 ⟨1, by decide⟩ ⟨11, by decide⟩ _) ⟨3, by decide⟩ rfl _) <|
    pc (tp_piece Cr ⟨1, by decide⟩ ⟨11, by decide⟩ (rd_rh (v := arg21.view) h8 ⟨1, by decide⟩ ⟨11, by decide⟩ _) (rd_mz (v := arg22.view) h9 ⟨1, by decide⟩ ⟨11, by decide⟩ _) (rd_wt (v := arg16.view) h3 ⟨1, by decide⟩ ⟨11, by decide⟩ _) ⟨1, by decide⟩ rfl _) <|
    pc (tm_piece Cr ⟨1, by decide⟩ ⟨10, by decide⟩ (rd_rh (v := arg21.view) h8 ⟨1, by decide⟩ ⟨10, by decide⟩ _) (rd_mz (v := arg22.view) h9 ⟨1, by decide⟩ ⟨10, by decide⟩ _) (rd_wt (v := arg16.view) h3 ⟨1, by decide⟩ ⟨10, by decide⟩ _) ⟨3, by decide⟩ rfl _) <|
    pc (tp_piece Cr ⟨1, by decide⟩ ⟨10, by decide⟩ (rd_rh (v := arg21.view) h8 ⟨1, by decide⟩ ⟨10, by decide⟩ _) (rd_mz (v := arg22.view) h9 ⟨1, by decide⟩ ⟨10, by decide⟩ _) (rd_wt (v := arg16.view) h3 ⟨1, by decide⟩ ⟨10, by decide⟩ _) ⟨1, by decide⟩ rfl _) <|
    pc (tm_piece Cr ⟨1, by decide⟩ ⟨9, by decide⟩ (rd_rh (v := arg21.view) h8 ⟨1, by decide⟩ ⟨9, by decide⟩ _) (rd_mz (v := arg22.view) h9 ⟨1, by decide⟩ ⟨9, by decide⟩ _) (rd_wt (v := arg16.view) h3 ⟨1, by decide⟩ ⟨9, by decide⟩ _) ⟨3, by decide⟩ rfl _) <|
    pc (tp_piece Cr ⟨1, by decide⟩ ⟨9, by decide⟩ (rd_rh (v := arg21.view) h8 ⟨1, by decide⟩ ⟨9, by decide⟩ _) (rd_mz (v := arg22.view) h9 ⟨1, by decide⟩ ⟨9, by decide⟩ _) (rd_wt (v := arg16.view) h3 ⟨1, by decide⟩ ⟨9, by decide⟩ _) ⟨1, by decide⟩ rfl _) <|
    pc (tm_piece Cr ⟨1, by decide⟩ ⟨8, by decide⟩ (rd_rh (v := arg21.view) h8 ⟨1, by decide⟩ ⟨8, by decide⟩ _) (rd_mz (v := arg22.view) h9 ⟨1, by decide⟩ ⟨8, by decide⟩ _) (rd_wt (v := arg16.view) h3 ⟨1, by decide⟩ ⟨8, by decide⟩ _) ⟨3, by decide⟩ rfl _) <|
    pc (tp_piece Cr ⟨1, by decide⟩ ⟨8, by decide⟩ (rd_rh (v := arg21.view) h8 ⟨1, by decide⟩ ⟨8, by decide⟩ _) (rd_mz (v := arg22.view) h9 ⟨1, by decide⟩ ⟨8, by decide⟩ _) (rd_wt (v := arg16.view) h3 ⟨1, by decide⟩ ⟨8, by decide⟩ _) ⟨1, by decide⟩ rfl _) <|
    pc (tm_piece Cr ⟨1, by decide⟩ ⟨7, by decide⟩ (rd_rh (v := arg21.view) h8 ⟨1, by decide⟩ ⟨7, by decide⟩ _) (rd_mz (v := arg22.view) h9 ⟨1, by decide⟩ ⟨7, by decide⟩ _) (rd_wt (v := arg16.view) h3 ⟨1, by decide⟩ ⟨7, by decide⟩ _) ⟨3, by decide⟩ rfl _) <|
    pc (tp_piece Cr ⟨1, by decide⟩ ⟨7, by decide⟩ (rd_rh (v := arg21.view) h8 ⟨1, by decide⟩ ⟨7, by decide⟩ _) (rd_mz (v := arg22.view) h9 ⟨1, by decide⟩ ⟨7, by decide⟩ _) (rd_wt (v := arg16.view) h3 ⟨1, by decide⟩ ⟨7, by decide⟩ _) ⟨1, by decide⟩ rfl _) <|
    pc (tm_piece Cr ⟨1, by decide⟩ ⟨6, by decide⟩ (rd_rh (v := arg21.view) h8 ⟨1, by decide⟩ ⟨6, by decide⟩ _) (rd_mz (v := arg22.view) h9 ⟨1, by decide⟩ ⟨6, by decide⟩ _) (rd_wt (v := arg16.view) h3 ⟨1, by decide⟩ ⟨6, by decide⟩ _) ⟨3, by decide⟩ rfl _) <|
    pc (tp_piece Cr ⟨1, by decide⟩ ⟨6, by decide⟩ (rd_rh (v := arg21.view) h8 ⟨1, by decide⟩ ⟨6, by decide⟩ _) (rd_mz (v := arg22.view) h9 ⟨1, by decide⟩ ⟨6, by decide⟩ _) (rd_wt (v := arg16.view) h3 ⟨1, by decide⟩ ⟨6, by decide⟩ _) ⟨1, by decide⟩ rfl _) <|
    pc (tm_piece Cr ⟨1, by decide⟩ ⟨5, by decide⟩ (rd_rh (v := arg21.view) h8 ⟨1, by decide⟩ ⟨5, by decide⟩ _) (rd_mz (v := arg22.view) h9 ⟨1, by decide⟩ ⟨5, by decide⟩ _) (rd_wt (v := arg16.view) h3 ⟨1, by decide⟩ ⟨5, by decide⟩ _) ⟨3, by decide⟩ rfl _) <|
    pc (tp_piece Cr ⟨1, by decide⟩ ⟨5, by decide⟩ (rd_rh (v := arg21.view) h8 ⟨1, by decide⟩ ⟨5, by decide⟩ _) (rd_mz (v := arg22.view) h9 ⟨1, by decide⟩ ⟨5, by decide⟩ _) (rd_wt (v := arg16.view) h3 ⟨1, by decide⟩ ⟨5, by decide⟩ _) ⟨1, by decide⟩ rfl _) <|
    pc (tm_piece Cr ⟨1, by decide⟩ ⟨4, by decide⟩ (rd_rh (v := arg21.view) h8 ⟨1, by decide⟩ ⟨4, by decide⟩ _) (rd_mz (v := arg22.view) h9 ⟨1, by decide⟩ ⟨4, by decide⟩ _) (rd_wt (v := arg16.view) h3 ⟨1, by decide⟩ ⟨4, by decide⟩ _) ⟨3, by decide⟩ rfl _) <|
    pc (tp_piece Cr ⟨1, by decide⟩ ⟨4, by decide⟩ (rd_rh (v := arg21.view) h8 ⟨1, by decide⟩ ⟨4, by decide⟩ _) (rd_mz (v := arg22.view) h9 ⟨1, by decide⟩ ⟨4, by decide⟩ _) (rd_wt (v := arg16.view) h3 ⟨1, by decide⟩ ⟨4, by decide⟩ _) ⟨1, by decide⟩ rfl _) <|
    pc (tm_piece Cr ⟨1, by decide⟩ ⟨3, by decide⟩ (rd_rh (v := arg21.view) h8 ⟨1, by decide⟩ ⟨3, by decide⟩ _) (rd_mz (v := arg22.view) h9 ⟨1, by decide⟩ ⟨3, by decide⟩ _) (rd_wt (v := arg16.view) h3 ⟨1, by decide⟩ ⟨3, by decide⟩ _) ⟨3, by decide⟩ rfl _) <|
    pc (tp_piece Cr ⟨1, by decide⟩ ⟨3, by decide⟩ (rd_rh (v := arg21.view) h8 ⟨1, by decide⟩ ⟨3, by decide⟩ _) (rd_mz (v := arg22.view) h9 ⟨1, by decide⟩ ⟨3, by decide⟩ _) (rd_wt (v := arg16.view) h3 ⟨1, by decide⟩ ⟨3, by decide⟩ _) ⟨1, by decide⟩ rfl _) <|
    pc (tm_piece Cr ⟨1, by decide⟩ ⟨2, by decide⟩ (rd_rh (v := arg21.view) h8 ⟨1, by decide⟩ ⟨2, by decide⟩ _) (rd_mz (v := arg22.view) h9 ⟨1, by decide⟩ ⟨2, by decide⟩ _) (rd_wt (v := arg16.view) h3 ⟨1, by decide⟩ ⟨2, by decide⟩ _) ⟨3, by decide⟩ rfl _) <|
    pc (tp_piece Cr ⟨1, by decide⟩ ⟨2, by decide⟩ (rd_rh (v := arg21.view) h8 ⟨1, by decide⟩ ⟨2, by decide⟩ _) (rd_mz (v := arg22.view) h9 ⟨1, by decide⟩ ⟨2, by decide⟩ _) (rd_wt (v := arg16.view) h3 ⟨1, by decide⟩ ⟨2, by decide⟩ _) ⟨1, by decide⟩ rfl _) <|
    pc (tm_piece Cr ⟨1, by decide⟩ ⟨1, by decide⟩ (rd_rh (v := arg21.view) h8 ⟨1, by decide⟩ ⟨1, by decide⟩ _) (rd_mz (v := arg22.view) h9 ⟨1, by decide⟩ ⟨1, by decide⟩ _) (rd_wt (v := arg16.view) h3 ⟨1, by decide⟩ ⟨1, by decide⟩ _) ⟨3, by decide⟩ rfl _) <|
    pc (tp_piece Cr ⟨1, by decide⟩ ⟨1, by decide⟩ (rd_rh (v := arg21.view) h8 ⟨1, by decide⟩ ⟨1, by decide⟩ _) (rd_mz (v := arg22.view) h9 ⟨1, by decide⟩ ⟨1, by decide⟩ _) (rd_wt (v := arg16.view) h3 ⟨1, by decide⟩ ⟨1, by decide⟩ _) ⟨1, by decide⟩ rfl _) <|
    pc (tm_piece Cr ⟨1, by decide⟩ ⟨0, by decide⟩ (rd_rh (v := arg21.view) h8 ⟨1, by decide⟩ ⟨0, by decide⟩ _) (rd_mz (v := arg22.view) h9 ⟨1, by decide⟩ ⟨0, by decide⟩ _) (rd_wt (v := arg16.view) h3 ⟨1, by decide⟩ ⟨0, by decide⟩ _) ⟨3, by decide⟩ rfl _) <|
    pc (tp_piece Cr ⟨1, by decide⟩ ⟨0, by decide⟩ (rd_rh (v := arg21.view) h8 ⟨1, by decide⟩ ⟨0, by decide⟩ _) (rd_mz (v := arg22.view) h9 ⟨1, by decide⟩ ⟨0, by decide⟩ _) (rd_wt (v := arg16.view) h3 ⟨1, by decide⟩ ⟨0, by decide⟩ _) ⟨1, by decide⟩ rfl _) <|
    pc (tm_piece Cr ⟨0, by decide⟩ ⟨15, by decide⟩ (rd_rh (v := arg21.view) h8 ⟨0, by decide⟩ ⟨15, by decide⟩ _) (rd_mz (v := arg22.view) h9 ⟨0, by decide⟩ ⟨15, by decide⟩ _) (rd_wt (v := arg16.view) h3 ⟨0, by decide⟩ ⟨15, by decide⟩ _) ⟨2, by decide⟩ rfl _) <|
    pc (tp_piece Cr ⟨0, by decide⟩ ⟨15, by decide⟩ (rd_rh (v := arg21.view) h8 ⟨0, by decide⟩ ⟨15, by decide⟩ _) (rd_mz (v := arg22.view) h9 ⟨0, by decide⟩ ⟨15, by decide⟩ _) (rd_wt (v := arg16.view) h3 ⟨0, by decide⟩ ⟨15, by decide⟩ _) ⟨0, by decide⟩ rfl _) <|
    pc (tm_piece Cr ⟨0, by decide⟩ ⟨14, by decide⟩ (rd_rh (v := arg21.view) h8 ⟨0, by decide⟩ ⟨14, by decide⟩ _) (rd_mz (v := arg22.view) h9 ⟨0, by decide⟩ ⟨14, by decide⟩ _) (rd_wt (v := arg16.view) h3 ⟨0, by decide⟩ ⟨14, by decide⟩ _) ⟨2, by decide⟩ rfl _) <|
    pc (tp_piece Cr ⟨0, by decide⟩ ⟨14, by decide⟩ (rd_rh (v := arg21.view) h8 ⟨0, by decide⟩ ⟨14, by decide⟩ _) (rd_mz (v := arg22.view) h9 ⟨0, by decide⟩ ⟨14, by decide⟩ _) (rd_wt (v := arg16.view) h3 ⟨0, by decide⟩ ⟨14, by decide⟩ _) ⟨0, by decide⟩ rfl _) <|
    pc (tm_piece Cr ⟨0, by decide⟩ ⟨13, by decide⟩ (rd_rh (v := arg21.view) h8 ⟨0, by decide⟩ ⟨13, by decide⟩ _) (rd_mz (v := arg22.view) h9 ⟨0, by decide⟩ ⟨13, by decide⟩ _) (rd_wt (v := arg16.view) h3 ⟨0, by decide⟩ ⟨13, by decide⟩ _) ⟨2, by decide⟩ rfl _) <|
    pc (tp_piece Cr ⟨0, by decide⟩ ⟨13, by decide⟩ (rd_rh (v := arg21.view) h8 ⟨0, by decide⟩ ⟨13, by decide⟩ _) (rd_mz (v := arg22.view) h9 ⟨0, by decide⟩ ⟨13, by decide⟩ _) (rd_wt (v := arg16.view) h3 ⟨0, by decide⟩ ⟨13, by decide⟩ _) ⟨0, by decide⟩ rfl _) <|
    pc (tm_piece Cr ⟨0, by decide⟩ ⟨12, by decide⟩ (rd_rh (v := arg21.view) h8 ⟨0, by decide⟩ ⟨12, by decide⟩ _) (rd_mz (v := arg22.view) h9 ⟨0, by decide⟩ ⟨12, by decide⟩ _) (rd_wt (v := arg16.view) h3 ⟨0, by decide⟩ ⟨12, by decide⟩ _) ⟨2, by decide⟩ rfl _) <|
    pc (tp_piece Cr ⟨0, by decide⟩ ⟨12, by decide⟩ (rd_rh (v := arg21.view) h8 ⟨0, by decide⟩ ⟨12, by decide⟩ _) (rd_mz (v := arg22.view) h9 ⟨0, by decide⟩ ⟨12, by decide⟩ _) (rd_wt (v := arg16.view) h3 ⟨0, by decide⟩ ⟨12, by decide⟩ _) ⟨0, by decide⟩ rfl _) <|
    pc (tm_piece Cr ⟨0, by decide⟩ ⟨11, by decide⟩ (rd_rh (v := arg21.view) h8 ⟨0, by decide⟩ ⟨11, by decide⟩ _) (rd_mz (v := arg22.view) h9 ⟨0, by decide⟩ ⟨11, by decide⟩ _) (rd_wt (v := arg16.view) h3 ⟨0, by decide⟩ ⟨11, by decide⟩ _) ⟨2, by decide⟩ rfl _) <|
    pc (tp_piece Cr ⟨0, by decide⟩ ⟨11, by decide⟩ (rd_rh (v := arg21.view) h8 ⟨0, by decide⟩ ⟨11, by decide⟩ _) (rd_mz (v := arg22.view) h9 ⟨0, by decide⟩ ⟨11, by decide⟩ _) (rd_wt (v := arg16.view) h3 ⟨0, by decide⟩ ⟨11, by decide⟩ _) ⟨0, by decide⟩ rfl _) <|
    pc (tm_piece Cr ⟨0, by decide⟩ ⟨10, by decide⟩ (rd_rh (v := arg21.view) h8 ⟨0, by decide⟩ ⟨10, by decide⟩ _) (rd_mz (v := arg22.view) h9 ⟨0, by decide⟩ ⟨10, by decide⟩ _) (rd_wt (v := arg16.view) h3 ⟨0, by decide⟩ ⟨10, by decide⟩ _) ⟨2, by decide⟩ rfl _) <|
    pc (tp_piece Cr ⟨0, by decide⟩ ⟨10, by decide⟩ (rd_rh (v := arg21.view) h8 ⟨0, by decide⟩ ⟨10, by decide⟩ _) (rd_mz (v := arg22.view) h9 ⟨0, by decide⟩ ⟨10, by decide⟩ _) (rd_wt (v := arg16.view) h3 ⟨0, by decide⟩ ⟨10, by decide⟩ _) ⟨0, by decide⟩ rfl _) <|
    pc (tm_piece Cr ⟨0, by decide⟩ ⟨9, by decide⟩ (rd_rh (v := arg21.view) h8 ⟨0, by decide⟩ ⟨9, by decide⟩ _) (rd_mz (v := arg22.view) h9 ⟨0, by decide⟩ ⟨9, by decide⟩ _) (rd_wt (v := arg16.view) h3 ⟨0, by decide⟩ ⟨9, by decide⟩ _) ⟨2, by decide⟩ rfl _) <|
    pc (tp_piece Cr ⟨0, by decide⟩ ⟨9, by decide⟩ (rd_rh (v := arg21.view) h8 ⟨0, by decide⟩ ⟨9, by decide⟩ _) (rd_mz (v := arg22.view) h9 ⟨0, by decide⟩ ⟨9, by decide⟩ _) (rd_wt (v := arg16.view) h3 ⟨0, by decide⟩ ⟨9, by decide⟩ _) ⟨0, by decide⟩ rfl _) <|
    pc (tm_piece Cr ⟨0, by decide⟩ ⟨8, by decide⟩ (rd_rh (v := arg21.view) h8 ⟨0, by decide⟩ ⟨8, by decide⟩ _) (rd_mz (v := arg22.view) h9 ⟨0, by decide⟩ ⟨8, by decide⟩ _) (rd_wt (v := arg16.view) h3 ⟨0, by decide⟩ ⟨8, by decide⟩ _) ⟨2, by decide⟩ rfl _) <|
    pc (tp_piece Cr ⟨0, by decide⟩ ⟨8, by decide⟩ (rd_rh (v := arg21.view) h8 ⟨0, by decide⟩ ⟨8, by decide⟩ _) (rd_mz (v := arg22.view) h9 ⟨0, by decide⟩ ⟨8, by decide⟩ _) (rd_wt (v := arg16.view) h3 ⟨0, by decide⟩ ⟨8, by decide⟩ _) ⟨0, by decide⟩ rfl _) <|
    pc (tm_piece Cr ⟨0, by decide⟩ ⟨7, by decide⟩ (rd_rh (v := arg21.view) h8 ⟨0, by decide⟩ ⟨7, by decide⟩ _) (rd_mz (v := arg22.view) h9 ⟨0, by decide⟩ ⟨7, by decide⟩ _) (rd_wt (v := arg16.view) h3 ⟨0, by decide⟩ ⟨7, by decide⟩ _) ⟨2, by decide⟩ rfl _) <|
    pc (tp_piece Cr ⟨0, by decide⟩ ⟨7, by decide⟩ (rd_rh (v := arg21.view) h8 ⟨0, by decide⟩ ⟨7, by decide⟩ _) (rd_mz (v := arg22.view) h9 ⟨0, by decide⟩ ⟨7, by decide⟩ _) (rd_wt (v := arg16.view) h3 ⟨0, by decide⟩ ⟨7, by decide⟩ _) ⟨0, by decide⟩ rfl _) <|
    pc (tm_piece Cr ⟨0, by decide⟩ ⟨6, by decide⟩ (rd_rh (v := arg21.view) h8 ⟨0, by decide⟩ ⟨6, by decide⟩ _) (rd_mz (v := arg22.view) h9 ⟨0, by decide⟩ ⟨6, by decide⟩ _) (rd_wt (v := arg16.view) h3 ⟨0, by decide⟩ ⟨6, by decide⟩ _) ⟨2, by decide⟩ rfl _) <|
    pc (tp_piece Cr ⟨0, by decide⟩ ⟨6, by decide⟩ (rd_rh (v := arg21.view) h8 ⟨0, by decide⟩ ⟨6, by decide⟩ _) (rd_mz (v := arg22.view) h9 ⟨0, by decide⟩ ⟨6, by decide⟩ _) (rd_wt (v := arg16.view) h3 ⟨0, by decide⟩ ⟨6, by decide⟩ _) ⟨0, by decide⟩ rfl _) <|
    pc (tm_piece Cr ⟨0, by decide⟩ ⟨5, by decide⟩ (rd_rh (v := arg21.view) h8 ⟨0, by decide⟩ ⟨5, by decide⟩ _) (rd_mz (v := arg22.view) h9 ⟨0, by decide⟩ ⟨5, by decide⟩ _) (rd_wt (v := arg16.view) h3 ⟨0, by decide⟩ ⟨5, by decide⟩ _) ⟨2, by decide⟩ rfl _) <|
    pc (tp_piece Cr ⟨0, by decide⟩ ⟨5, by decide⟩ (rd_rh (v := arg21.view) h8 ⟨0, by decide⟩ ⟨5, by decide⟩ _) (rd_mz (v := arg22.view) h9 ⟨0, by decide⟩ ⟨5, by decide⟩ _) (rd_wt (v := arg16.view) h3 ⟨0, by decide⟩ ⟨5, by decide⟩ _) ⟨0, by decide⟩ rfl _) <|
    pc (tm_piece Cr ⟨0, by decide⟩ ⟨4, by decide⟩ (rd_rh (v := arg21.view) h8 ⟨0, by decide⟩ ⟨4, by decide⟩ _) (rd_mz (v := arg22.view) h9 ⟨0, by decide⟩ ⟨4, by decide⟩ _) (rd_wt (v := arg16.view) h3 ⟨0, by decide⟩ ⟨4, by decide⟩ _) ⟨2, by decide⟩ rfl _) <|
    pc (tp_piece Cr ⟨0, by decide⟩ ⟨4, by decide⟩ (rd_rh (v := arg21.view) h8 ⟨0, by decide⟩ ⟨4, by decide⟩ _) (rd_mz (v := arg22.view) h9 ⟨0, by decide⟩ ⟨4, by decide⟩ _) (rd_wt (v := arg16.view) h3 ⟨0, by decide⟩ ⟨4, by decide⟩ _) ⟨0, by decide⟩ rfl _) <|
    pc (tm_piece Cr ⟨0, by decide⟩ ⟨3, by decide⟩ (rd_rh (v := arg21.view) h8 ⟨0, by decide⟩ ⟨3, by decide⟩ _) (rd_mz (v := arg22.view) h9 ⟨0, by decide⟩ ⟨3, by decide⟩ _) (rd_wt (v := arg16.view) h3 ⟨0, by decide⟩ ⟨3, by decide⟩ _) ⟨2, by decide⟩ rfl _) <|
    pc (tp_piece Cr ⟨0, by decide⟩ ⟨3, by decide⟩ (rd_rh (v := arg21.view) h8 ⟨0, by decide⟩ ⟨3, by decide⟩ _) (rd_mz (v := arg22.view) h9 ⟨0, by decide⟩ ⟨3, by decide⟩ _) (rd_wt (v := arg16.view) h3 ⟨0, by decide⟩ ⟨3, by decide⟩ _) ⟨0, by decide⟩ rfl _) <|
    pc (tm_piece Cr ⟨0, by decide⟩ ⟨2, by decide⟩ (rd_rh (v := arg21.view) h8 ⟨0, by decide⟩ ⟨2, by decide⟩ _) (rd_mz (v := arg22.view) h9 ⟨0, by decide⟩ ⟨2, by decide⟩ _) (rd_wt (v := arg16.view) h3 ⟨0, by decide⟩ ⟨2, by decide⟩ _) ⟨2, by decide⟩ rfl _) <|
    pc (tp_piece Cr ⟨0, by decide⟩ ⟨2, by decide⟩ (rd_rh (v := arg21.view) h8 ⟨0, by decide⟩ ⟨2, by decide⟩ _) (rd_mz (v := arg22.view) h9 ⟨0, by decide⟩ ⟨2, by decide⟩ _) (rd_wt (v := arg16.view) h3 ⟨0, by decide⟩ ⟨2, by decide⟩ _) ⟨0, by decide⟩ rfl _) <|
    pc (tm_piece Cr ⟨0, by decide⟩ ⟨1, by decide⟩ (rd_rh (v := arg21.view) h8 ⟨0, by decide⟩ ⟨1, by decide⟩ _) (rd_mz (v := arg22.view) h9 ⟨0, by decide⟩ ⟨1, by decide⟩ _) (rd_wt (v := arg16.view) h3 ⟨0, by decide⟩ ⟨1, by decide⟩ _) ⟨2, by decide⟩ rfl _) <|
    pc (tp_piece Cr ⟨0, by decide⟩ ⟨1, by decide⟩ (rd_rh (v := arg21.view) h8 ⟨0, by decide⟩ ⟨1, by decide⟩ _) (rd_mz (v := arg22.view) h9 ⟨0, by decide⟩ ⟨1, by decide⟩ _) (rd_wt (v := arg16.view) h3 ⟨0, by decide⟩ ⟨1, by decide⟩ _) ⟨0, by decide⟩ rfl _) <|
    pc (tm_piece Cr ⟨0, by decide⟩ ⟨0, by decide⟩ (rd_rh (v := arg21.view) h8 ⟨0, by decide⟩ ⟨0, by decide⟩ _) (rd_mz (v := arg22.view) h9 ⟨0, by decide⟩ ⟨0, by decide⟩ _) (rd_wt (v := arg16.view) h3 ⟨0, by decide⟩ ⟨0, by decide⟩ _) ⟨2, by decide⟩ rfl _) <|
    pc (tp_piece Cr ⟨0, by decide⟩ ⟨0, by decide⟩ (rd_rh (v := arg21.view) h8 ⟨0, by decide⟩ ⟨0, by decide⟩ _) (rd_mz (v := arg22.view) h9 ⟨0, by decide⟩ ⟨0, by decide⟩ _) (rd_wt (v := arg16.view) h3 ⟨0, by decide⟩ ⟨0, by decide⟩ _) ⟨0, by decide⟩ rfl _) <| pn) S1x128x128.size (by sl_kernel_rfl)
include hw hga hbe hy hx hxs in
theorem ES (s r : Fin 256) : (kernelRun0_B.sl.r_21 c arg3 harg3 arg4 harg4 arg5 harg5 arg6 harg6 arg11 arg13 harg13 arg15 harg15 arg16 arg17 arg19 arg20 arg21 arg22 x2 x3 x4 x5 xs0 xs2) (ix2 s r) = (Cr r).kE s * (Cr r).xs s := by
  have h4 := HS4 c arg3 harg3 arg4 harg4 arg5 harg5 arg11 arg16 arg19 arg20 arg21 arg22 x2 x3 x4 hw hga hbe
  have hV : ∀ s d r, _ := fun s d r => (ra_xb harg13 (X := xs0) inb_S256x2048_S256x2048_0_0 s d).trans (hx s d r)
  have hXS : ∀ s a r, _ := fun s a r => (ra_xsb harg15 (X := xs2) inb_S256x128_S256x128_0_0 s a).trans (hxs s a r)
  have hWh := rd_what (v := arg17.view) h4 inb_S2048x256_S2048x256_0_0
  have hY0 := ra_y harg6 hy ⟨0, by decide⟩ inb_S256x256_S256x128_0_0
  have hY1 := ra_y harg6 hy ⟨1, by decide⟩ inb_S256x256_S256x128_0_128
  exact es_at Cr hV hWh hXS hY0 hY1 s r
include hw hga hbe hy hx hxt hxs in
theorem HS10 : View.canon (kernelRun0_B.sl.HS10_32 c arg3 harg3 arg4 harg4 arg5 harg5 arg6 harg6 arg11 arg13 harg13 arg14 harg14 arg15 harg15 arg16 arg17 arg18 arg19 arg20 arg21 arg22 x2 x3 x4 x5 xs0 xs1 xs2) = Bshp Cr := by
  have h5 := HS5 c arg3 harg3 arg4 harg4 arg5 harg5 arg16 arg19 arg20 arg21 arg22 x2 x3 x4 hw hga hbe
  have hES := ES c arg3 harg3 arg4 harg4 arg5 harg5 arg6 harg6 arg11 arg13 harg13 arg15 harg15 arg16 arg17 arg19 arg20 arg21 arg22 x2 x3 x4 x5 xs0 xs2 hw hga hbe hy hx hxs
  have hT0 : ∀ k s r, _ := (fun k s r => ra_xt (Cr := Cr) harg14 (fun d s => hxt d s r) ⟨0, by decide⟩ inb_S2048x256_S128x256_0_0 k s)
  have hT1 : ∀ k s r, _ := (fun k s r => ra_xt (Cr := Cr) harg14 (fun d s => hxt d s r) ⟨1, by decide⟩ inb_S2048x256_S128x256_128_0 k s)
  have hT2 : ∀ k s r, _ := (fun k s r => ra_xt (Cr := Cr) harg14 (fun d s => hxt d s r) ⟨2, by decide⟩ inb_S2048x256_S128x256_256_0 k s)
  have hT3 : ∀ k s r, _ := (fun k s r => ra_xt (Cr := Cr) harg14 (fun d s => hxt d s r) ⟨3, by decide⟩ inb_S2048x256_S128x256_384_0 k s)
  have hT4 : ∀ k s r, _ := (fun k s r => ra_xt (Cr := Cr) harg14 (fun d s => hxt d s r) ⟨4, by decide⟩ inb_S2048x256_S128x256_512_0 k s)
  have hT5 : ∀ k s r, _ := (fun k s r => ra_xt (Cr := Cr) harg14 (fun d s => hxt d s r) ⟨5, by decide⟩ inb_S2048x256_S128x256_640_0 k s)
  have hT6 : ∀ k s r, _ := (fun k s r => ra_xt (Cr := Cr) harg14 (fun d s => hxt d s r) ⟨6, by decide⟩ inb_S2048x256_S128x256_768_0 k s)
  have hT7 : ∀ k s r, _ := (fun k s r => ra_xt (Cr := Cr) harg14 (fun d s => hxt d s r) ⟨7, by decide⟩ inb_S2048x256_S128x256_896_0 k s)
  have hT8 : ∀ k s r, _ := (fun k s r => ra_xt (Cr := Cr) harg14 (fun d s => hxt d s r) ⟨8, by decide⟩ inb_S2048x256_S128x256_1024_0 k s)
  have hT9 : ∀ k s r, _ := (fun k s r => ra_xt (Cr := Cr) harg14 (fun d s => hxt d s r) ⟨9, by decide⟩ inb_S2048x256_S128x256_1152_0 k s)
  have hT10 : ∀ k s r, _ := (fun k s r => ra_xt (Cr := Cr) harg14 (fun d s => hxt d s r) ⟨10, by decide⟩ inb_S2048x256_S128x256_1280_0 k s)
  have hT11 : ∀ k s r, _ := (fun k s r => ra_xt (Cr := Cr) harg14 (fun d s => hxt d s r) ⟨11, by decide⟩ inb_S2048x256_S128x256_1408_0 k s)
  have hT12 : ∀ k s r, _ := (fun k s r => ra_xt (Cr := Cr) harg14 (fun d s => hxt d s r) ⟨12, by decide⟩ inb_S2048x256_S128x256_1536_0 k s)
  have hT13 : ∀ k s r, _ := (fun k s r => ra_xt (Cr := Cr) harg14 (fun d s => hxt d s r) ⟨13, by decide⟩ inb_S2048x256_S128x256_1664_0 k s)
  have hT14 : ∀ k s r, _ := (fun k s r => ra_xt (Cr := Cr) harg14 (fun d s => hxt d s r) ⟨14, by decide⟩ inb_S2048x256_S128x256_1792_0 k s)
  have hT15 : ∀ k s r, _ := (fun k s r => ra_xt (Cr := Cr) harg14 (fun d s => hxt d s r) ⟨15, by decide⟩ inb_S2048x256_S128x256_1920_0 k s)
  exact cn (pc (shp_piece1 Cr ⟨15, by decide⟩ hES hT15 (rd_tp (v := arg18.view) h5 ⟨1, by decide⟩ ⟨1, by decide⟩ rfl ⟨15, by decide⟩ _) _) <|
    pc (shp_piece0 Cr ⟨15, by decide⟩ hES hT15 (rd_tp (v := arg18.view) h5 ⟨0, by decide⟩ ⟨0, by decide⟩ rfl ⟨15, by decide⟩ _) _) <|
    pc (shp_piece1 Cr ⟨14, by decide⟩ hES hT14 (rd_tp (v := arg18.view) h5 ⟨1, by decide⟩ ⟨1, by decide⟩ rfl ⟨14, by decide⟩ _) _) <|
    pc (shp_piece0 Cr ⟨14, by decide⟩ hES hT14 (rd_tp (v := arg18.view) h5 ⟨0, by decide⟩ ⟨0, by decide⟩ rfl ⟨14, by decide⟩ _) _) <|
    pc (shp_piece1 Cr ⟨13, by decide⟩ hES hT13 (rd_tp (v := arg18.view) h5 ⟨1, by decide⟩ ⟨1, by decide⟩ rfl ⟨13, by decide⟩ _) _) <|
    pc (shp_piece0 Cr ⟨13, by decide⟩ hES hT13 (rd_tp (v := arg18.view) h5 ⟨0, by decide⟩ ⟨0, by decide⟩ rfl ⟨13, by decide⟩ _) _) <|
    pc (shp_piece1 Cr ⟨12, by decide⟩ hES hT12 (rd_tp (v := arg18.view) h5 ⟨1, by decide⟩ ⟨1, by decide⟩ rfl ⟨12, by decide⟩ _) _) <|
    pc (shp_piece0 Cr ⟨12, by decide⟩ hES hT12 (rd_tp (v := arg18.view) h5 ⟨0, by decide⟩ ⟨0, by decide⟩ rfl ⟨12, by decide⟩ _) _) <|
    pc (shp_piece1 Cr ⟨11, by decide⟩ hES hT11 (rd_tp (v := arg18.view) h5 ⟨1, by decide⟩ ⟨1, by decide⟩ rfl ⟨11, by decide⟩ _) _) <|
    pc (shp_piece0 Cr ⟨11, by decide⟩ hES hT11 (rd_tp (v := arg18.view) h5 ⟨0, by decide⟩ ⟨0, by decide⟩ rfl ⟨11, by decide⟩ _) _) <|
    pc (shp_piece1 Cr ⟨10, by decide⟩ hES hT10 (rd_tp (v := arg18.view) h5 ⟨1, by decide⟩ ⟨1, by decide⟩ rfl ⟨10, by decide⟩ _) _) <|
    pc (shp_piece0 Cr ⟨10, by decide⟩ hES hT10 (rd_tp (v := arg18.view) h5 ⟨0, by decide⟩ ⟨0, by decide⟩ rfl ⟨10, by decide⟩ _) _) <|
    pc (shp_piece1 Cr ⟨9, by decide⟩ hES hT9 (rd_tp (v := arg18.view) h5 ⟨1, by decide⟩ ⟨1, by decide⟩ rfl ⟨9, by decide⟩ _) _) <|
    pc (shp_piece0 Cr ⟨9, by decide⟩ hES hT9 (rd_tp (v := arg18.view) h5 ⟨0, by decide⟩ ⟨0, by decide⟩ rfl ⟨9, by decide⟩ _) _) <|
    pc (shp_piece1 Cr ⟨8, by decide⟩ hES hT8 (rd_tp (v := arg18.view) h5 ⟨1, by decide⟩ ⟨1, by decide⟩ rfl ⟨8, by decide⟩ _) _) <|
    pc (shp_piece0 Cr ⟨8, by decide⟩ hES hT8 (rd_tp (v := arg18.view) h5 ⟨0, by decide⟩ ⟨0, by decide⟩ rfl ⟨8, by decide⟩ _) _) <|
    pc (shp_piece1 Cr ⟨7, by decide⟩ hES hT7 (rd_tp (v := arg18.view) h5 ⟨1, by decide⟩ ⟨1, by decide⟩ rfl ⟨7, by decide⟩ _) _) <|
    pc (shp_piece0 Cr ⟨7, by decide⟩ hES hT7 (rd_tp (v := arg18.view) h5 ⟨0, by decide⟩ ⟨0, by decide⟩ rfl ⟨7, by decide⟩ _) _) <|
    pc (shp_piece1 Cr ⟨6, by decide⟩ hES hT6 (rd_tp (v := arg18.view) h5 ⟨1, by decide⟩ ⟨1, by decide⟩ rfl ⟨6, by decide⟩ _) _) <|
    pc (shp_piece0 Cr ⟨6, by decide⟩ hES hT6 (rd_tp (v := arg18.view) h5 ⟨0, by decide⟩ ⟨0, by decide⟩ rfl ⟨6, by decide⟩ _) _) <|
    pc (shp_piece1 Cr ⟨5, by decide⟩ hES hT5 (rd_tp (v := arg18.view) h5 ⟨1, by decide⟩ ⟨1, by decide⟩ rfl ⟨5, by decide⟩ _) _) <|
    pc (shp_piece0 Cr ⟨5, by decide⟩ hES hT5 (rd_tp (v := arg18.view) h5 ⟨0, by decide⟩ ⟨0, by decide⟩ rfl ⟨5, by decide⟩ _) _) <|
    pc (shp_piece1 Cr ⟨4, by decide⟩ hES hT4 (rd_tp (v := arg18.view) h5 ⟨1, by decide⟩ ⟨1, by decide⟩ rfl ⟨4, by decide⟩ _) _) <|
    pc (shp_piece0 Cr ⟨4, by decide⟩ hES hT4 (rd_tp (v := arg18.view) h5 ⟨0, by decide⟩ ⟨0, by decide⟩ rfl ⟨4, by decide⟩ _) _) <|
    pc (shp_piece1 Cr ⟨3, by decide⟩ hES hT3 (rd_tp (v := arg18.view) h5 ⟨1, by decide⟩ ⟨1, by decide⟩ rfl ⟨3, by decide⟩ _) _) <|
    pc (shp_piece0 Cr ⟨3, by decide⟩ hES hT3 (rd_tp (v := arg18.view) h5 ⟨0, by decide⟩ ⟨0, by decide⟩ rfl ⟨3, by decide⟩ _) _) <|
    pc (shp_piece1 Cr ⟨2, by decide⟩ hES hT2 (rd_tp (v := arg18.view) h5 ⟨1, by decide⟩ ⟨1, by decide⟩ rfl ⟨2, by decide⟩ _) _) <|
    pc (shp_piece0 Cr ⟨2, by decide⟩ hES hT2 (rd_tp (v := arg18.view) h5 ⟨0, by decide⟩ ⟨0, by decide⟩ rfl ⟨2, by decide⟩ _) _) <|
    pc (shp_piece1 Cr ⟨1, by decide⟩ hES hT1 (rd_tp (v := arg18.view) h5 ⟨1, by decide⟩ ⟨1, by decide⟩ rfl ⟨1, by decide⟩ _) _) <|
    pc (shp_piece0 Cr ⟨1, by decide⟩ hES hT1 (rd_tp (v := arg18.view) h5 ⟨0, by decide⟩ ⟨0, by decide⟩ rfl ⟨1, by decide⟩ _) _) <|
    pc (shp_piece1 Cr ⟨0, by decide⟩ hES hT0 (rd_tp (v := arg18.view) h5 ⟨1, by decide⟩ ⟨1, by decide⟩ rfl ⟨0, by decide⟩ _) _) <|
    pc (shp_piece0 Cr ⟨0, by decide⟩ hES hT0 (rd_tp (v := arg18.view) h5 ⟨0, by decide⟩ ⟨0, by decide⟩ rfl ⟨0, by decide⟩ _) _) <| pn) S1x8x128.size (by sl_kernel_rfl)
include hw hga hbe hy hx hxt hxs in
theorem HS11 : View.canon (kernelRun0_B.sl.HS11_32 c arg3 harg3 arg4 harg4 arg5 harg5 arg6 harg6 arg11 arg13 harg13 arg14 harg14 arg15 harg15 arg16 arg17 arg18 arg19 arg20 arg21 arg22 x2 x3 x4 x5 xs0 xs1 xs2) = Bscp Cr := by
  have h5 := HS5 c arg3 harg3 arg4 harg4 arg5 harg5 arg16 arg19 arg20 arg21 arg22 x2 x3 x4 hw hga hbe
  have hES := ES c arg3 harg3 arg4 harg4 arg5 harg5 arg6 harg6 arg11 arg13 harg13 arg15 harg15 arg16 arg17 arg19 arg20 arg21 arg22 x2 x3 x4 x5 xs0 xs2 hw hga hbe hy hx hxs
  have hT0 : ∀ k s r, _ := (fun k s r => ra_xt (Cr := Cr) harg14 (fun d s => hxt d s r) ⟨0, by decide⟩ inb_S2048x256_S128x256_0_0 k s)
  have hT1 : ∀ k s r, _ := (fun k s r => ra_xt (Cr := Cr) harg14 (fun d s => hxt d s r) ⟨1, by decide⟩ inb_S2048x256_S128x256_128_0 k s)
  have hT2 : ∀ k s r, _ := (fun k s r => ra_xt (Cr := Cr) harg14 (fun d s => hxt d s r) ⟨2, by decide⟩ inb_S2048x256_S128x256_256_0 k s)
  have hT3 : ∀ k s r, _ := (fun k s r => ra_xt (Cr := Cr) harg14 (fun d s => hxt d s r) ⟨3, by decide⟩ inb_S2048x256_S128x256_384_0 k s)
  have hT4 : ∀ k s r, _ := (fun k s r => ra_xt (Cr := Cr) harg14 (fun d s => hxt d s r) ⟨4, by decide⟩ inb_S2048x256_S128x256_512_0 k s)
  have hT5 : ∀ k s r, _ := (fun k s r => ra_xt (Cr := Cr) harg14 (fun d s => hxt d s r) ⟨5, by decide⟩ inb_S2048x256_S128x256_640_0 k s)
  have hT6 : ∀ k s r, _ := (fun k s r => ra_xt (Cr := Cr) harg14 (fun d s => hxt d s r) ⟨6, by decide⟩ inb_S2048x256_S128x256_768_0 k s)
  have hT7 : ∀ k s r, _ := (fun k s r => ra_xt (Cr := Cr) harg14 (fun d s => hxt d s r) ⟨7, by decide⟩ inb_S2048x256_S128x256_896_0 k s)
  have hT8 : ∀ k s r, _ := (fun k s r => ra_xt (Cr := Cr) harg14 (fun d s => hxt d s r) ⟨8, by decide⟩ inb_S2048x256_S128x256_1024_0 k s)
  have hT9 : ∀ k s r, _ := (fun k s r => ra_xt (Cr := Cr) harg14 (fun d s => hxt d s r) ⟨9, by decide⟩ inb_S2048x256_S128x256_1152_0 k s)
  have hT10 : ∀ k s r, _ := (fun k s r => ra_xt (Cr := Cr) harg14 (fun d s => hxt d s r) ⟨10, by decide⟩ inb_S2048x256_S128x256_1280_0 k s)
  have hT11 : ∀ k s r, _ := (fun k s r => ra_xt (Cr := Cr) harg14 (fun d s => hxt d s r) ⟨11, by decide⟩ inb_S2048x256_S128x256_1408_0 k s)
  have hT12 : ∀ k s r, _ := (fun k s r => ra_xt (Cr := Cr) harg14 (fun d s => hxt d s r) ⟨12, by decide⟩ inb_S2048x256_S128x256_1536_0 k s)
  have hT13 : ∀ k s r, _ := (fun k s r => ra_xt (Cr := Cr) harg14 (fun d s => hxt d s r) ⟨13, by decide⟩ inb_S2048x256_S128x256_1664_0 k s)
  have hT14 : ∀ k s r, _ := (fun k s r => ra_xt (Cr := Cr) harg14 (fun d s => hxt d s r) ⟨14, by decide⟩ inb_S2048x256_S128x256_1792_0 k s)
  have hT15 : ∀ k s r, _ := (fun k s r => ra_xt (Cr := Cr) harg14 (fun d s => hxt d s r) ⟨15, by decide⟩ inb_S2048x256_S128x256_1920_0 k s)
  exact cn (pc (scp_piece1 Cr ⟨15, by decide⟩ hES hT15 (rd_tm (v := arg18.view) h5 ⟨1, by decide⟩ ⟨3, by decide⟩ rfl ⟨15, by decide⟩ _) _) <|
    pc (scp_piece0 Cr ⟨15, by decide⟩ hES hT15 (rd_tm (v := arg18.view) h5 ⟨0, by decide⟩ ⟨2, by decide⟩ rfl ⟨15, by decide⟩ _) _) <|
    pc (scp_piece1 Cr ⟨14, by decide⟩ hES hT14 (rd_tm (v := arg18.view) h5 ⟨1, by decide⟩ ⟨3, by decide⟩ rfl ⟨14, by decide⟩ _) _) <|
    pc (scp_piece0 Cr ⟨14, by decide⟩ hES hT14 (rd_tm (v := arg18.view) h5 ⟨0, by decide⟩ ⟨2, by decide⟩ rfl ⟨14, by decide⟩ _) _) <|
    pc (scp_piece1 Cr ⟨13, by decide⟩ hES hT13 (rd_tm (v := arg18.view) h5 ⟨1, by decide⟩ ⟨3, by decide⟩ rfl ⟨13, by decide⟩ _) _) <|
    pc (scp_piece0 Cr ⟨13, by decide⟩ hES hT13 (rd_tm (v := arg18.view) h5 ⟨0, by decide⟩ ⟨2, by decide⟩ rfl ⟨13, by decide⟩ _) _) <|
    pc (scp_piece1 Cr ⟨12, by decide⟩ hES hT12 (rd_tm (v := arg18.view) h5 ⟨1, by decide⟩ ⟨3, by decide⟩ rfl ⟨12, by decide⟩ _) _) <|
    pc (scp_piece0 Cr ⟨12, by decide⟩ hES hT12 (rd_tm (v := arg18.view) h5 ⟨0, by decide⟩ ⟨2, by decide⟩ rfl ⟨12, by decide⟩ _) _) <|
    pc (scp_piece1 Cr ⟨11, by decide⟩ hES hT11 (rd_tm (v := arg18.view) h5 ⟨1, by decide⟩ ⟨3, by decide⟩ rfl ⟨11, by decide⟩ _) _) <|
    pc (scp_piece0 Cr ⟨11, by decide⟩ hES hT11 (rd_tm (v := arg18.view) h5 ⟨0, by decide⟩ ⟨2, by decide⟩ rfl ⟨11, by decide⟩ _) _) <|
    pc (scp_piece1 Cr ⟨10, by decide⟩ hES hT10 (rd_tm (v := arg18.view) h5 ⟨1, by decide⟩ ⟨3, by decide⟩ rfl ⟨10, by decide⟩ _) _) <|
    pc (scp_piece0 Cr ⟨10, by decide⟩ hES hT10 (rd_tm (v := arg18.view) h5 ⟨0, by decide⟩ ⟨2, by decide⟩ rfl ⟨10, by decide⟩ _) _) <|
    pc (scp_piece1 Cr ⟨9, by decide⟩ hES hT9 (rd_tm (v := arg18.view) h5 ⟨1, by decide⟩ ⟨3, by decide⟩ rfl ⟨9, by decide⟩ _) _) <|
    pc (scp_piece0 Cr ⟨9, by decide⟩ hES hT9 (rd_tm (v := arg18.view) h5 ⟨0, by decide⟩ ⟨2, by decide⟩ rfl ⟨9, by decide⟩ _) _) <|
    pc (scp_piece1 Cr ⟨8, by decide⟩ hES hT8 (rd_tm (v := arg18.view) h5 ⟨1, by decide⟩ ⟨3, by decide⟩ rfl ⟨8, by decide⟩ _) _) <|
    pc (scp_piece0 Cr ⟨8, by decide⟩ hES hT8 (rd_tm (v := arg18.view) h5 ⟨0, by decide⟩ ⟨2, by decide⟩ rfl ⟨8, by decide⟩ _) _) <|
    pc (scp_piece1 Cr ⟨7, by decide⟩ hES hT7 (rd_tm (v := arg18.view) h5 ⟨1, by decide⟩ ⟨3, by decide⟩ rfl ⟨7, by decide⟩ _) _) <|
    pc (scp_piece0 Cr ⟨7, by decide⟩ hES hT7 (rd_tm (v := arg18.view) h5 ⟨0, by decide⟩ ⟨2, by decide⟩ rfl ⟨7, by decide⟩ _) _) <|
    pc (scp_piece1 Cr ⟨6, by decide⟩ hES hT6 (rd_tm (v := arg18.view) h5 ⟨1, by decide⟩ ⟨3, by decide⟩ rfl ⟨6, by decide⟩ _) _) <|
    pc (scp_piece0 Cr ⟨6, by decide⟩ hES hT6 (rd_tm (v := arg18.view) h5 ⟨0, by decide⟩ ⟨2, by decide⟩ rfl ⟨6, by decide⟩ _) _) <|
    pc (scp_piece1 Cr ⟨5, by decide⟩ hES hT5 (rd_tm (v := arg18.view) h5 ⟨1, by decide⟩ ⟨3, by decide⟩ rfl ⟨5, by decide⟩ _) _) <|
    pc (scp_piece0 Cr ⟨5, by decide⟩ hES hT5 (rd_tm (v := arg18.view) h5 ⟨0, by decide⟩ ⟨2, by decide⟩ rfl ⟨5, by decide⟩ _) _) <|
    pc (scp_piece1 Cr ⟨4, by decide⟩ hES hT4 (rd_tm (v := arg18.view) h5 ⟨1, by decide⟩ ⟨3, by decide⟩ rfl ⟨4, by decide⟩ _) _) <|
    pc (scp_piece0 Cr ⟨4, by decide⟩ hES hT4 (rd_tm (v := arg18.view) h5 ⟨0, by decide⟩ ⟨2, by decide⟩ rfl ⟨4, by decide⟩ _) _) <|
    pc (scp_piece1 Cr ⟨3, by decide⟩ hES hT3 (rd_tm (v := arg18.view) h5 ⟨1, by decide⟩ ⟨3, by decide⟩ rfl ⟨3, by decide⟩ _) _) <|
    pc (scp_piece0 Cr ⟨3, by decide⟩ hES hT3 (rd_tm (v := arg18.view) h5 ⟨0, by decide⟩ ⟨2, by decide⟩ rfl ⟨3, by decide⟩ _) _) <|
    pc (scp_piece1 Cr ⟨2, by decide⟩ hES hT2 (rd_tm (v := arg18.view) h5 ⟨1, by decide⟩ ⟨3, by decide⟩ rfl ⟨2, by decide⟩ _) _) <|
    pc (scp_piece0 Cr ⟨2, by decide⟩ hES hT2 (rd_tm (v := arg18.view) h5 ⟨0, by decide⟩ ⟨2, by decide⟩ rfl ⟨2, by decide⟩ _) _) <|
    pc (scp_piece1 Cr ⟨1, by decide⟩ hES hT1 (rd_tm (v := arg18.view) h5 ⟨1, by decide⟩ ⟨3, by decide⟩ rfl ⟨1, by decide⟩ _) _) <|
    pc (scp_piece0 Cr ⟨1, by decide⟩ hES hT1 (rd_tm (v := arg18.view) h5 ⟨0, by decide⟩ ⟨2, by decide⟩ rfl ⟨1, by decide⟩ _) _) <|
    pc (scp_piece1 Cr ⟨0, by decide⟩ hES hT0 (rd_tm (v := arg18.view) h5 ⟨1, by decide⟩ ⟨3, by decide⟩ rfl ⟨0, by decide⟩ _) _) <|
    pc (scp_piece0 Cr ⟨0, by decide⟩ hES hT0 (rd_tm (v := arg18.view) h5 ⟨0, by decide⟩ ⟨2, by decide⟩ rfl ⟨0, by decide⟩ _) _) <| pn) S1x8x128.size (by sl_kernel_rfl)
include hw hga hbe hy hx hxt hxs in
theorem out6 : out0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = Bdg Cr := by
  have h6 := HS6 c arg3 harg3 x2 hw
  have h7 := HS7 c arg3 harg3 x2 hw
  have h10s := HS10 c arg3 harg3 arg4 harg4 arg5 harg5 arg6 harg6 arg11 arg13 harg13 arg14 harg14 arg15 harg15 arg16 arg17 arg18 arg19 arg20 arg21 arg22 x2 x3 x4 x5 xs0 xs1 xs2 hw hga hbe hy hx hxt hxs
  have h11 := HS11 c arg3 harg3 arg4 harg4 arg5 harg5 arg6 harg6 arg11 arg13 harg13 arg14 harg14 arg15 harg15 arg16 arg17 arg18 arg19 arg20 arg21 arg22 x2 x3 x4 x5 xs0 xs1 xs2 hw hga hbe hy hx hxt hxs
  unfold out0_B_6
  rw [View.read_writes_junk_eq_canon]
  exact cn (pc (dg_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) (rd_shp (v := arg23.view) h10s ⟨1, by decide⟩) (rd_scp (v := arg24.view) h11 ⟨1, by decide⟩) _) <|
    pc (dg_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) (rd_shp (v := arg23.view) h10s ⟨0, by decide⟩) (rd_scp (v := arg24.view) h11 ⟨0, by decide⟩) _) <| pn) S16x128.size (by sl_kernel_rfl)
include hw hga hbe hy hx hxt hxs in
theorem out7 : out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = Bdb Cr := by
  have h6 := HS6 c arg3 harg3 x2 hw
  have h7 := HS7 c arg3 harg3 x2 hw
  have h10s := HS10 c arg3 harg3 arg4 harg4 arg5 harg5 arg6 harg6 arg11 arg13 harg13 arg14 harg14 arg15 harg15 arg16 arg17 arg18 arg19 arg20 arg21 arg22 x2 x3 x4 x5 xs0 xs1 xs2 hw hga hbe hy hx hxt hxs
  have h11 := HS11 c arg3 harg3 arg4 harg4 arg5 harg5 arg6 harg6 arg11 arg13 harg13 arg14 harg14 arg15 harg15 arg16 arg17 arg18 arg19 arg20 arg21 arg22 x2 x3 x4 x5 xs0 xs1 xs2 hw hga hbe hy hx hxt hxs
  unfold out0_B_7
  rw [View.read_writes_junk_eq_canon]
  exact cn (pc (db_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) (rd_shp (v := arg23.view) h10s ⟨1, by decide⟩) (rd_scp (v := arg24.view) h11 ⟨1, by decide⟩) _) <|
    pc (db_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) (rd_shp (v := arg23.view) h10s ⟨0, by decide⟩) (rd_scp (v := arg24.view) h11 ⟨0, by decide⟩) _) <| pn) S16x128.size (by sl_kernel_rfl)
include hw hga hbe in
theorem out9 : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = Bcode Cr := by
  have h3 := HS3 c arg3 harg3 x2 hw
  have h8 := HS8 c arg3 harg3 arg4 harg4 arg5 harg5 arg19 arg20 x2 x3 x4 hw hga hbe
  have h9 := HS9 c arg3 harg3 arg4 harg4 arg5 harg5 arg19 arg20 x2 x3 x4 hw hga hbe
  unfold out0_B_9
  rw [View.read_writes_junk_eq_canon]
  exact cn (pc (code_piece Cr ⟨1, by decide⟩ ⟨15, by decide⟩ (rd_rh (v := arg21.view) h8 ⟨1, by decide⟩ ⟨15, by decide⟩ _) (rd_mz (v := arg22.view) h9 ⟨1, by decide⟩ ⟨15, by decide⟩ _) (rd_wt (v := arg16.view) h3 ⟨1, by decide⟩ ⟨15, by decide⟩ _) _) <|
    pc (code_piece Cr ⟨1, by decide⟩ ⟨14, by decide⟩ (rd_rh (v := arg21.view) h8 ⟨1, by decide⟩ ⟨14, by decide⟩ _) (rd_mz (v := arg22.view) h9 ⟨1, by decide⟩ ⟨14, by decide⟩ _) (rd_wt (v := arg16.view) h3 ⟨1, by decide⟩ ⟨14, by decide⟩ _) _) <|
    pc (code_piece Cr ⟨1, by decide⟩ ⟨13, by decide⟩ (rd_rh (v := arg21.view) h8 ⟨1, by decide⟩ ⟨13, by decide⟩ _) (rd_mz (v := arg22.view) h9 ⟨1, by decide⟩ ⟨13, by decide⟩ _) (rd_wt (v := arg16.view) h3 ⟨1, by decide⟩ ⟨13, by decide⟩ _) _) <|
    pc (code_piece Cr ⟨1, by decide⟩ ⟨12, by decide⟩ (rd_rh (v := arg21.view) h8 ⟨1, by decide⟩ ⟨12, by decide⟩ _) (rd_mz (v := arg22.view) h9 ⟨1, by decide⟩ ⟨12, by decide⟩ _) (rd_wt (v := arg16.view) h3 ⟨1, by decide⟩ ⟨12, by decide⟩ _) _) <|
    pc (code_piece Cr ⟨1, by decide⟩ ⟨11, by decide⟩ (rd_rh (v := arg21.view) h8 ⟨1, by decide⟩ ⟨11, by decide⟩ _) (rd_mz (v := arg22.view) h9 ⟨1, by decide⟩ ⟨11, by decide⟩ _) (rd_wt (v := arg16.view) h3 ⟨1, by decide⟩ ⟨11, by decide⟩ _) _) <|
    pc (code_piece Cr ⟨1, by decide⟩ ⟨10, by decide⟩ (rd_rh (v := arg21.view) h8 ⟨1, by decide⟩ ⟨10, by decide⟩ _) (rd_mz (v := arg22.view) h9 ⟨1, by decide⟩ ⟨10, by decide⟩ _) (rd_wt (v := arg16.view) h3 ⟨1, by decide⟩ ⟨10, by decide⟩ _) _) <|
    pc (code_piece Cr ⟨1, by decide⟩ ⟨9, by decide⟩ (rd_rh (v := arg21.view) h8 ⟨1, by decide⟩ ⟨9, by decide⟩ _) (rd_mz (v := arg22.view) h9 ⟨1, by decide⟩ ⟨9, by decide⟩ _) (rd_wt (v := arg16.view) h3 ⟨1, by decide⟩ ⟨9, by decide⟩ _) _) <|
    pc (code_piece Cr ⟨1, by decide⟩ ⟨8, by decide⟩ (rd_rh (v := arg21.view) h8 ⟨1, by decide⟩ ⟨8, by decide⟩ _) (rd_mz (v := arg22.view) h9 ⟨1, by decide⟩ ⟨8, by decide⟩ _) (rd_wt (v := arg16.view) h3 ⟨1, by decide⟩ ⟨8, by decide⟩ _) _) <|
    pc (code_piece Cr ⟨1, by decide⟩ ⟨7, by decide⟩ (rd_rh (v := arg21.view) h8 ⟨1, by decide⟩ ⟨7, by decide⟩ _) (rd_mz (v := arg22.view) h9 ⟨1, by decide⟩ ⟨7, by decide⟩ _) (rd_wt (v := arg16.view) h3 ⟨1, by decide⟩ ⟨7, by decide⟩ _) _) <|
    pc (code_piece Cr ⟨1, by decide⟩ ⟨6, by decide⟩ (rd_rh (v := arg21.view) h8 ⟨1, by decide⟩ ⟨6, by decide⟩ _) (rd_mz (v := arg22.view) h9 ⟨1, by decide⟩ ⟨6, by decide⟩ _) (rd_wt (v := arg16.view) h3 ⟨1, by decide⟩ ⟨6, by decide⟩ _) _) <|
    pc (code_piece Cr ⟨1, by decide⟩ ⟨5, by decide⟩ (rd_rh (v := arg21.view) h8 ⟨1, by decide⟩ ⟨5, by decide⟩ _) (rd_mz (v := arg22.view) h9 ⟨1, by decide⟩ ⟨5, by decide⟩ _) (rd_wt (v := arg16.view) h3 ⟨1, by decide⟩ ⟨5, by decide⟩ _) _) <|
    pc (code_piece Cr ⟨1, by decide⟩ ⟨4, by decide⟩ (rd_rh (v := arg21.view) h8 ⟨1, by decide⟩ ⟨4, by decide⟩ _) (rd_mz (v := arg22.view) h9 ⟨1, by decide⟩ ⟨4, by decide⟩ _) (rd_wt (v := arg16.view) h3 ⟨1, by decide⟩ ⟨4, by decide⟩ _) _) <|
    pc (code_piece Cr ⟨1, by decide⟩ ⟨3, by decide⟩ (rd_rh (v := arg21.view) h8 ⟨1, by decide⟩ ⟨3, by decide⟩ _) (rd_mz (v := arg22.view) h9 ⟨1, by decide⟩ ⟨3, by decide⟩ _) (rd_wt (v := arg16.view) h3 ⟨1, by decide⟩ ⟨3, by decide⟩ _) _) <|
    pc (code_piece Cr ⟨1, by decide⟩ ⟨2, by decide⟩ (rd_rh (v := arg21.view) h8 ⟨1, by decide⟩ ⟨2, by decide⟩ _) (rd_mz (v := arg22.view) h9 ⟨1, by decide⟩ ⟨2, by decide⟩ _) (rd_wt (v := arg16.view) h3 ⟨1, by decide⟩ ⟨2, by decide⟩ _) _) <|
    pc (code_piece Cr ⟨1, by decide⟩ ⟨1, by decide⟩ (rd_rh (v := arg21.view) h8 ⟨1, by decide⟩ ⟨1, by decide⟩ _) (rd_mz (v := arg22.view) h9 ⟨1, by decide⟩ ⟨1, by decide⟩ _) (rd_wt (v := arg16.view) h3 ⟨1, by decide⟩ ⟨1, by decide⟩ _) _) <|
    pc (code_piece Cr ⟨1, by decide⟩ ⟨0, by decide⟩ (rd_rh (v := arg21.view) h8 ⟨1, by decide⟩ ⟨0, by decide⟩ _) (rd_mz (v := arg22.view) h9 ⟨1, by decide⟩ ⟨0, by decide⟩ _) (rd_wt (v := arg16.view) h3 ⟨1, by decide⟩ ⟨0, by decide⟩ _) _) <|
    pc (code_piece Cr ⟨0, by decide⟩ ⟨15, by decide⟩ (rd_rh (v := arg21.view) h8 ⟨0, by decide⟩ ⟨15, by decide⟩ _) (rd_mz (v := arg22.view) h9 ⟨0, by decide⟩ ⟨15, by decide⟩ _) (rd_wt (v := arg16.view) h3 ⟨0, by decide⟩ ⟨15, by decide⟩ _) _) <|
    pc (code_piece Cr ⟨0, by decide⟩ ⟨14, by decide⟩ (rd_rh (v := arg21.view) h8 ⟨0, by decide⟩ ⟨14, by decide⟩ _) (rd_mz (v := arg22.view) h9 ⟨0, by decide⟩ ⟨14, by decide⟩ _) (rd_wt (v := arg16.view) h3 ⟨0, by decide⟩ ⟨14, by decide⟩ _) _) <|
    pc (code_piece Cr ⟨0, by decide⟩ ⟨13, by decide⟩ (rd_rh (v := arg21.view) h8 ⟨0, by decide⟩ ⟨13, by decide⟩ _) (rd_mz (v := arg22.view) h9 ⟨0, by decide⟩ ⟨13, by decide⟩ _) (rd_wt (v := arg16.view) h3 ⟨0, by decide⟩ ⟨13, by decide⟩ _) _) <|
    pc (code_piece Cr ⟨0, by decide⟩ ⟨12, by decide⟩ (rd_rh (v := arg21.view) h8 ⟨0, by decide⟩ ⟨12, by decide⟩ _) (rd_mz (v := arg22.view) h9 ⟨0, by decide⟩ ⟨12, by decide⟩ _) (rd_wt (v := arg16.view) h3 ⟨0, by decide⟩ ⟨12, by decide⟩ _) _) <|
    pc (code_piece Cr ⟨0, by decide⟩ ⟨11, by decide⟩ (rd_rh (v := arg21.view) h8 ⟨0, by decide⟩ ⟨11, by decide⟩ _) (rd_mz (v := arg22.view) h9 ⟨0, by decide⟩ ⟨11, by decide⟩ _) (rd_wt (v := arg16.view) h3 ⟨0, by decide⟩ ⟨11, by decide⟩ _) _) <|
    pc (code_piece Cr ⟨0, by decide⟩ ⟨10, by decide⟩ (rd_rh (v := arg21.view) h8 ⟨0, by decide⟩ ⟨10, by decide⟩ _) (rd_mz (v := arg22.view) h9 ⟨0, by decide⟩ ⟨10, by decide⟩ _) (rd_wt (v := arg16.view) h3 ⟨0, by decide⟩ ⟨10, by decide⟩ _) _) <|
    pc (code_piece Cr ⟨0, by decide⟩ ⟨9, by decide⟩ (rd_rh (v := arg21.view) h8 ⟨0, by decide⟩ ⟨9, by decide⟩ _) (rd_mz (v := arg22.view) h9 ⟨0, by decide⟩ ⟨9, by decide⟩ _) (rd_wt (v := arg16.view) h3 ⟨0, by decide⟩ ⟨9, by decide⟩ _) _) <|
    pc (code_piece Cr ⟨0, by decide⟩ ⟨8, by decide⟩ (rd_rh (v := arg21.view) h8 ⟨0, by decide⟩ ⟨8, by decide⟩ _) (rd_mz (v := arg22.view) h9 ⟨0, by decide⟩ ⟨8, by decide⟩ _) (rd_wt (v := arg16.view) h3 ⟨0, by decide⟩ ⟨8, by decide⟩ _) _) <|
    pc (code_piece Cr ⟨0, by decide⟩ ⟨7, by decide⟩ (rd_rh (v := arg21.view) h8 ⟨0, by decide⟩ ⟨7, by decide⟩ _) (rd_mz (v := arg22.view) h9 ⟨0, by decide⟩ ⟨7, by decide⟩ _) (rd_wt (v := arg16.view) h3 ⟨0, by decide⟩ ⟨7, by decide⟩ _) _) <|
    pc (code_piece Cr ⟨0, by decide⟩ ⟨6, by decide⟩ (rd_rh (v := arg21.view) h8 ⟨0, by decide⟩ ⟨6, by decide⟩ _) (rd_mz (v := arg22.view) h9 ⟨0, by decide⟩ ⟨6, by decide⟩ _) (rd_wt (v := arg16.view) h3 ⟨0, by decide⟩ ⟨6, by decide⟩ _) _) <|
    pc (code_piece Cr ⟨0, by decide⟩ ⟨5, by decide⟩ (rd_rh (v := arg21.view) h8 ⟨0, by decide⟩ ⟨5, by decide⟩ _) (rd_mz (v := arg22.view) h9 ⟨0, by decide⟩ ⟨5, by decide⟩ _) (rd_wt (v := arg16.view) h3 ⟨0, by decide⟩ ⟨5, by decide⟩ _) _) <|
    pc (code_piece Cr ⟨0, by decide⟩ ⟨4, by decide⟩ (rd_rh (v := arg21.view) h8 ⟨0, by decide⟩ ⟨4, by decide⟩ _) (rd_mz (v := arg22.view) h9 ⟨0, by decide⟩ ⟨4, by decide⟩ _) (rd_wt (v := arg16.view) h3 ⟨0, by decide⟩ ⟨4, by decide⟩ _) _) <|
    pc (code_piece Cr ⟨0, by decide⟩ ⟨3, by decide⟩ (rd_rh (v := arg21.view) h8 ⟨0, by decide⟩ ⟨3, by decide⟩ _) (rd_mz (v := arg22.view) h9 ⟨0, by decide⟩ ⟨3, by decide⟩ _) (rd_wt (v := arg16.view) h3 ⟨0, by decide⟩ ⟨3, by decide⟩ _) _) <|
    pc (code_piece Cr ⟨0, by decide⟩ ⟨2, by decide⟩ (rd_rh (v := arg21.view) h8 ⟨0, by decide⟩ ⟨2, by decide⟩ _) (rd_mz (v := arg22.view) h9 ⟨0, by decide⟩ ⟨2, by decide⟩ _) (rd_wt (v := arg16.view) h3 ⟨0, by decide⟩ ⟨2, by decide⟩ _) _) <|
    pc (code_piece Cr ⟨0, by decide⟩ ⟨1, by decide⟩ (rd_rh (v := arg21.view) h8 ⟨0, by decide⟩ ⟨1, by decide⟩ _) (rd_mz (v := arg22.view) h9 ⟨0, by decide⟩ ⟨1, by decide⟩ _) (rd_wt (v := arg16.view) h3 ⟨0, by decide⟩ ⟨1, by decide⟩ _) _) <|
    pc (code_piece Cr ⟨0, by decide⟩ ⟨0, by decide⟩ (rd_rh (v := arg21.view) h8 ⟨0, by decide⟩ ⟨0, by decide⟩ _) (rd_mz (v := arg22.view) h9 ⟨0, by decide⟩ ⟨0, by decide⟩ _) (rd_wt (v := arg16.view) h3 ⟨0, by decide⟩ ⟨0, by decide⟩ _) _) <| pn) S128x128.size (by sl_kernel_rfl)
include hw hga hbe in
theorem out10 : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = Bh Cr := by
  have h6 := HS6 c arg3 harg3 x2 hw
  have h7 := HS7 c arg3 harg3 x2 hw
  unfold out0_B_10
  rw [View.read_writes_junk_eq_canon]
  exact cn (pc (h_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (h_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S16x128.size (by sl_kernel_rfl)
include hw hga hbe in
theorem out11 : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = Bz Cr := by
  have h6 := HS6 c arg3 harg3 x2 hw
  have h7 := HS7 c arg3 harg3 x2 hw
  unfold out0_B_11
  rw [View.read_writes_junk_eq_canon]
  exact cn (pc (z_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (z_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S16x128.size (by sl_kernel_rfl)
include hw hga hbe hy hx hxs in
theorem L0 : View.canon (kernelRun0_B.sl.HS12_1 c arg3 harg3 arg4 harg4 arg5 harg5 arg6 harg6 arg11 arg13 harg13 arg15 harg15 arg16 arg17 arg19 arg20 arg21 arg22 arg25 harg25 x2 x3 x4 x5 xs0 xs2 xs12) = Bl0 Cr xs12 := by
  have h4 := HS4 c arg3 harg3 arg4 harg4 arg5 harg5 arg11 arg16 arg19 arg20 arg21 arg22 x2 x3 x4 hw hga hbe
  have hV : ∀ s d r, _ := fun s d r => (ra_xb harg13 (X := xs0) inb_S256x2048_S256x2048_0_0 s d).trans (hx s d r)
  have hXS : ∀ s a r, _ := fun s a r => (ra_xsb harg15 (X := xs2) inb_S256x128_S256x128_0_0 s a).trans (hxs s a r)
  have hWh := rd_what (v := arg17.view) h4 inb_S2048x256_S2048x256_0_0
  have hY0 := ra_y harg6 hy ⟨0, by decide⟩ inb_S256x256_S256x128_0_0
  have hY1 := ra_y harg6 hy ⟨1, by decide⟩ inb_S256x256_S256x128_0_128
  have hP := ra_lacc harg25 (X := xs12) inb_S8x128_S8x128_0_0
  refine cw fun p r => (l0_at Cr hV hWh hXS hY0 p r).trans ?_
  exact congr_arg (· + _) (hP p r)
include hw hga hbe hy hx hxs in
theorem sout12 : sout0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = Bl Cr xs12 := by
  have h4 := HS4 c arg3 harg3 arg4 harg4 arg5 harg5 arg11 arg16 arg19 arg20 arg21 arg22 x2 x3 x4 hw hga hbe
  have hV : ∀ s d r, _ := fun s d r => (ra_xb harg13 (X := xs0) inb_S256x2048_S256x2048_0_0 s d).trans (hx s d r)
  have hXS : ∀ s a r, _ := fun s a r => (ra_xsb harg15 (X := xs2) inb_S256x128_S256x128_0_0 s a).trans (hxs s a r)
  have hWh := rd_what (v := arg17.view) h4 inb_S2048x256_S2048x256_0_0
  have hY0 := ra_y harg6 hy ⟨0, by decide⟩ inb_S256x256_S256x128_0_0
  have hY1 := ra_y harg6 hy ⟨1, by decide⟩ inb_S256x256_S256x128_0_128
  have hP := rd_all (v := arg25.view) (L0 c arg3 harg3 arg4 harg4 arg5 harg5 arg6 harg6 arg11 arg13 harg13 arg15 harg15 arg16 arg17 arg19 arg20 arg21 arg22 arg25 harg25 x2 x3 x4 x5 xs0 xs2 xs12 hw hga hbe hy hx hxs) inb_S8x128_S8x128_0_0
  unfold sout0_B_12
  rw [View.read_writes_junk_eq_canon]
  refine cw fun p r => (l1_at Cr hV hWh hXS hY1 p r).trans ?_
  exact congr_arg (· + _) (hP p r)
end Cert.KernelIdeal.LW.B
-- ==== Proof.CaseC.lean ====
/- Case C of the tiled kernel: every buffer of one step, as the mathematics of its columns. -/
module
public import proofs.«01_k».proof.Proof.KLoss
public import proofs.«01_k».proof.Proof.Gen.KernelIdeal.Frame
@[expose] public section
set_option maxRecDepth 32768
noncomputable section
namespace Cert.KernelIdeal.LW.C
open Cert.KernelIdeal Cert.KernelIdeal.Gen Idealize.ShloMosaic Idealize.ShloMosaic.TcCoe Idealize.SL.Sem
open LWC Cert.KernelIdeal.LW

variable (c : Dev nD) (i : grid0.Coords) (arg1 : Memref sig .tc .vmem S256x2048 .fp8e4m3) (harg1 : arg1.IsWhole) (arg2 : Memref sig .tc .vmem S1x256 .f32) (harg2 : arg2.IsWhole) (arg3 : Memref sig .tc .vmem S256x2048 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S256x256 .bf16) (harg6 : arg6.IsWhole) (arg7 : Memref sig .tc .vmem S16x256 .f32) (harg7 : arg7.IsWhole) (arg8 : Memref sig .tc .vmem S16x256 .f32) (harg8 : arg8.IsWhole) (arg9 : Memref sig .tc .smem S1x1 .f32) (harg9 : arg9.IsWhole) (arg10 : Memref sig .tc .vmem S256x2048 .i8) (harg10 : arg10.IsWhole) (arg11 : Memref sig .tc .vmem S16x256 .f32) (harg11 : arg11.IsWhole) (arg12 : Memref sig .tc .vmem S16x256 .f32) (harg12 : arg12.IsWhole) (arg13 : Memref sig .tc .vmem S256x2048 .bf16) (harg13 : arg13.IsWhole) (arg14 : Memref sig .tc .vmem S2048x256 .bf16) (harg14 : arg14.IsWhole) (arg15 : Memref sig .tc .vmem S256x128 .f32) (harg15 : arg15.IsWhole) (arg16 : Memref sig .tc .vmem S2x2048x128 .f32) (harg16 : arg16.IsWhole) (arg17 : Memref sig .tc .vmem S2048x256 .bf16) (harg17 : arg17.IsWhole) (arg18 : Memref sig .tc .vmem S4x2048x128 .f32) (harg18 : arg18.IsWhole) (arg19 : Memref sig .tc .vmem S2x128x128 .f32) (harg19 : arg19.IsWhole) (arg20 : Memref sig .tc .vmem S2x128x128 .f32) (harg20 : arg20.IsWhole) (arg21 : Memref sig .tc .vmem S2x16x128 .f32) (harg21 : arg21.IsWhole) (arg22 : Memref sig .tc .vmem S2x16x128 .f32) (harg22 : arg22.IsWhole) (arg23 : Memref sig .tc .vmem S2x128x128 .f32) (harg23 : arg23.IsWhole) (arg24 : Memref sig .tc .vmem S2x128x128 .f32) (harg24 : arg24.IsWhole) (arg25 : Memref sig .tc .vmem S8x128 .f32) (harg25 : arg25.IsWhole)
variable (hc0 : ¬cond0_0 i)
variable (hc1 : cond0_1 i)
variable (x0 : Vec Ideal S256x2048 .fp8e4m3) (x1 : Vec Ideal S1x256 .f32) (x2 : Vec Ideal S256x2048 .f32)
  (x3 : Vec Ideal S16x256 .f32) (x4 : Vec Ideal S16x256 .f32) (x5 : Vec Ideal S256x256 .bf16)
variable (xs0 : Vec Ideal S256x2048 .bf16) (xs1 : Vec Ideal S2048x256 .bf16) (xs2 : Vec Ideal S256x128 .f32) (xs12 : Vec Ideal S8x128 .f32)
variable {Cr : Fin 256 → Col}
  (hw : ∀ r d, x2 (ix2 r d) = (Cr r).w d) (hga : ∀ g r, x3 (ix2 g r) = (Cr r).ga g)
  (hbe : ∀ g r, x4 (ix2 g r) = (Cr r).be g) (hy : ∀ s r, x5 (ix2 s r) = (Cr r).y s)
  (hx : ∀ s d r, xs0 (ix2 s d) = (Cr r).X s d) (hxt : ∀ d s r, xs1 (ix2 d s) = (Cr r).X s d)
  (hxs : ∀ s a r, xs2 (ix2 s a) = (Cr r).xs s)
include hw in
theorem HS3 : View.canon (kernelRun0_C.sl.HS3_32 c arg3 harg3 x2) = Bwt Cr := by
  exact cn (pc (wt_piece Cr ⟨1, by decide⟩ ⟨15, by decide⟩ (ra_w harg3 hw ⟨1, by decide⟩ ⟨15, by decide⟩ _) _) <|
    pc (wt_piece Cr ⟨1, by decide⟩ ⟨14, by decide⟩ (ra_w harg3 hw ⟨1, by decide⟩ ⟨14, by decide⟩ _) _) <|
    pc (wt_piece Cr ⟨1, by decide⟩ ⟨13, by decide⟩ (ra_w harg3 hw ⟨1, by decide⟩ ⟨13, by decide⟩ _) _) <|
    pc (wt_piece Cr ⟨1, by decide⟩ ⟨12, by decide⟩ (ra_w harg3 hw ⟨1, by decide⟩ ⟨12, by decide⟩ _) _) <|
    pc (wt_piece Cr ⟨1, by decide⟩ ⟨11, by decide⟩ (ra_w harg3 hw ⟨1, by decide⟩ ⟨11, by decide⟩ _) _) <|
    pc (wt_piece Cr ⟨1, by decide⟩ ⟨10, by decide⟩ (ra_w harg3 hw ⟨1, by decide⟩ ⟨10, by decide⟩ _) _) <|
    pc (wt_piece Cr ⟨1, by decide⟩ ⟨9, by decide⟩ (ra_w harg3 hw ⟨1, by decide⟩ ⟨9, by decide⟩ _) _) <|
    pc (wt_piece Cr ⟨1, by decide⟩ ⟨8, by decide⟩ (ra_w harg3 hw ⟨1, by decide⟩ ⟨8, by decide⟩ _) _) <|
    pc (wt_piece Cr ⟨1, by decide⟩ ⟨7, by decide⟩ (ra_w harg3 hw ⟨1, by decide⟩ ⟨7, by decide⟩ _) _) <|
    pc (wt_piece Cr ⟨1, by decide⟩ ⟨6, by decide⟩ (ra_w harg3 hw ⟨1, by decide⟩ ⟨6, by decide⟩ _) _) <|
    pc (wt_piece Cr ⟨1, by decide⟩ ⟨5, by decide⟩ (ra_w harg3 hw ⟨1, by decide⟩ ⟨5, by decide⟩ _) _) <|
    pc (wt_piece Cr ⟨1, by decide⟩ ⟨4, by decide⟩ (ra_w harg3 hw ⟨1, by decide⟩ ⟨4, by decide⟩ _) _) <|
    pc (wt_piece Cr ⟨1, by decide⟩ ⟨3, by decide⟩ (ra_w harg3 hw ⟨1, by decide⟩ ⟨3, by decide⟩ _) _) <|
    pc (wt_piece Cr ⟨1, by decide⟩ ⟨2, by decide⟩ (ra_w harg3 hw ⟨1, by decide⟩ ⟨2, by decide⟩ _) _) <|
    pc (wt_piece Cr ⟨1, by decide⟩ ⟨1, by decide⟩ (ra_w harg3 hw ⟨1, by decide⟩ ⟨1, by decide⟩ _) _) <|
    pc (wt_piece Cr ⟨1, by decide⟩ ⟨0, by decide⟩ (ra_w harg3 hw ⟨1, by decide⟩ ⟨0, by decide⟩ _) _) <|
    pc (wt_piece Cr ⟨0, by decide⟩ ⟨15, by decide⟩ (ra_w harg3 hw ⟨0, by decide⟩ ⟨15, by decide⟩ _) _) <|
    pc (wt_piece Cr ⟨0, by decide⟩ ⟨14, by decide⟩ (ra_w harg3 hw ⟨0, by decide⟩ ⟨14, by decide⟩ _) _) <|
    pc (wt_piece Cr ⟨0, by decide⟩ ⟨13, by decide⟩ (ra_w harg3 hw ⟨0, by decide⟩ ⟨13, by decide⟩ _) _) <|
    pc (wt_piece Cr ⟨0, by decide⟩ ⟨12, by decide⟩ (ra_w harg3 hw ⟨0, by decide⟩ ⟨12, by decide⟩ _) _) <|
    pc (wt_piece Cr ⟨0, by decide⟩ ⟨11, by decide⟩ (ra_w harg3 hw ⟨0, by decide⟩ ⟨11, by decide⟩ _) _) <|
    pc (wt_piece Cr ⟨0, by decide⟩ ⟨10, by decide⟩ (ra_w harg3 hw ⟨0, by decide⟩ ⟨10, by decide⟩ _) _) <|
    pc (wt_piece Cr ⟨0, by decide⟩ ⟨9, by decide⟩ (ra_w harg3 hw ⟨0, by decide⟩ ⟨9, by decide⟩ _) _) <|
    pc (wt_piece Cr ⟨0, by decide⟩ ⟨8, by decide⟩ (ra_w harg3 hw ⟨0, by decide⟩ ⟨8, by decide⟩ _) _) <|
    pc (wt_piece Cr ⟨0, by decide⟩ ⟨7, by decide⟩ (ra_w harg3 hw ⟨0, by decide⟩ ⟨7, by decide⟩ _) _) <|
    pc (wt_piece Cr ⟨0, by decide⟩ ⟨6, by decide⟩ (ra_w harg3 hw ⟨0, by decide⟩ ⟨6, by decide⟩ _) _) <|
    pc (wt_piece Cr ⟨0, by decide⟩ ⟨5, by decide⟩ (ra_w harg3 hw ⟨0, by decide⟩ ⟨5, by decide⟩ _) _) <|
    pc (wt_piece Cr ⟨0, by decide⟩ ⟨4, by decide⟩ (ra_w harg3 hw ⟨0, by decide⟩ ⟨4, by decide⟩ _) _) <|
    pc (wt_piece Cr ⟨0, by decide⟩ ⟨3, by decide⟩ (ra_w harg3 hw ⟨0, by decide⟩ ⟨3, by decide⟩ _) _) <|
    pc (wt_piece Cr ⟨0, by decide⟩ ⟨2, by decide⟩ (ra_w harg3 hw ⟨0, by decide⟩ ⟨2, by decide⟩ _) _) <|
    pc (wt_piece Cr ⟨0, by decide⟩ ⟨1, by decide⟩ (ra_w harg3 hw ⟨0, by decide⟩ ⟨1, by decide⟩ _) _) <|
    pc (wt_piece Cr ⟨0, by decide⟩ ⟨0, by decide⟩ (ra_w harg3 hw ⟨0, by decide⟩ ⟨0, by decide⟩ _) _) <| pn) S1x128x128.size (by sl_kernel_rfl)
include hw in
theorem HS6 : View.canon (kernelRun0_C.sl.HS6_32 c arg3 harg3 x2) = Bmx Cr := by
  exact cn (pc (mx_piece Cr ⟨1, by decide⟩ ⟨15, by decide⟩ (ra_w harg3 hw ⟨1, by decide⟩ ⟨15, by decide⟩ _) _) <|
    pc (mx_piece Cr ⟨1, by decide⟩ ⟨14, by decide⟩ (ra_w harg3 hw ⟨1, by decide⟩ ⟨14, by decide⟩ _) _) <|
    pc (mx_piece Cr ⟨1, by decide⟩ ⟨13, by decide⟩ (ra_w harg3 hw ⟨1, by decide⟩ ⟨13, by decide⟩ _) _) <|
    pc (mx_piece Cr ⟨1, by decide⟩ ⟨12, by decide⟩ (ra_w harg3 hw ⟨1, by decide⟩ ⟨12, by decide⟩ _) _) <|
    pc (mx_piece Cr ⟨1, by decide⟩ ⟨11, by decide⟩ (ra_w harg3 hw ⟨1, by decide⟩ ⟨11, by decide⟩ _) _) <|
    pc (mx_piece Cr ⟨1, by decide⟩ ⟨10, by decide⟩ (ra_w harg3 hw ⟨1, by decide⟩ ⟨10, by decide⟩ _) _) <|
    pc (mx_piece Cr ⟨1, by decide⟩ ⟨9, by decide⟩ (ra_w harg3 hw ⟨1, by decide⟩ ⟨9, by decide⟩ _) _) <|
    pc (mx_piece Cr ⟨1, by decide⟩ ⟨8, by decide⟩ (ra_w harg3 hw ⟨1, by decide⟩ ⟨8, by decide⟩ _) _) <|
    pc (mx_piece Cr ⟨1, by decide⟩ ⟨7, by decide⟩ (ra_w harg3 hw ⟨1, by decide⟩ ⟨7, by decide⟩ _) _) <|
    pc (mx_piece Cr ⟨1, by decide⟩ ⟨6, by decide⟩ (ra_w harg3 hw ⟨1, by decide⟩ ⟨6, by decide⟩ _) _) <|
    pc (mx_piece Cr ⟨1, by decide⟩ ⟨5, by decide⟩ (ra_w harg3 hw ⟨1, by decide⟩ ⟨5, by decide⟩ _) _) <|
    pc (mx_piece Cr ⟨1, by decide⟩ ⟨4, by decide⟩ (ra_w harg3 hw ⟨1, by decide⟩ ⟨4, by decide⟩ _) _) <|
    pc (mx_piece Cr ⟨1, by decide⟩ ⟨3, by decide⟩ (ra_w harg3 hw ⟨1, by decide⟩ ⟨3, by decide⟩ _) _) <|
    pc (mx_piece Cr ⟨1, by decide⟩ ⟨2, by decide⟩ (ra_w harg3 hw ⟨1, by decide⟩ ⟨2, by decide⟩ _) _) <|
    pc (mx_piece Cr ⟨1, by decide⟩ ⟨1, by decide⟩ (ra_w harg3 hw ⟨1, by decide⟩ ⟨1, by decide⟩ _) _) <|
    pc (mx_piece Cr ⟨1, by decide⟩ ⟨0, by decide⟩ (ra_w harg3 hw ⟨1, by decide⟩ ⟨0, by decide⟩ _) _) <|
    pc (mx_piece Cr ⟨0, by decide⟩ ⟨15, by decide⟩ (ra_w harg3 hw ⟨0, by decide⟩ ⟨15, by decide⟩ _) _) <|
    pc (mx_piece Cr ⟨0, by decide⟩ ⟨14, by decide⟩ (ra_w harg3 hw ⟨0, by decide⟩ ⟨14, by decide⟩ _) _) <|
    pc (mx_piece Cr ⟨0, by decide⟩ ⟨13, by decide⟩ (ra_w harg3 hw ⟨0, by decide⟩ ⟨13, by decide⟩ _) _) <|
    pc (mx_piece Cr ⟨0, by decide⟩ ⟨12, by decide⟩ (ra_w harg3 hw ⟨0, by decide⟩ ⟨12, by decide⟩ _) _) <|
    pc (mx_piece Cr ⟨0, by decide⟩ ⟨11, by decide⟩ (ra_w harg3 hw ⟨0, by decide⟩ ⟨11, by decide⟩ _) _) <|
    pc (mx_piece Cr ⟨0, by decide⟩ ⟨10, by decide⟩ (ra_w harg3 hw ⟨0, by decide⟩ ⟨10, by decide⟩ _) _) <|
    pc (mx_piece Cr ⟨0, by decide⟩ ⟨9, by decide⟩ (ra_w harg3 hw ⟨0, by decide⟩ ⟨9, by decide⟩ _) _) <|
    pc (mx_piece Cr ⟨0, by decide⟩ ⟨8, by decide⟩ (ra_w harg3 hw ⟨0, by decide⟩ ⟨8, by decide⟩ _) _) <|
    pc (mx_piece Cr ⟨0, by decide⟩ ⟨7, by decide⟩ (ra_w harg3 hw ⟨0, by decide⟩ ⟨7, by decide⟩ _) _) <|
    pc (mx_piece Cr ⟨0, by decide⟩ ⟨6, by decide⟩ (ra_w harg3 hw ⟨0, by decide⟩ ⟨6, by decide⟩ _) _) <|
    pc (mx_piece Cr ⟨0, by decide⟩ ⟨5, by decide⟩ (ra_w harg3 hw ⟨0, by decide⟩ ⟨5, by decide⟩ _) _) <|
    pc (mx_piece Cr ⟨0, by decide⟩ ⟨4, by decide⟩ (ra_w harg3 hw ⟨0, by decide⟩ ⟨4, by decide⟩ _) _) <|
    pc (mx_piece Cr ⟨0, by decide⟩ ⟨3, by decide⟩ (ra_w harg3 hw ⟨0, by decide⟩ ⟨3, by decide⟩ _) _) <|
    pc (mx_piece Cr ⟨0, by decide⟩ ⟨2, by decide⟩ (ra_w harg3 hw ⟨0, by decide⟩ ⟨2, by decide⟩ _) _) <|
    pc (mx_piece Cr ⟨0, by decide⟩ ⟨1, by decide⟩ (ra_w harg3 hw ⟨0, by decide⟩ ⟨1, by decide⟩ _) _) <|
    pc (mx_piece Cr ⟨0, by decide⟩ ⟨0, by decide⟩ (ra_w harg3 hw ⟨0, by decide⟩ ⟨0, by decide⟩ _) _) <| pn) S1x8x128.size (by sl_kernel_rfl)
include hw in
theorem HS7 : View.canon (kernelRun0_C.sl.HS7_32 c arg3 harg3 x2) = Bmn Cr := by
  exact cn (pc (mn_piece Cr ⟨1, by decide⟩ ⟨15, by decide⟩ (ra_w harg3 hw ⟨1, by decide⟩ ⟨15, by decide⟩ _) _) <|
    pc (mn_piece Cr ⟨1, by decide⟩ ⟨14, by decide⟩ (ra_w harg3 hw ⟨1, by decide⟩ ⟨14, by decide⟩ _) _) <|
    pc (mn_piece Cr ⟨1, by decide⟩ ⟨13, by decide⟩ (ra_w harg3 hw ⟨1, by decide⟩ ⟨13, by decide⟩ _) _) <|
    pc (mn_piece Cr ⟨1, by decide⟩ ⟨12, by decide⟩ (ra_w harg3 hw ⟨1, by decide⟩ ⟨12, by decide⟩ _) _) <|
    pc (mn_piece Cr ⟨1, by decide⟩ ⟨11, by decide⟩ (ra_w harg3 hw ⟨1, by decide⟩ ⟨11, by decide⟩ _) _) <|
    pc (mn_piece Cr ⟨1, by decide⟩ ⟨10, by decide⟩ (ra_w harg3 hw ⟨1, by decide⟩ ⟨10, by decide⟩ _) _) <|
    pc (mn_piece Cr ⟨1, by decide⟩ ⟨9, by decide⟩ (ra_w harg3 hw ⟨1, by decide⟩ ⟨9, by decide⟩ _) _) <|
    pc (mn_piece Cr ⟨1, by decide⟩ ⟨8, by decide⟩ (ra_w harg3 hw ⟨1, by decide⟩ ⟨8, by decide⟩ _) _) <|
    pc (mn_piece Cr ⟨1, by decide⟩ ⟨7, by decide⟩ (ra_w harg3 hw ⟨1, by decide⟩ ⟨7, by decide⟩ _) _) <|
    pc (mn_piece Cr ⟨1, by decide⟩ ⟨6, by decide⟩ (ra_w harg3 hw ⟨1, by decide⟩ ⟨6, by decide⟩ _) _) <|
    pc (mn_piece Cr ⟨1, by decide⟩ ⟨5, by decide⟩ (ra_w harg3 hw ⟨1, by decide⟩ ⟨5, by decide⟩ _) _) <|
    pc (mn_piece Cr ⟨1, by decide⟩ ⟨4, by decide⟩ (ra_w harg3 hw ⟨1, by decide⟩ ⟨4, by decide⟩ _) _) <|
    pc (mn_piece Cr ⟨1, by decide⟩ ⟨3, by decide⟩ (ra_w harg3 hw ⟨1, by decide⟩ ⟨3, by decide⟩ _) _) <|
    pc (mn_piece Cr ⟨1, by decide⟩ ⟨2, by decide⟩ (ra_w harg3 hw ⟨1, by decide⟩ ⟨2, by decide⟩ _) _) <|
    pc (mn_piece Cr ⟨1, by decide⟩ ⟨1, by decide⟩ (ra_w harg3 hw ⟨1, by decide⟩ ⟨1, by decide⟩ _) _) <|
    pc (mn_piece Cr ⟨1, by decide⟩ ⟨0, by decide⟩ (ra_w harg3 hw ⟨1, by decide⟩ ⟨0, by decide⟩ _) _) <|
    pc (mn_piece Cr ⟨0, by decide⟩ ⟨15, by decide⟩ (ra_w harg3 hw ⟨0, by decide⟩ ⟨15, by decide⟩ _) _) <|
    pc (mn_piece Cr ⟨0, by decide⟩ ⟨14, by decide⟩ (ra_w harg3 hw ⟨0, by decide⟩ ⟨14, by decide⟩ _) _) <|
    pc (mn_piece Cr ⟨0, by decide⟩ ⟨13, by decide⟩ (ra_w harg3 hw ⟨0, by decide⟩ ⟨13, by decide⟩ _) _) <|
    pc (mn_piece Cr ⟨0, by decide⟩ ⟨12, by decide⟩ (ra_w harg3 hw ⟨0, by decide⟩ ⟨12, by decide⟩ _) _) <|
    pc (mn_piece Cr ⟨0, by decide⟩ ⟨11, by decide⟩ (ra_w harg3 hw ⟨0, by decide⟩ ⟨11, by decide⟩ _) _) <|
    pc (mn_piece Cr ⟨0, by decide⟩ ⟨10, by decide⟩ (ra_w harg3 hw ⟨0, by decide⟩ ⟨10, by decide⟩ _) _) <|
    pc (mn_piece Cr ⟨0, by decide⟩ ⟨9, by decide⟩ (ra_w harg3 hw ⟨0, by decide⟩ ⟨9, by decide⟩ _) _) <|
    pc (mn_piece Cr ⟨0, by decide⟩ ⟨8, by decide⟩ (ra_w harg3 hw ⟨0, by decide⟩ ⟨8, by decide⟩ _) _) <|
    pc (mn_piece Cr ⟨0, by decide⟩ ⟨7, by decide⟩ (ra_w harg3 hw ⟨0, by decide⟩ ⟨7, by decide⟩ _) _) <|
    pc (mn_piece Cr ⟨0, by decide⟩ ⟨6, by decide⟩ (ra_w harg3 hw ⟨0, by decide⟩ ⟨6, by decide⟩ _) _) <|
    pc (mn_piece Cr ⟨0, by decide⟩ ⟨5, by decide⟩ (ra_w harg3 hw ⟨0, by decide⟩ ⟨5, by decide⟩ _) _) <|
    pc (mn_piece Cr ⟨0, by decide⟩ ⟨4, by decide⟩ (ra_w harg3 hw ⟨0, by decide⟩ ⟨4, by decide⟩ _) _) <|
    pc (mn_piece Cr ⟨0, by decide⟩ ⟨3, by decide⟩ (ra_w harg3 hw ⟨0, by decide⟩ ⟨3, by decide⟩ _) _) <|
    pc (mn_piece Cr ⟨0, by decide⟩ ⟨2, by decide⟩ (ra_w harg3 hw ⟨0, by decide⟩ ⟨2, by decide⟩ _) _) <|
    pc (mn_piece Cr ⟨0, by decide⟩ ⟨1, by decide⟩ (ra_w harg3 hw ⟨0, by decide⟩ ⟨1, by decide⟩ _) _) <|
    pc (mn_piece Cr ⟨0, by decide⟩ ⟨0, by decide⟩ (ra_w harg3 hw ⟨0, by decide⟩ ⟨0, by decide⟩ _) _) <| pn) S1x8x128.size (by sl_kernel_rfl)
include hw hga hbe in
theorem H10 : View.canon (kernelRun0_C.sl.H10_2 c arg3 harg3 arg4 harg4 arg5 harg5 arg19 arg20 x2 x3 x4) = Bh Cr := by
  have h6 := HS6 c arg3 harg3 x2 hw
  have h7 := HS7 c arg3 harg3 x2 hw
  exact cn (pc (h_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (h_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S16x128.size (by sl_kernel_rfl)
include hw hga hbe in
theorem HS8 : View.canon (kernelRun0_C.sl.HS8_2 c arg3 harg3 arg4 harg4 arg5 harg5 arg19 arg20 x2 x3 x4) = Brh Cr := by
  have h6 := HS6 c arg3 harg3 x2 hw
  have h7 := HS7 c arg3 harg3 x2 hw
  exact cn (pc (rh_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (rh_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S1x16x128.size (by sl_kernel_rfl)
include hw hga hbe in
theorem HS9 : View.canon (kernelRun0_C.sl.HS9_2 c arg3 harg3 arg4 harg4 arg5 harg5 arg19 arg20 x2 x3 x4) = Bmz Cr := by
  have h6 := HS6 c arg3 harg3 x2 hw
  have h7 := HS7 c arg3 harg3 x2 hw
  exact cn (pc (mz_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (mz_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S1x16x128.size (by sl_kernel_rfl)
include hw hga hbe in
theorem HS4 : View.canon (kernelRun0_C.sl.HS4_32 c arg3 harg3 arg4 harg4 arg5 harg5 arg11 arg16 arg19 arg20 arg21 arg22 x2 x3 x4) = Bwhat Cr := by
  have h3 := HS3 c arg3 harg3 x2 hw
  have h8 := HS8 c arg3 harg3 arg4 harg4 arg5 harg5 arg19 arg20 x2 x3 x4 hw hga hbe
  have h9 := HS9 c arg3 harg3 arg4 harg4 arg5 harg5 arg19 arg20 x2 x3 x4 hw hga hbe
  have h10 := H10 c arg3 harg3 arg4 harg4 arg5 harg5 arg19 arg20 x2 x3 x4 hw hga hbe
  exact cn (pc (what_piece Cr ⟨1, by decide⟩ ⟨15, by decide⟩ (rd_rh (v := arg21.view) h8 ⟨1, by decide⟩ ⟨15, by decide⟩ _) (rd_mz (v := arg22.view) h9 ⟨1, by decide⟩ ⟨15, by decide⟩ _) (rd_h (v := arg11.view) h10 ⟨1, by decide⟩ ⟨15, by decide⟩ _) (rd_wt (v := arg16.view) h3 ⟨1, by decide⟩ ⟨15, by decide⟩ _) _) <|
    pc (what_piece Cr ⟨1, by decide⟩ ⟨14, by decide⟩ (rd_rh (v := arg21.view) h8 ⟨1, by decide⟩ ⟨14, by decide⟩ _) (rd_mz (v := arg22.view) h9 ⟨1, by decide⟩ ⟨14, by decide⟩ _) (rd_h (v := arg11.view) h10 ⟨1, by decide⟩ ⟨14, by decide⟩ _) (rd_wt (v := arg16.view) h3 ⟨1, by decide⟩ ⟨14, by decide⟩ _) _) <|
    pc (what_piece Cr ⟨1, by decide⟩ ⟨13, by decide⟩ (rd_rh (v := arg21.view) h8 ⟨1, by decide⟩ ⟨13, by decide⟩ _) (rd_mz (v := arg22.view) h9 ⟨1, by decide⟩ ⟨13, by decide⟩ _) (rd_h (v := arg11.view) h10 ⟨1, by decide⟩ ⟨13, by decide⟩ _) (rd_wt (v := arg16.view) h3 ⟨1, by decide⟩ ⟨13, by decide⟩ _) _) <|
    pc (what_piece Cr ⟨1, by decide⟩ ⟨12, by decide⟩ (rd_rh (v := arg21.view) h8 ⟨1, by decide⟩ ⟨12, by decide⟩ _) (rd_mz (v := arg22.view) h9 ⟨1, by decide⟩ ⟨12, by decide⟩ _) (rd_h (v := arg11.view) h10 ⟨1, by decide⟩ ⟨12, by decide⟩ _) (rd_wt (v := arg16.view) h3 ⟨1, by decide⟩ ⟨12, by decide⟩ _) _) <|
    pc (what_piece Cr ⟨1, by decide⟩ ⟨11, by decide⟩ (rd_rh (v := arg21.view) h8 ⟨1, by decide⟩ ⟨11, by decide⟩ _) (rd_mz (v := arg22.view) h9 ⟨1, by decide⟩ ⟨11, by decide⟩ _) (rd_h (v := arg11.view) h10 ⟨1, by decide⟩ ⟨11, by decide⟩ _) (rd_wt (v := arg16.view) h3 ⟨1, by decide⟩ ⟨11, by decide⟩ _) _) <|
    pc (what_piece Cr ⟨1, by decide⟩ ⟨10, by decide⟩ (rd_rh (v := arg21.view) h8 ⟨1, by decide⟩ ⟨10, by decide⟩ _) (rd_mz (v := arg22.view) h9 ⟨1, by decide⟩ ⟨10, by decide⟩ _) (rd_h (v := arg11.view) h10 ⟨1, by decide⟩ ⟨10, by decide⟩ _) (rd_wt (v := arg16.view) h3 ⟨1, by decide⟩ ⟨10, by decide⟩ _) _) <|
    pc (what_piece Cr ⟨1, by decide⟩ ⟨9, by decide⟩ (rd_rh (v := arg21.view) h8 ⟨1, by decide⟩ ⟨9, by decide⟩ _) (rd_mz (v := arg22.view) h9 ⟨1, by decide⟩ ⟨9, by decide⟩ _) (rd_h (v := arg11.view) h10 ⟨1, by decide⟩ ⟨9, by decide⟩ _) (rd_wt (v := arg16.view) h3 ⟨1, by decide⟩ ⟨9, by decide⟩ _) _) <|
    pc (what_piece Cr ⟨1, by decide⟩ ⟨8, by decide⟩ (rd_rh (v := arg21.view) h8 ⟨1, by decide⟩ ⟨8, by decide⟩ _) (rd_mz (v := arg22.view) h9 ⟨1, by decide⟩ ⟨8, by decide⟩ _) (rd_h (v := arg11.view) h10 ⟨1, by decide⟩ ⟨8, by decide⟩ _) (rd_wt (v := arg16.view) h3 ⟨1, by decide⟩ ⟨8, by decide⟩ _) _) <|
    pc (what_piece Cr ⟨1, by decide⟩ ⟨7, by decide⟩ (rd_rh (v := arg21.view) h8 ⟨1, by decide⟩ ⟨7, by decide⟩ _) (rd_mz (v := arg22.view) h9 ⟨1, by decide⟩ ⟨7, by decide⟩ _) (rd_h (v := arg11.view) h10 ⟨1, by decide⟩ ⟨7, by decide⟩ _) (rd_wt (v := arg16.view) h3 ⟨1, by decide⟩ ⟨7, by decide⟩ _) _) <|
    pc (what_piece Cr ⟨1, by decide⟩ ⟨6, by decide⟩ (rd_rh (v := arg21.view) h8 ⟨1, by decide⟩ ⟨6, by decide⟩ _) (rd_mz (v := arg22.view) h9 ⟨1, by decide⟩ ⟨6, by decide⟩ _) (rd_h (v := arg11.view) h10 ⟨1, by decide⟩ ⟨6, by decide⟩ _) (rd_wt (v := arg16.view) h3 ⟨1, by decide⟩ ⟨6, by decide⟩ _) _) <|
    pc (what_piece Cr ⟨1, by decide⟩ ⟨5, by decide⟩ (rd_rh (v := arg21.view) h8 ⟨1, by decide⟩ ⟨5, by decide⟩ _) (rd_mz (v := arg22.view) h9 ⟨1, by decide⟩ ⟨5, by decide⟩ _) (rd_h (v := arg11.view) h10 ⟨1, by decide⟩ ⟨5, by decide⟩ _) (rd_wt (v := arg16.view) h3 ⟨1, by decide⟩ ⟨5, by decide⟩ _) _) <|
    pc (what_piece Cr ⟨1, by decide⟩ ⟨4, by decide⟩ (rd_rh (v := arg21.view) h8 ⟨1, by decide⟩ ⟨4, by decide⟩ _) (rd_mz (v := arg22.view) h9 ⟨1, by decide⟩ ⟨4, by decide⟩ _) (rd_h (v := arg11.view) h10 ⟨1, by decide⟩ ⟨4, by decide⟩ _) (rd_wt (v := arg16.view) h3 ⟨1, by decide⟩ ⟨4, by decide⟩ _) _) <|
    pc (what_piece Cr ⟨1, by decide⟩ ⟨3, by decide⟩ (rd_rh (v := arg21.view) h8 ⟨1, by decide⟩ ⟨3, by decide⟩ _) (rd_mz (v := arg22.view) h9 ⟨1, by decide⟩ ⟨3, by decide⟩ _) (rd_h (v := arg11.view) h10 ⟨1, by decide⟩ ⟨3, by decide⟩ _) (rd_wt (v := arg16.view) h3 ⟨1, by decide⟩ ⟨3, by decide⟩ _) _) <|
    pc (what_piece Cr ⟨1, by decide⟩ ⟨2, by decide⟩ (rd_rh (v := arg21.view) h8 ⟨1, by decide⟩ ⟨2, by decide⟩ _) (rd_mz (v := arg22.view) h9 ⟨1, by decide⟩ ⟨2, by decide⟩ _) (rd_h (v := arg11.view) h10 ⟨1, by decide⟩ ⟨2, by decide⟩ _) (rd_wt (v := arg16.view) h3 ⟨1, by decide⟩ ⟨2, by decide⟩ _) _) <|
    pc (what_piece Cr ⟨1, by decide⟩ ⟨1, by decide⟩ (rd_rh (v := arg21.view) h8 ⟨1, by decide⟩ ⟨1, by decide⟩ _) (rd_mz (v := arg22.view) h9 ⟨1, by decide⟩ ⟨1, by decide⟩ _) (rd_h (v := arg11.view) h10 ⟨1, by decide⟩ ⟨1, by decide⟩ _) (rd_wt (v := arg16.view) h3 ⟨1, by decide⟩ ⟨1, by decide⟩ _) _) <|
    pc (what_piece Cr ⟨1, by decide⟩ ⟨0, by decide⟩ (rd_rh (v := arg21.view) h8 ⟨1, by decide⟩ ⟨0, by decide⟩ _) (rd_mz (v := arg22.view) h9 ⟨1, by decide⟩ ⟨0, by decide⟩ _) (rd_h (v := arg11.view) h10 ⟨1, by decide⟩ ⟨0, by decide⟩ _) (rd_wt (v := arg16.view) h3 ⟨1, by decide⟩ ⟨0, by decide⟩ _) _) <|
    pc (what_piece Cr ⟨0, by decide⟩ ⟨15, by decide⟩ (rd_rh (v := arg21.view) h8 ⟨0, by decide⟩ ⟨15, by decide⟩ _) (rd_mz (v := arg22.view) h9 ⟨0, by decide⟩ ⟨15, by decide⟩ _) (rd_h (v := arg11.view) h10 ⟨0, by decide⟩ ⟨15, by decide⟩ _) (rd_wt (v := arg16.view) h3 ⟨0, by decide⟩ ⟨15, by decide⟩ _) _) <|
    pc (what_piece Cr ⟨0, by decide⟩ ⟨14, by decide⟩ (rd_rh (v := arg21.view) h8 ⟨0, by decide⟩ ⟨14, by decide⟩ _) (rd_mz (v := arg22.view) h9 ⟨0, by decide⟩ ⟨14, by decide⟩ _) (rd_h (v := arg11.view) h10 ⟨0, by decide⟩ ⟨14, by decide⟩ _) (rd_wt (v := arg16.view) h3 ⟨0, by decide⟩ ⟨14, by decide⟩ _) _) <|
    pc (what_piece Cr ⟨0, by decide⟩ ⟨13, by decide⟩ (rd_rh (v := arg21.view) h8 ⟨0, by decide⟩ ⟨13, by decide⟩ _) (rd_mz (v := arg22.view) h9 ⟨0, by decide⟩ ⟨13, by decide⟩ _) (rd_h (v := arg11.view) h10 ⟨0, by decide⟩ ⟨13, by decide⟩ _) (rd_wt (v := arg16.view) h3 ⟨0, by decide⟩ ⟨13, by decide⟩ _) _) <|
    pc (what_piece Cr ⟨0, by decide⟩ ⟨12, by decide⟩ (rd_rh (v := arg21.view) h8 ⟨0, by decide⟩ ⟨12, by decide⟩ _) (rd_mz (v := arg22.view) h9 ⟨0, by decide⟩ ⟨12, by decide⟩ _) (rd_h (v := arg11.view) h10 ⟨0, by decide⟩ ⟨12, by decide⟩ _) (rd_wt (v := arg16.view) h3 ⟨0, by decide⟩ ⟨12, by decide⟩ _) _) <|
    pc (what_piece Cr ⟨0, by decide⟩ ⟨11, by decide⟩ (rd_rh (v := arg21.view) h8 ⟨0, by decide⟩ ⟨11, by decide⟩ _) (rd_mz (v := arg22.view) h9 ⟨0, by decide⟩ ⟨11, by decide⟩ _) (rd_h (v := arg11.view) h10 ⟨0, by decide⟩ ⟨11, by decide⟩ _) (rd_wt (v := arg16.view) h3 ⟨0, by decide⟩ ⟨11, by decide⟩ _) _) <|
    pc (what_piece Cr ⟨0, by decide⟩ ⟨10, by decide⟩ (rd_rh (v := arg21.view) h8 ⟨0, by decide⟩ ⟨10, by decide⟩ _) (rd_mz (v := arg22.view) h9 ⟨0, by decide⟩ ⟨10, by decide⟩ _) (rd_h (v := arg11.view) h10 ⟨0, by decide⟩ ⟨10, by decide⟩ _) (rd_wt (v := arg16.view) h3 ⟨0, by decide⟩ ⟨10, by decide⟩ _) _) <|
    pc (what_piece Cr ⟨0, by decide⟩ ⟨9, by decide⟩ (rd_rh (v := arg21.view) h8 ⟨0, by decide⟩ ⟨9, by decide⟩ _) (rd_mz (v := arg22.view) h9 ⟨0, by decide⟩ ⟨9, by decide⟩ _) (rd_h (v := arg11.view) h10 ⟨0, by decide⟩ ⟨9, by decide⟩ _) (rd_wt (v := arg16.view) h3 ⟨0, by decide⟩ ⟨9, by decide⟩ _) _) <|
    pc (what_piece Cr ⟨0, by decide⟩ ⟨8, by decide⟩ (rd_rh (v := arg21.view) h8 ⟨0, by decide⟩ ⟨8, by decide⟩ _) (rd_mz (v := arg22.view) h9 ⟨0, by decide⟩ ⟨8, by decide⟩ _) (rd_h (v := arg11.view) h10 ⟨0, by decide⟩ ⟨8, by decide⟩ _) (rd_wt (v := arg16.view) h3 ⟨0, by decide⟩ ⟨8, by decide⟩ _) _) <|
    pc (what_piece Cr ⟨0, by decide⟩ ⟨7, by decide⟩ (rd_rh (v := arg21.view) h8 ⟨0, by decide⟩ ⟨7, by decide⟩ _) (rd_mz (v := arg22.view) h9 ⟨0, by decide⟩ ⟨7, by decide⟩ _) (rd_h (v := arg11.view) h10 ⟨0, by decide⟩ ⟨7, by decide⟩ _) (rd_wt (v := arg16.view) h3 ⟨0, by decide⟩ ⟨7, by decide⟩ _) _) <|
    pc (what_piece Cr ⟨0, by decide⟩ ⟨6, by decide⟩ (rd_rh (v := arg21.view) h8 ⟨0, by decide⟩ ⟨6, by decide⟩ _) (rd_mz (v := arg22.view) h9 ⟨0, by decide⟩ ⟨6, by decide⟩ _) (rd_h (v := arg11.view) h10 ⟨0, by decide⟩ ⟨6, by decide⟩ _) (rd_wt (v := arg16.view) h3 ⟨0, by decide⟩ ⟨6, by decide⟩ _) _) <|
    pc (what_piece Cr ⟨0, by decide⟩ ⟨5, by decide⟩ (rd_rh (v := arg21.view) h8 ⟨0, by decide⟩ ⟨5, by decide⟩ _) (rd_mz (v := arg22.view) h9 ⟨0, by decide⟩ ⟨5, by decide⟩ _) (rd_h (v := arg11.view) h10 ⟨0, by decide⟩ ⟨5, by decide⟩ _) (rd_wt (v := arg16.view) h3 ⟨0, by decide⟩ ⟨5, by decide⟩ _) _) <|
    pc (what_piece Cr ⟨0, by decide⟩ ⟨4, by decide⟩ (rd_rh (v := arg21.view) h8 ⟨0, by decide⟩ ⟨4, by decide⟩ _) (rd_mz (v := arg22.view) h9 ⟨0, by decide⟩ ⟨4, by decide⟩ _) (rd_h (v := arg11.view) h10 ⟨0, by decide⟩ ⟨4, by decide⟩ _) (rd_wt (v := arg16.view) h3 ⟨0, by decide⟩ ⟨4, by decide⟩ _) _) <|
    pc (what_piece Cr ⟨0, by decide⟩ ⟨3, by decide⟩ (rd_rh (v := arg21.view) h8 ⟨0, by decide⟩ ⟨3, by decide⟩ _) (rd_mz (v := arg22.view) h9 ⟨0, by decide⟩ ⟨3, by decide⟩ _) (rd_h (v := arg11.view) h10 ⟨0, by decide⟩ ⟨3, by decide⟩ _) (rd_wt (v := arg16.view) h3 ⟨0, by decide⟩ ⟨3, by decide⟩ _) _) <|
    pc (what_piece Cr ⟨0, by decide⟩ ⟨2, by decide⟩ (rd_rh (v := arg21.view) h8 ⟨0, by decide⟩ ⟨2, by decide⟩ _) (rd_mz (v := arg22.view) h9 ⟨0, by decide⟩ ⟨2, by decide⟩ _) (rd_h (v := arg11.view) h10 ⟨0, by decide⟩ ⟨2, by decide⟩ _) (rd_wt (v := arg16.view) h3 ⟨0, by decide⟩ ⟨2, by decide⟩ _) _) <|
    pc (what_piece Cr ⟨0, by decide⟩ ⟨1, by decide⟩ (rd_rh (v := arg21.view) h8 ⟨0, by decide⟩ ⟨1, by decide⟩ _) (rd_mz (v := arg22.view) h9 ⟨0, by decide⟩ ⟨1, by decide⟩ _) (rd_h (v := arg11.view) h10 ⟨0, by decide⟩ ⟨1, by decide⟩ _) (rd_wt (v := arg16.view) h3 ⟨0, by decide⟩ ⟨1, by decide⟩ _) _) <|
    pc (what_piece Cr ⟨0, by decide⟩ ⟨0, by decide⟩ (rd_rh (v := arg21.view) h8 ⟨0, by decide⟩ ⟨0, by decide⟩ _) (rd_mz (v := arg22.view) h9 ⟨0, by decide⟩ ⟨0, by decide⟩ _) (rd_h (v := arg11.view) h10 ⟨0, by decide⟩ ⟨0, by decide⟩ _) (rd_wt (v := arg16.view) h3 ⟨0, by decide⟩ ⟨0, by decide⟩ _) _) <| pn) S128x128.size (by sl_kernel_rfl)
include hw hga hbe in
theorem HS5 : View.canon (kernelRun0_C.sl.HS5_64 c arg3 harg3 arg4 harg4 arg5 harg5 arg16 arg19 arg20 arg21 arg22 x2 x3 x4) = Btp Cr := by
  have h3 := HS3 c arg3 harg3 x2 hw
  have h8 := HS8 c arg3 harg3 arg4 harg4 arg5 harg5 arg19 arg20 x2 x3 x4 hw hga hbe
  have h9 := HS9 c arg3 harg3 arg4 harg4 arg5 harg5 arg19 arg20 x2 x3 x4 hw hga hbe
  exact cn (pc (tm_piece Cr ⟨1, by decide⟩ ⟨15, by decide⟩ (rd_rh (v := arg21.view) h8 ⟨1, by decide⟩ ⟨15, by decide⟩ _) (rd_mz (v := arg22.view) h9 ⟨1, by decide⟩ ⟨15, by decide⟩ _) (rd_wt (v := arg16.view) h3 ⟨1, by decide⟩ ⟨15, by decide⟩ _) ⟨3, by decide⟩ rfl _) <|
    pc (tp_piece Cr ⟨1, by decide⟩ ⟨15, by decide⟩ (rd_rh (v := arg21.view) h8 ⟨1, by decide⟩ ⟨15, by decide⟩ _) (rd_mz (v := arg22.view) h9 ⟨1, by decide⟩ ⟨15, by decide⟩ _) (rd_wt (v := arg16.view) h3 ⟨1, by decide⟩ ⟨15, by decide⟩ _) ⟨1, by decide⟩ rfl _) <|
    pc (tm_piece Cr ⟨1, by decide⟩ ⟨14, by decide⟩ (rd_rh (v := arg21.view) h8 ⟨1, by decide⟩ ⟨14, by decide⟩ _) (rd_mz (v := arg22.view) h9 ⟨1, by decide⟩ ⟨14, by decide⟩ _) (rd_wt (v := arg16.view) h3 ⟨1, by decide⟩ ⟨14, by decide⟩ _) ⟨3, by decide⟩ rfl _) <|
    pc (tp_piece Cr ⟨1, by decide⟩ ⟨14, by decide⟩ (rd_rh (v := arg21.view) h8 ⟨1, by decide⟩ ⟨14, by decide⟩ _) (rd_mz (v := arg22.view) h9 ⟨1, by decide⟩ ⟨14, by decide⟩ _) (rd_wt (v := arg16.view) h3 ⟨1, by decide⟩ ⟨14, by decide⟩ _) ⟨1, by decide⟩ rfl _) <|
    pc (tm_piece Cr ⟨1, by decide⟩ ⟨13, by decide⟩ (rd_rh (v := arg21.view) h8 ⟨1, by decide⟩ ⟨13, by decide⟩ _) (rd_mz (v := arg22.view) h9 ⟨1, by decide⟩ ⟨13, by decide⟩ _) (rd_wt (v := arg16.view) h3 ⟨1, by decide⟩ ⟨13, by decide⟩ _) ⟨3, by decide⟩ rfl _) <|
    pc (tp_piece Cr ⟨1, by decide⟩ ⟨13, by decide⟩ (rd_rh (v := arg21.view) h8 ⟨1, by decide⟩ ⟨13, by decide⟩ _) (rd_mz (v := arg22.view) h9 ⟨1, by decide⟩ ⟨13, by decide⟩ _) (rd_wt (v := arg16.view) h3 ⟨1, by decide⟩ ⟨13, by decide⟩ _) ⟨1, by decide⟩ rfl _) <|
    pc (tm_piece Cr ⟨1, by decide⟩ ⟨12, by decide⟩ (rd_rh (v := arg21.view) h8 ⟨1, by decide⟩ ⟨12, by decide⟩ _) (rd_mz (v := arg22.view) h9 ⟨1, by decide⟩ ⟨12, by decide⟩ _) (rd_wt (v := arg16.view) h3 ⟨1, by decide⟩ ⟨12, by decide⟩ _) ⟨3, by decide⟩ rfl _) <|
    pc (tp_piece Cr ⟨1, by decide⟩ ⟨12, by decide⟩ (rd_rh (v := arg21.view) h8 ⟨1, by decide⟩ ⟨12, by decide⟩ _) (rd_mz (v := arg22.view) h9 ⟨1, by decide⟩ ⟨12, by decide⟩ _) (rd_wt (v := arg16.view) h3 ⟨1, by decide⟩ ⟨12, by decide⟩ _) ⟨1, by decide⟩ rfl _) <|
    pc (tm_piece Cr ⟨1, by decide⟩ ⟨11, by decide⟩ (rd_rh (v := arg21.view) h8 ⟨1, by decide⟩ ⟨11, by decide⟩ _) (rd_mz (v := arg22.view) h9 ⟨1, by decide⟩ ⟨11, by decide⟩ _) (rd_wt (v := arg16.view) h3 ⟨1, by decide⟩ ⟨11, by decide⟩ _) ⟨3, by decide⟩ rfl _) <|
    pc (tp_piece Cr ⟨1, by decide⟩ ⟨11, by decide⟩ (rd_rh (v := arg21.view) h8 ⟨1, by decide⟩ ⟨11, by decide⟩ _) (rd_mz (v := arg22.view) h9 ⟨1, by decide⟩ ⟨11, by decide⟩ _) (rd_wt (v := arg16.view) h3 ⟨1, by decide⟩ ⟨11, by decide⟩ _) ⟨1, by decide⟩ rfl _) <|
    pc (tm_piece Cr ⟨1, by decide⟩ ⟨10, by decide⟩ (rd_rh (v := arg21.view) h8 ⟨1, by decide⟩ ⟨10, by decide⟩ _) (rd_mz (v := arg22.view) h9 ⟨1, by decide⟩ ⟨10, by decide⟩ _) (rd_wt (v := arg16.view) h3 ⟨1, by decide⟩ ⟨10, by decide⟩ _) ⟨3, by decide⟩ rfl _) <|
    pc (tp_piece Cr ⟨1, by decide⟩ ⟨10, by decide⟩ (rd_rh (v := arg21.view) h8 ⟨1, by decide⟩ ⟨10, by decide⟩ _) (rd_mz (v := arg22.view) h9 ⟨1, by decide⟩ ⟨10, by decide⟩ _) (rd_wt (v := arg16.view) h3 ⟨1, by decide⟩ ⟨10, by decide⟩ _) ⟨1, by decide⟩ rfl _) <|
    pc (tm_piece Cr ⟨1, by decide⟩ ⟨9, by decide⟩ (rd_rh (v := arg21.view) h8 ⟨1, by decide⟩ ⟨9, by decide⟩ _) (rd_mz (v := arg22.view) h9 ⟨1, by decide⟩ ⟨9, by decide⟩ _) (rd_wt (v := arg16.view) h3 ⟨1, by decide⟩ ⟨9, by decide⟩ _) ⟨3, by decide⟩ rfl _) <|
    pc (tp_piece Cr ⟨1, by decide⟩ ⟨9, by decide⟩ (rd_rh (v := arg21.view) h8 ⟨1, by decide⟩ ⟨9, by decide⟩ _) (rd_mz (v := arg22.view) h9 ⟨1, by decide⟩ ⟨9, by decide⟩ _) (rd_wt (v := arg16.view) h3 ⟨1, by decide⟩ ⟨9, by decide⟩ _) ⟨1, by decide⟩ rfl _) <|
    pc (tm_piece Cr ⟨1, by decide⟩ ⟨8, by decide⟩ (rd_rh (v := arg21.view) h8 ⟨1, by decide⟩ ⟨8, by decide⟩ _) (rd_mz (v := arg22.view) h9 ⟨1, by decide⟩ ⟨8, by decide⟩ _) (rd_wt (v := arg16.view) h3 ⟨1, by decide⟩ ⟨8, by decide⟩ _) ⟨3, by decide⟩ rfl _) <|
    pc (tp_piece Cr ⟨1, by decide⟩ ⟨8, by decide⟩ (rd_rh (v := arg21.view) h8 ⟨1, by decide⟩ ⟨8, by decide⟩ _) (rd_mz (v := arg22.view) h9 ⟨1, by decide⟩ ⟨8, by decide⟩ _) (rd_wt (v := arg16.view) h3 ⟨1, by decide⟩ ⟨8, by decide⟩ _) ⟨1, by decide⟩ rfl _) <|
    pc (tm_piece Cr ⟨1, by decide⟩ ⟨7, by decide⟩ (rd_rh (v := arg21.view) h8 ⟨1, by decide⟩ ⟨7, by decide⟩ _) (rd_mz (v := arg22.view) h9 ⟨1, by decide⟩ ⟨7, by decide⟩ _) (rd_wt (v := arg16.view) h3 ⟨1, by decide⟩ ⟨7, by decide⟩ _) ⟨3, by decide⟩ rfl _) <|
    pc (tp_piece Cr ⟨1, by decide⟩ ⟨7, by decide⟩ (rd_rh (v := arg21.view) h8 ⟨1, by decide⟩ ⟨7, by decide⟩ _) (rd_mz (v := arg22.view) h9 ⟨1, by decide⟩ ⟨7, by decide⟩ _) (rd_wt (v := arg16.view) h3 ⟨1, by decide⟩ ⟨7, by decide⟩ _) ⟨1, by decide⟩ rfl _) <|
    pc (tm_piece Cr ⟨1, by decide⟩ ⟨6, by decide⟩ (rd_rh (v := arg21.view) h8 ⟨1, by decide⟩ ⟨6, by decide⟩ _) (rd_mz (v := arg22.view) h9 ⟨1, by decide⟩ ⟨6, by decide⟩ _) (rd_wt (v := arg16.view) h3 ⟨1, by decide⟩ ⟨6, by decide⟩ _) ⟨3, by decide⟩ rfl _) <|
    pc (tp_piece Cr ⟨1, by decide⟩ ⟨6, by decide⟩ (rd_rh (v := arg21.view) h8 ⟨1, by decide⟩ ⟨6, by decide⟩ _) (rd_mz (v := arg22.view) h9 ⟨1, by decide⟩ ⟨6, by decide⟩ _) (rd_wt (v := arg16.view) h3 ⟨1, by decide⟩ ⟨6, by decide⟩ _) ⟨1, by decide⟩ rfl _) <|
    pc (tm_piece Cr ⟨1, by decide⟩ ⟨5, by decide⟩ (rd_rh (v := arg21.view) h8 ⟨1, by decide⟩ ⟨5, by decide⟩ _) (rd_mz (v := arg22.view) h9 ⟨1, by decide⟩ ⟨5, by decide⟩ _) (rd_wt (v := arg16.view) h3 ⟨1, by decide⟩ ⟨5, by decide⟩ _) ⟨3, by decide⟩ rfl _) <|
    pc (tp_piece Cr ⟨1, by decide⟩ ⟨5, by decide⟩ (rd_rh (v := arg21.view) h8 ⟨1, by decide⟩ ⟨5, by decide⟩ _) (rd_mz (v := arg22.view) h9 ⟨1, by decide⟩ ⟨5, by decide⟩ _) (rd_wt (v := arg16.view) h3 ⟨1, by decide⟩ ⟨5, by decide⟩ _) ⟨1, by decide⟩ rfl _) <|
    pc (tm_piece Cr ⟨1, by decide⟩ ⟨4, by decide⟩ (rd_rh (v := arg21.view) h8 ⟨1, by decide⟩ ⟨4, by decide⟩ _) (rd_mz (v := arg22.view) h9 ⟨1, by decide⟩ ⟨4, by decide⟩ _) (rd_wt (v := arg16.view) h3 ⟨1, by decide⟩ ⟨4, by decide⟩ _) ⟨3, by decide⟩ rfl _) <|
    pc (tp_piece Cr ⟨1, by decide⟩ ⟨4, by decide⟩ (rd_rh (v := arg21.view) h8 ⟨1, by decide⟩ ⟨4, by decide⟩ _) (rd_mz (v := arg22.view) h9 ⟨1, by decide⟩ ⟨4, by decide⟩ _) (rd_wt (v := arg16.view) h3 ⟨1, by decide⟩ ⟨4, by decide⟩ _) ⟨1, by decide⟩ rfl _) <|
    pc (tm_piece Cr ⟨1, by decide⟩ ⟨3, by decide⟩ (rd_rh (v := arg21.view) h8 ⟨1, by decide⟩ ⟨3, by decide⟩ _) (rd_mz (v := arg22.view) h9 ⟨1, by decide⟩ ⟨3, by decide⟩ _) (rd_wt (v := arg16.view) h3 ⟨1, by decide⟩ ⟨3, by decide⟩ _) ⟨3, by decide⟩ rfl _) <|
    pc (tp_piece Cr ⟨1, by decide⟩ ⟨3, by decide⟩ (rd_rh (v := arg21.view) h8 ⟨1, by decide⟩ ⟨3, by decide⟩ _) (rd_mz (v := arg22.view) h9 ⟨1, by decide⟩ ⟨3, by decide⟩ _) (rd_wt (v := arg16.view) h3 ⟨1, by decide⟩ ⟨3, by decide⟩ _) ⟨1, by decide⟩ rfl _) <|
    pc (tm_piece Cr ⟨1, by decide⟩ ⟨2, by decide⟩ (rd_rh (v := arg21.view) h8 ⟨1, by decide⟩ ⟨2, by decide⟩ _) (rd_mz (v := arg22.view) h9 ⟨1, by decide⟩ ⟨2, by decide⟩ _) (rd_wt (v := arg16.view) h3 ⟨1, by decide⟩ ⟨2, by decide⟩ _) ⟨3, by decide⟩ rfl _) <|
    pc (tp_piece Cr ⟨1, by decide⟩ ⟨2, by decide⟩ (rd_rh (v := arg21.view) h8 ⟨1, by decide⟩ ⟨2, by decide⟩ _) (rd_mz (v := arg22.view) h9 ⟨1, by decide⟩ ⟨2, by decide⟩ _) (rd_wt (v := arg16.view) h3 ⟨1, by decide⟩ ⟨2, by decide⟩ _) ⟨1, by decide⟩ rfl _) <|
    pc (tm_piece Cr ⟨1, by decide⟩ ⟨1, by decide⟩ (rd_rh (v := arg21.view) h8 ⟨1, by decide⟩ ⟨1, by decide⟩ _) (rd_mz (v := arg22.view) h9 ⟨1, by decide⟩ ⟨1, by decide⟩ _) (rd_wt (v := arg16.view) h3 ⟨1, by decide⟩ ⟨1, by decide⟩ _) ⟨3, by decide⟩ rfl _) <|
    pc (tp_piece Cr ⟨1, by decide⟩ ⟨1, by decide⟩ (rd_rh (v := arg21.view) h8 ⟨1, by decide⟩ ⟨1, by decide⟩ _) (rd_mz (v := arg22.view) h9 ⟨1, by decide⟩ ⟨1, by decide⟩ _) (rd_wt (v := arg16.view) h3 ⟨1, by decide⟩ ⟨1, by decide⟩ _) ⟨1, by decide⟩ rfl _) <|
    pc (tm_piece Cr ⟨1, by decide⟩ ⟨0, by decide⟩ (rd_rh (v := arg21.view) h8 ⟨1, by decide⟩ ⟨0, by decide⟩ _) (rd_mz (v := arg22.view) h9 ⟨1, by decide⟩ ⟨0, by decide⟩ _) (rd_wt (v := arg16.view) h3 ⟨1, by decide⟩ ⟨0, by decide⟩ _) ⟨3, by decide⟩ rfl _) <|
    pc (tp_piece Cr ⟨1, by decide⟩ ⟨0, by decide⟩ (rd_rh (v := arg21.view) h8 ⟨1, by decide⟩ ⟨0, by decide⟩ _) (rd_mz (v := arg22.view) h9 ⟨1, by decide⟩ ⟨0, by decide⟩ _) (rd_wt (v := arg16.view) h3 ⟨1, by decide⟩ ⟨0, by decide⟩ _) ⟨1, by decide⟩ rfl _) <|
    pc (tm_piece Cr ⟨0, by decide⟩ ⟨15, by decide⟩ (rd_rh (v := arg21.view) h8 ⟨0, by decide⟩ ⟨15, by decide⟩ _) (rd_mz (v := arg22.view) h9 ⟨0, by decide⟩ ⟨15, by decide⟩ _) (rd_wt (v := arg16.view) h3 ⟨0, by decide⟩ ⟨15, by decide⟩ _) ⟨2, by decide⟩ rfl _) <|
    pc (tp_piece Cr ⟨0, by decide⟩ ⟨15, by decide⟩ (rd_rh (v := arg21.view) h8 ⟨0, by decide⟩ ⟨15, by decide⟩ _) (rd_mz (v := arg22.view) h9 ⟨0, by decide⟩ ⟨15, by decide⟩ _) (rd_wt (v := arg16.view) h3 ⟨0, by decide⟩ ⟨15, by decide⟩ _) ⟨0, by decide⟩ rfl _) <|
    pc (tm_piece Cr ⟨0, by decide⟩ ⟨14, by decide⟩ (rd_rh (v := arg21.view) h8 ⟨0, by decide⟩ ⟨14, by decide⟩ _) (rd_mz (v := arg22.view) h9 ⟨0, by decide⟩ ⟨14, by decide⟩ _) (rd_wt (v := arg16.view) h3 ⟨0, by decide⟩ ⟨14, by decide⟩ _) ⟨2, by decide⟩ rfl _) <|
    pc (tp_piece Cr ⟨0, by decide⟩ ⟨14, by decide⟩ (rd_rh (v := arg21.view) h8 ⟨0, by decide⟩ ⟨14, by decide⟩ _) (rd_mz (v := arg22.view) h9 ⟨0, by decide⟩ ⟨14, by decide⟩ _) (rd_wt (v := arg16.view) h3 ⟨0, by decide⟩ ⟨14, by decide⟩ _) ⟨0, by decide⟩ rfl _) <|
    pc (tm_piece Cr ⟨0, by decide⟩ ⟨13, by decide⟩ (rd_rh (v := arg21.view) h8 ⟨0, by decide⟩ ⟨13, by decide⟩ _) (rd_mz (v := arg22.view) h9 ⟨0, by decide⟩ ⟨13, by decide⟩ _) (rd_wt (v := arg16.view) h3 ⟨0, by decide⟩ ⟨13, by decide⟩ _) ⟨2, by decide⟩ rfl _) <|
    pc (tp_piece Cr ⟨0, by decide⟩ ⟨13, by decide⟩ (rd_rh (v := arg21.view) h8 ⟨0, by decide⟩ ⟨13, by decide⟩ _) (rd_mz (v := arg22.view) h9 ⟨0, by decide⟩ ⟨13, by decide⟩ _) (rd_wt (v := arg16.view) h3 ⟨0, by decide⟩ ⟨13, by decide⟩ _) ⟨0, by decide⟩ rfl _) <|
    pc (tm_piece Cr ⟨0, by decide⟩ ⟨12, by decide⟩ (rd_rh (v := arg21.view) h8 ⟨0, by decide⟩ ⟨12, by decide⟩ _) (rd_mz (v := arg22.view) h9 ⟨0, by decide⟩ ⟨12, by decide⟩ _) (rd_wt (v := arg16.view) h3 ⟨0, by decide⟩ ⟨12, by decide⟩ _) ⟨2, by decide⟩ rfl _) <|
    pc (tp_piece Cr ⟨0, by decide⟩ ⟨12, by decide⟩ (rd_rh (v := arg21.view) h8 ⟨0, by decide⟩ ⟨12, by decide⟩ _) (rd_mz (v := arg22.view) h9 ⟨0, by decide⟩ ⟨12, by decide⟩ _) (rd_wt (v := arg16.view) h3 ⟨0, by decide⟩ ⟨12, by decide⟩ _) ⟨0, by decide⟩ rfl _) <|
    pc (tm_piece Cr ⟨0, by decide⟩ ⟨11, by decide⟩ (rd_rh (v := arg21.view) h8 ⟨0, by decide⟩ ⟨11, by decide⟩ _) (rd_mz (v := arg22.view) h9 ⟨0, by decide⟩ ⟨11, by decide⟩ _) (rd_wt (v := arg16.view) h3 ⟨0, by decide⟩ ⟨11, by decide⟩ _) ⟨2, by decide⟩ rfl _) <|
    pc (tp_piece Cr ⟨0, by decide⟩ ⟨11, by decide⟩ (rd_rh (v := arg21.view) h8 ⟨0, by decide⟩ ⟨11, by decide⟩ _) (rd_mz (v := arg22.view) h9 ⟨0, by decide⟩ ⟨11, by decide⟩ _) (rd_wt (v := arg16.view) h3 ⟨0, by decide⟩ ⟨11, by decide⟩ _) ⟨0, by decide⟩ rfl _) <|
    pc (tm_piece Cr ⟨0, by decide⟩ ⟨10, by decide⟩ (rd_rh (v := arg21.view) h8 ⟨0, by decide⟩ ⟨10, by decide⟩ _) (rd_mz (v := arg22.view) h9 ⟨0, by decide⟩ ⟨10, by decide⟩ _) (rd_wt (v := arg16.view) h3 ⟨0, by decide⟩ ⟨10, by decide⟩ _) ⟨2, by decide⟩ rfl _) <|
    pc (tp_piece Cr ⟨0, by decide⟩ ⟨10, by decide⟩ (rd_rh (v := arg21.view) h8 ⟨0, by decide⟩ ⟨10, by decide⟩ _) (rd_mz (v := arg22.view) h9 ⟨0, by decide⟩ ⟨10, by decide⟩ _) (rd_wt (v := arg16.view) h3 ⟨0, by decide⟩ ⟨10, by decide⟩ _) ⟨0, by decide⟩ rfl _) <|
    pc (tm_piece Cr ⟨0, by decide⟩ ⟨9, by decide⟩ (rd_rh (v := arg21.view) h8 ⟨0, by decide⟩ ⟨9, by decide⟩ _) (rd_mz (v := arg22.view) h9 ⟨0, by decide⟩ ⟨9, by decide⟩ _) (rd_wt (v := arg16.view) h3 ⟨0, by decide⟩ ⟨9, by decide⟩ _) ⟨2, by decide⟩ rfl _) <|
    pc (tp_piece Cr ⟨0, by decide⟩ ⟨9, by decide⟩ (rd_rh (v := arg21.view) h8 ⟨0, by decide⟩ ⟨9, by decide⟩ _) (rd_mz (v := arg22.view) h9 ⟨0, by decide⟩ ⟨9, by decide⟩ _) (rd_wt (v := arg16.view) h3 ⟨0, by decide⟩ ⟨9, by decide⟩ _) ⟨0, by decide⟩ rfl _) <|
    pc (tm_piece Cr ⟨0, by decide⟩ ⟨8, by decide⟩ (rd_rh (v := arg21.view) h8 ⟨0, by decide⟩ ⟨8, by decide⟩ _) (rd_mz (v := arg22.view) h9 ⟨0, by decide⟩ ⟨8, by decide⟩ _) (rd_wt (v := arg16.view) h3 ⟨0, by decide⟩ ⟨8, by decide⟩ _) ⟨2, by decide⟩ rfl _) <|
    pc (tp_piece Cr ⟨0, by decide⟩ ⟨8, by decide⟩ (rd_rh (v := arg21.view) h8 ⟨0, by decide⟩ ⟨8, by decide⟩ _) (rd_mz (v := arg22.view) h9 ⟨0, by decide⟩ ⟨8, by decide⟩ _) (rd_wt (v := arg16.view) h3 ⟨0, by decide⟩ ⟨8, by decide⟩ _) ⟨0, by decide⟩ rfl _) <|
    pc (tm_piece Cr ⟨0, by decide⟩ ⟨7, by decide⟩ (rd_rh (v := arg21.view) h8 ⟨0, by decide⟩ ⟨7, by decide⟩ _) (rd_mz (v := arg22.view) h9 ⟨0, by decide⟩ ⟨7, by decide⟩ _) (rd_wt (v := arg16.view) h3 ⟨0, by decide⟩ ⟨7, by decide⟩ _) ⟨2, by decide⟩ rfl _) <|
    pc (tp_piece Cr ⟨0, by decide⟩ ⟨7, by decide⟩ (rd_rh (v := arg21.view) h8 ⟨0, by decide⟩ ⟨7, by decide⟩ _) (rd_mz (v := arg22.view) h9 ⟨0, by decide⟩ ⟨7, by decide⟩ _) (rd_wt (v := arg16.view) h3 ⟨0, by decide⟩ ⟨7, by decide⟩ _) ⟨0, by decide⟩ rfl _) <|
    pc (tm_piece Cr ⟨0, by decide⟩ ⟨6, by decide⟩ (rd_rh (v := arg21.view) h8 ⟨0, by decide⟩ ⟨6, by decide⟩ _) (rd_mz (v := arg22.view) h9 ⟨0, by decide⟩ ⟨6, by decide⟩ _) (rd_wt (v := arg16.view) h3 ⟨0, by decide⟩ ⟨6, by decide⟩ _) ⟨2, by decide⟩ rfl _) <|
    pc (tp_piece Cr ⟨0, by decide⟩ ⟨6, by decide⟩ (rd_rh (v := arg21.view) h8 ⟨0, by decide⟩ ⟨6, by decide⟩ _) (rd_mz (v := arg22.view) h9 ⟨0, by decide⟩ ⟨6, by decide⟩ _) (rd_wt (v := arg16.view) h3 ⟨0, by decide⟩ ⟨6, by decide⟩ _) ⟨0, by decide⟩ rfl _) <|
    pc (tm_piece Cr ⟨0, by decide⟩ ⟨5, by decide⟩ (rd_rh (v := arg21.view) h8 ⟨0, by decide⟩ ⟨5, by decide⟩ _) (rd_mz (v := arg22.view) h9 ⟨0, by decide⟩ ⟨5, by decide⟩ _) (rd_wt (v := arg16.view) h3 ⟨0, by decide⟩ ⟨5, by decide⟩ _) ⟨2, by decide⟩ rfl _) <|
    pc (tp_piece Cr ⟨0, by decide⟩ ⟨5, by decide⟩ (rd_rh (v := arg21.view) h8 ⟨0, by decide⟩ ⟨5, by decide⟩ _) (rd_mz (v := arg22.view) h9 ⟨0, by decide⟩ ⟨5, by decide⟩ _) (rd_wt (v := arg16.view) h3 ⟨0, by decide⟩ ⟨5, by decide⟩ _) ⟨0, by decide⟩ rfl _) <|
    pc (tm_piece Cr ⟨0, by decide⟩ ⟨4, by decide⟩ (rd_rh (v := arg21.view) h8 ⟨0, by decide⟩ ⟨4, by decide⟩ _) (rd_mz (v := arg22.view) h9 ⟨0, by decide⟩ ⟨4, by decide⟩ _) (rd_wt (v := arg16.view) h3 ⟨0, by decide⟩ ⟨4, by decide⟩ _) ⟨2, by decide⟩ rfl _) <|
    pc (tp_piece Cr ⟨0, by decide⟩ ⟨4, by decide⟩ (rd_rh (v := arg21.view) h8 ⟨0, by decide⟩ ⟨4, by decide⟩ _) (rd_mz (v := arg22.view) h9 ⟨0, by decide⟩ ⟨4, by decide⟩ _) (rd_wt (v := arg16.view) h3 ⟨0, by decide⟩ ⟨4, by decide⟩ _) ⟨0, by decide⟩ rfl _) <|
    pc (tm_piece Cr ⟨0, by decide⟩ ⟨3, by decide⟩ (rd_rh (v := arg21.view) h8 ⟨0, by decide⟩ ⟨3, by decide⟩ _) (rd_mz (v := arg22.view) h9 ⟨0, by decide⟩ ⟨3, by decide⟩ _) (rd_wt (v := arg16.view) h3 ⟨0, by decide⟩ ⟨3, by decide⟩ _) ⟨2, by decide⟩ rfl _) <|
    pc (tp_piece Cr ⟨0, by decide⟩ ⟨3, by decide⟩ (rd_rh (v := arg21.view) h8 ⟨0, by decide⟩ ⟨3, by decide⟩ _) (rd_mz (v := arg22.view) h9 ⟨0, by decide⟩ ⟨3, by decide⟩ _) (rd_wt (v := arg16.view) h3 ⟨0, by decide⟩ ⟨3, by decide⟩ _) ⟨0, by decide⟩ rfl _) <|
    pc (tm_piece Cr ⟨0, by decide⟩ ⟨2, by decide⟩ (rd_rh (v := arg21.view) h8 ⟨0, by decide⟩ ⟨2, by decide⟩ _) (rd_mz (v := arg22.view) h9 ⟨0, by decide⟩ ⟨2, by decide⟩ _) (rd_wt (v := arg16.view) h3 ⟨0, by decide⟩ ⟨2, by decide⟩ _) ⟨2, by decide⟩ rfl _) <|
    pc (tp_piece Cr ⟨0, by decide⟩ ⟨2, by decide⟩ (rd_rh (v := arg21.view) h8 ⟨0, by decide⟩ ⟨2, by decide⟩ _) (rd_mz (v := arg22.view) h9 ⟨0, by decide⟩ ⟨2, by decide⟩ _) (rd_wt (v := arg16.view) h3 ⟨0, by decide⟩ ⟨2, by decide⟩ _) ⟨0, by decide⟩ rfl _) <|
    pc (tm_piece Cr ⟨0, by decide⟩ ⟨1, by decide⟩ (rd_rh (v := arg21.view) h8 ⟨0, by decide⟩ ⟨1, by decide⟩ _) (rd_mz (v := arg22.view) h9 ⟨0, by decide⟩ ⟨1, by decide⟩ _) (rd_wt (v := arg16.view) h3 ⟨0, by decide⟩ ⟨1, by decide⟩ _) ⟨2, by decide⟩ rfl _) <|
    pc (tp_piece Cr ⟨0, by decide⟩ ⟨1, by decide⟩ (rd_rh (v := arg21.view) h8 ⟨0, by decide⟩ ⟨1, by decide⟩ _) (rd_mz (v := arg22.view) h9 ⟨0, by decide⟩ ⟨1, by decide⟩ _) (rd_wt (v := arg16.view) h3 ⟨0, by decide⟩ ⟨1, by decide⟩ _) ⟨0, by decide⟩ rfl _) <|
    pc (tm_piece Cr ⟨0, by decide⟩ ⟨0, by decide⟩ (rd_rh (v := arg21.view) h8 ⟨0, by decide⟩ ⟨0, by decide⟩ _) (rd_mz (v := arg22.view) h9 ⟨0, by decide⟩ ⟨0, by decide⟩ _) (rd_wt (v := arg16.view) h3 ⟨0, by decide⟩ ⟨0, by decide⟩ _) ⟨2, by decide⟩ rfl _) <|
    pc (tp_piece Cr ⟨0, by decide⟩ ⟨0, by decide⟩ (rd_rh (v := arg21.view) h8 ⟨0, by decide⟩ ⟨0, by decide⟩ _) (rd_mz (v := arg22.view) h9 ⟨0, by decide⟩ ⟨0, by decide⟩ _) (rd_wt (v := arg16.view) h3 ⟨0, by decide⟩ ⟨0, by decide⟩ _) ⟨0, by decide⟩ rfl _) <| pn) S1x128x128.size (by sl_kernel_rfl)
include hw hga hbe hy hx hxs in
theorem ES (s r : Fin 256) : (kernelRun0_C.sl.r_21 c arg3 harg3 arg4 harg4 arg5 harg5 arg6 harg6 arg11 arg13 harg13 arg15 harg15 arg16 arg17 arg19 arg20 arg21 arg22 x2 x3 x4 x5 xs0 xs2) (ix2 s r) = (Cr r).kE s * (Cr r).xs s := by
  have h4 := HS4 c arg3 harg3 arg4 harg4 arg5 harg5 arg11 arg16 arg19 arg20 arg21 arg22 x2 x3 x4 hw hga hbe
  have hV : ∀ s d r, _ := fun s d r => (ra_xb harg13 (X := xs0) inb_S256x2048_S256x2048_0_0 s d).trans (hx s d r)
  have hXS : ∀ s a r, _ := fun s a r => (ra_xsb harg15 (X := xs2) inb_S256x128_S256x128_0_0 s a).trans (hxs s a r)
  have hWh := rd_what (v := arg17.view) h4 inb_S2048x256_S2048x256_0_0
  have hY0 := ra_y harg6 hy ⟨0, by decide⟩ inb_S256x256_S256x128_0_0
  have hY1 := ra_y harg6 hy ⟨1, by decide⟩ inb_S256x256_S256x128_0_128
  exact es_at Cr hV hWh hXS hY0 hY1 s r
include hw hga hbe hy hx hxt hxs in
theorem HS10 : View.canon (kernelRun0_C.sl.HS10_32 c arg3 harg3 arg4 harg4 arg5 harg5 arg6 harg6 arg11 arg13 harg13 arg14 harg14 arg15 harg15 arg16 arg17 arg18 arg19 arg20 arg21 arg22 x2 x3 x4 x5 xs0 xs1 xs2) = Bshp Cr := by
  have h5 := HS5 c arg3 harg3 arg4 harg4 arg5 harg5 arg16 arg19 arg20 arg21 arg22 x2 x3 x4 hw hga hbe
  have hES := ES c arg3 harg3 arg4 harg4 arg5 harg5 arg6 harg6 arg11 arg13 harg13 arg15 harg15 arg16 arg17 arg19 arg20 arg21 arg22 x2 x3 x4 x5 xs0 xs2 hw hga hbe hy hx hxs
  have hT0 : ∀ k s r, _ := (fun k s r => ra_xt (Cr := Cr) harg14 (fun d s => hxt d s r) ⟨0, by decide⟩ inb_S2048x256_S128x256_0_0 k s)
  have hT1 : ∀ k s r, _ := (fun k s r => ra_xt (Cr := Cr) harg14 (fun d s => hxt d s r) ⟨1, by decide⟩ inb_S2048x256_S128x256_128_0 k s)
  have hT2 : ∀ k s r, _ := (fun k s r => ra_xt (Cr := Cr) harg14 (fun d s => hxt d s r) ⟨2, by decide⟩ inb_S2048x256_S128x256_256_0 k s)
  have hT3 : ∀ k s r, _ := (fun k s r => ra_xt (Cr := Cr) harg14 (fun d s => hxt d s r) ⟨3, by decide⟩ inb_S2048x256_S128x256_384_0 k s)
  have hT4 : ∀ k s r, _ := (fun k s r => ra_xt (Cr := Cr) harg14 (fun d s => hxt d s r) ⟨4, by decide⟩ inb_S2048x256_S128x256_512_0 k s)
  have hT5 : ∀ k s r, _ := (fun k s r => ra_xt (Cr := Cr) harg14 (fun d s => hxt d s r) ⟨5, by decide⟩ inb_S2048x256_S128x256_640_0 k s)
  have hT6 : ∀ k s r, _ := (fun k s r => ra_xt (Cr := Cr) harg14 (fun d s => hxt d s r) ⟨6, by decide⟩ inb_S2048x256_S128x256_768_0 k s)
  have hT7 : ∀ k s r, _ := (fun k s r => ra_xt (Cr := Cr) harg14 (fun d s => hxt d s r) ⟨7, by decide⟩ inb_S2048x256_S128x256_896_0 k s)
  have hT8 : ∀ k s r, _ := (fun k s r => ra_xt (Cr := Cr) harg14 (fun d s => hxt d s r) ⟨8, by decide⟩ inb_S2048x256_S128x256_1024_0 k s)
  have hT9 : ∀ k s r, _ := (fun k s r => ra_xt (Cr := Cr) harg14 (fun d s => hxt d s r) ⟨9, by decide⟩ inb_S2048x256_S128x256_1152_0 k s)
  have hT10 : ∀ k s r, _ := (fun k s r => ra_xt (Cr := Cr) harg14 (fun d s => hxt d s r) ⟨10, by decide⟩ inb_S2048x256_S128x256_1280_0 k s)
  have hT11 : ∀ k s r, _ := (fun k s r => ra_xt (Cr := Cr) harg14 (fun d s => hxt d s r) ⟨11, by decide⟩ inb_S2048x256_S128x256_1408_0 k s)
  have hT12 : ∀ k s r, _ := (fun k s r => ra_xt (Cr := Cr) harg14 (fun d s => hxt d s r) ⟨12, by decide⟩ inb_S2048x256_S128x256_1536_0 k s)
  have hT13 : ∀ k s r, _ := (fun k s r => ra_xt (Cr := Cr) harg14 (fun d s => hxt d s r) ⟨13, by decide⟩ inb_S2048x256_S128x256_1664_0 k s)
  have hT14 : ∀ k s r, _ := (fun k s r => ra_xt (Cr := Cr) harg14 (fun d s => hxt d s r) ⟨14, by decide⟩ inb_S2048x256_S128x256_1792_0 k s)
  have hT15 : ∀ k s r, _ := (fun k s r => ra_xt (Cr := Cr) harg14 (fun d s => hxt d s r) ⟨15, by decide⟩ inb_S2048x256_S128x256_1920_0 k s)
  exact cn (pc (shp_piece1 Cr ⟨15, by decide⟩ hES hT15 (rd_tp (v := arg18.view) h5 ⟨1, by decide⟩ ⟨1, by decide⟩ rfl ⟨15, by decide⟩ _) _) <|
    pc (shp_piece0 Cr ⟨15, by decide⟩ hES hT15 (rd_tp (v := arg18.view) h5 ⟨0, by decide⟩ ⟨0, by decide⟩ rfl ⟨15, by decide⟩ _) _) <|
    pc (shp_piece1 Cr ⟨14, by decide⟩ hES hT14 (rd_tp (v := arg18.view) h5 ⟨1, by decide⟩ ⟨1, by decide⟩ rfl ⟨14, by decide⟩ _) _) <|
    pc (shp_piece0 Cr ⟨14, by decide⟩ hES hT14 (rd_tp (v := arg18.view) h5 ⟨0, by decide⟩ ⟨0, by decide⟩ rfl ⟨14, by decide⟩ _) _) <|
    pc (shp_piece1 Cr ⟨13, by decide⟩ hES hT13 (rd_tp (v := arg18.view) h5 ⟨1, by decide⟩ ⟨1, by decide⟩ rfl ⟨13, by decide⟩ _) _) <|
    pc (shp_piece0 Cr ⟨13, by decide⟩ hES hT13 (rd_tp (v := arg18.view) h5 ⟨0, by decide⟩ ⟨0, by decide⟩ rfl ⟨13, by decide⟩ _) _) <|
    pc (shp_piece1 Cr ⟨12, by decide⟩ hES hT12 (rd_tp (v := arg18.view) h5 ⟨1, by decide⟩ ⟨1, by decide⟩ rfl ⟨12, by decide⟩ _) _) <|
    pc (shp_piece0 Cr ⟨12, by decide⟩ hES hT12 (rd_tp (v := arg18.view) h5 ⟨0, by decide⟩ ⟨0, by decide⟩ rfl ⟨12, by decide⟩ _) _) <|
    pc (shp_piece1 Cr ⟨11, by decide⟩ hES hT11 (rd_tp (v := arg18.view) h5 ⟨1, by decide⟩ ⟨1, by decide⟩ rfl ⟨11, by decide⟩ _) _) <|
    pc (shp_piece0 Cr ⟨11, by decide⟩ hES hT11 (rd_tp (v := arg18.view) h5 ⟨0, by decide⟩ ⟨0, by decide⟩ rfl ⟨11, by decide⟩ _) _) <|
    pc (shp_piece1 Cr ⟨10, by decide⟩ hES hT10 (rd_tp (v := arg18.view) h5 ⟨1, by decide⟩ ⟨1, by decide⟩ rfl ⟨10, by decide⟩ _) _) <|
    pc (shp_piece0 Cr ⟨10, by decide⟩ hES hT10 (rd_tp (v := arg18.view) h5 ⟨0, by decide⟩ ⟨0, by decide⟩ rfl ⟨10, by decide⟩ _) _) <|
    pc (shp_piece1 Cr ⟨9, by decide⟩ hES hT9 (rd_tp (v := arg18.view) h5 ⟨1, by decide⟩ ⟨1, by decide⟩ rfl ⟨9, by decide⟩ _) _) <|
    pc (shp_piece0 Cr ⟨9, by decide⟩ hES hT9 (rd_tp (v := arg18.view) h5 ⟨0, by decide⟩ ⟨0, by decide⟩ rfl ⟨9, by decide⟩ _) _) <|
    pc (shp_piece1 Cr ⟨8, by decide⟩ hES hT8 (rd_tp (v := arg18.view) h5 ⟨1, by decide⟩ ⟨1, by decide⟩ rfl ⟨8, by decide⟩ _) _) <|
    pc (shp_piece0 Cr ⟨8, by decide⟩ hES hT8 (rd_tp (v := arg18.view) h5 ⟨0, by decide⟩ ⟨0, by decide⟩ rfl ⟨8, by decide⟩ _) _) <|
    pc (shp_piece1 Cr ⟨7, by decide⟩ hES hT7 (rd_tp (v := arg18.view) h5 ⟨1, by decide⟩ ⟨1, by decide⟩ rfl ⟨7, by decide⟩ _) _) <|
    pc (shp_piece0 Cr ⟨7, by decide⟩ hES hT7 (rd_tp (v := arg18.view) h5 ⟨0, by decide⟩ ⟨0, by decide⟩ rfl ⟨7, by decide⟩ _) _) <|
    pc (shp_piece1 Cr ⟨6, by decide⟩ hES hT6 (rd_tp (v := arg18.view) h5 ⟨1, by decide⟩ ⟨1, by decide⟩ rfl ⟨6, by decide⟩ _) _) <|
    pc (shp_piece0 Cr ⟨6, by decide⟩ hES hT6 (rd_tp (v := arg18.view) h5 ⟨0, by decide⟩ ⟨0, by decide⟩ rfl ⟨6, by decide⟩ _) _) <|
    pc (shp_piece1 Cr ⟨5, by decide⟩ hES hT5 (rd_tp (v := arg18.view) h5 ⟨1, by decide⟩ ⟨1, by decide⟩ rfl ⟨5, by decide⟩ _) _) <|
    pc (shp_piece0 Cr ⟨5, by decide⟩ hES hT5 (rd_tp (v := arg18.view) h5 ⟨0, by decide⟩ ⟨0, by decide⟩ rfl ⟨5, by decide⟩ _) _) <|
    pc (shp_piece1 Cr ⟨4, by decide⟩ hES hT4 (rd_tp (v := arg18.view) h5 ⟨1, by decide⟩ ⟨1, by decide⟩ rfl ⟨4, by decide⟩ _) _) <|
    pc (shp_piece0 Cr ⟨4, by decide⟩ hES hT4 (rd_tp (v := arg18.view) h5 ⟨0, by decide⟩ ⟨0, by decide⟩ rfl ⟨4, by decide⟩ _) _) <|
    pc (shp_piece1 Cr ⟨3, by decide⟩ hES hT3 (rd_tp (v := arg18.view) h5 ⟨1, by decide⟩ ⟨1, by decide⟩ rfl ⟨3, by decide⟩ _) _) <|
    pc (shp_piece0 Cr ⟨3, by decide⟩ hES hT3 (rd_tp (v := arg18.view) h5 ⟨0, by decide⟩ ⟨0, by decide⟩ rfl ⟨3, by decide⟩ _) _) <|
    pc (shp_piece1 Cr ⟨2, by decide⟩ hES hT2 (rd_tp (v := arg18.view) h5 ⟨1, by decide⟩ ⟨1, by decide⟩ rfl ⟨2, by decide⟩ _) _) <|
    pc (shp_piece0 Cr ⟨2, by decide⟩ hES hT2 (rd_tp (v := arg18.view) h5 ⟨0, by decide⟩ ⟨0, by decide⟩ rfl ⟨2, by decide⟩ _) _) <|
    pc (shp_piece1 Cr ⟨1, by decide⟩ hES hT1 (rd_tp (v := arg18.view) h5 ⟨1, by decide⟩ ⟨1, by decide⟩ rfl ⟨1, by decide⟩ _) _) <|
    pc (shp_piece0 Cr ⟨1, by decide⟩ hES hT1 (rd_tp (v := arg18.view) h5 ⟨0, by decide⟩ ⟨0, by decide⟩ rfl ⟨1, by decide⟩ _) _) <|
    pc (shp_piece1 Cr ⟨0, by decide⟩ hES hT0 (rd_tp (v := arg18.view) h5 ⟨1, by decide⟩ ⟨1, by decide⟩ rfl ⟨0, by decide⟩ _) _) <|
    pc (shp_piece0 Cr ⟨0, by decide⟩ hES hT0 (rd_tp (v := arg18.view) h5 ⟨0, by decide⟩ ⟨0, by decide⟩ rfl ⟨0, by decide⟩ _) _) <| pn) S1x8x128.size (by sl_kernel_rfl)
include hw hga hbe hy hx hxt hxs in
theorem HS11 : View.canon (kernelRun0_C.sl.HS11_32 c arg3 harg3 arg4 harg4 arg5 harg5 arg6 harg6 arg11 arg13 harg13 arg14 harg14 arg15 harg15 arg16 arg17 arg18 arg19 arg20 arg21 arg22 x2 x3 x4 x5 xs0 xs1 xs2) = Bscp Cr := by
  have h5 := HS5 c arg3 harg3 arg4 harg4 arg5 harg5 arg16 arg19 arg20 arg21 arg22 x2 x3 x4 hw hga hbe
  have hES := ES c arg3 harg3 arg4 harg4 arg5 harg5 arg6 harg6 arg11 arg13 harg13 arg15 harg15 arg16 arg17 arg19 arg20 arg21 arg22 x2 x3 x4 x5 xs0 xs2 hw hga hbe hy hx hxs
  have hT0 : ∀ k s r, _ := (fun k s r => ra_xt (Cr := Cr) harg14 (fun d s => hxt d s r) ⟨0, by decide⟩ inb_S2048x256_S128x256_0_0 k s)
  have hT1 : ∀ k s r, _ := (fun k s r => ra_xt (Cr := Cr) harg14 (fun d s => hxt d s r) ⟨1, by decide⟩ inb_S2048x256_S128x256_128_0 k s)
  have hT2 : ∀ k s r, _ := (fun k s r => ra_xt (Cr := Cr) harg14 (fun d s => hxt d s r) ⟨2, by decide⟩ inb_S2048x256_S128x256_256_0 k s)
  have hT3 : ∀ k s r, _ := (fun k s r => ra_xt (Cr := Cr) harg14 (fun d s => hxt d s r) ⟨3, by decide⟩ inb_S2048x256_S128x256_384_0 k s)
  have hT4 : ∀ k s r, _ := (fun k s r => ra_xt (Cr := Cr) harg14 (fun d s => hxt d s r) ⟨4, by decide⟩ inb_S2048x256_S128x256_512_0 k s)
  have hT5 : ∀ k s r, _ := (fun k s r => ra_xt (Cr := Cr) harg14 (fun d s => hxt d s r) ⟨5, by decide⟩ inb_S2048x256_S128x256_640_0 k s)
  have hT6 : ∀ k s r, _ := (fun k s r => ra_xt (Cr := Cr) harg14 (fun d s => hxt d s r) ⟨6, by decide⟩ inb_S2048x256_S128x256_768_0 k s)
  have hT7 : ∀ k s r, _ := (fun k s r => ra_xt (Cr := Cr) harg14 (fun d s => hxt d s r) ⟨7, by decide⟩ inb_S2048x256_S128x256_896_0 k s)
  have hT8 : ∀ k s r, _ := (fun k s r => ra_xt (Cr := Cr) harg14 (fun d s => hxt d s r) ⟨8, by decide⟩ inb_S2048x256_S128x256_1024_0 k s)
  have hT9 : ∀ k s r, _ := (fun k s r => ra_xt (Cr := Cr) harg14 (fun d s => hxt d s r) ⟨9, by decide⟩ inb_S2048x256_S128x256_1152_0 k s)
  have hT10 : ∀ k s r, _ := (fun k s r => ra_xt (Cr := Cr) harg14 (fun d s => hxt d s r) ⟨10, by decide⟩ inb_S2048x256_S128x256_1280_0 k s)
  have hT11 : ∀ k s r, _ := (fun k s r => ra_xt (Cr := Cr) harg14 (fun d s => hxt d s r) ⟨11, by decide⟩ inb_S2048x256_S128x256_1408_0 k s)
  have hT12 : ∀ k s r, _ := (fun k s r => ra_xt (Cr := Cr) harg14 (fun d s => hxt d s r) ⟨12, by decide⟩ inb_S2048x256_S128x256_1536_0 k s)
  have hT13 : ∀ k s r, _ := (fun k s r => ra_xt (Cr := Cr) harg14 (fun d s => hxt d s r) ⟨13, by decide⟩ inb_S2048x256_S128x256_1664_0 k s)
  have hT14 : ∀ k s r, _ := (fun k s r => ra_xt (Cr := Cr) harg14 (fun d s => hxt d s r) ⟨14, by decide⟩ inb_S2048x256_S128x256_1792_0 k s)
  have hT15 : ∀ k s r, _ := (fun k s r => ra_xt (Cr := Cr) harg14 (fun d s => hxt d s r) ⟨15, by decide⟩ inb_S2048x256_S128x256_1920_0 k s)
  exact cn (pc (scp_piece1 Cr ⟨15, by decide⟩ hES hT15 (rd_tm (v := arg18.view) h5 ⟨1, by decide⟩ ⟨3, by decide⟩ rfl ⟨15, by decide⟩ _) _) <|
    pc (scp_piece0 Cr ⟨15, by decide⟩ hES hT15 (rd_tm (v := arg18.view) h5 ⟨0, by decide⟩ ⟨2, by decide⟩ rfl ⟨15, by decide⟩ _) _) <|
    pc (scp_piece1 Cr ⟨14, by decide⟩ hES hT14 (rd_tm (v := arg18.view) h5 ⟨1, by decide⟩ ⟨3, by decide⟩ rfl ⟨14, by decide⟩ _) _) <|
    pc (scp_piece0 Cr ⟨14, by decide⟩ hES hT14 (rd_tm (v := arg18.view) h5 ⟨0, by decide⟩ ⟨2, by decide⟩ rfl ⟨14, by decide⟩ _) _) <|
    pc (scp_piece1 Cr ⟨13, by decide⟩ hES hT13 (rd_tm (v := arg18.view) h5 ⟨1, by decide⟩ ⟨3, by decide⟩ rfl ⟨13, by decide⟩ _) _) <|
    pc (scp_piece0 Cr ⟨13, by decide⟩ hES hT13 (rd_tm (v := arg18.view) h5 ⟨0, by decide⟩ ⟨2, by decide⟩ rfl ⟨13, by decide⟩ _) _) <|
    pc (scp_piece1 Cr ⟨12, by decide⟩ hES hT12 (rd_tm (v := arg18.view) h5 ⟨1, by decide⟩ ⟨3, by decide⟩ rfl ⟨12, by decide⟩ _) _) <|
    pc (scp_piece0 Cr ⟨12, by decide⟩ hES hT12 (rd_tm (v := arg18.view) h5 ⟨0, by decide⟩ ⟨2, by decide⟩ rfl ⟨12, by decide⟩ _) _) <|
    pc (scp_piece1 Cr ⟨11, by decide⟩ hES hT11 (rd_tm (v := arg18.view) h5 ⟨1, by decide⟩ ⟨3, by decide⟩ rfl ⟨11, by decide⟩ _) _) <|
    pc (scp_piece0 Cr ⟨11, by decide⟩ hES hT11 (rd_tm (v := arg18.view) h5 ⟨0, by decide⟩ ⟨2, by decide⟩ rfl ⟨11, by decide⟩ _) _) <|
    pc (scp_piece1 Cr ⟨10, by decide⟩ hES hT10 (rd_tm (v := arg18.view) h5 ⟨1, by decide⟩ ⟨3, by decide⟩ rfl ⟨10, by decide⟩ _) _) <|
    pc (scp_piece0 Cr ⟨10, by decide⟩ hES hT10 (rd_tm (v := arg18.view) h5 ⟨0, by decide⟩ ⟨2, by decide⟩ rfl ⟨10, by decide⟩ _) _) <|
    pc (scp_piece1 Cr ⟨9, by decide⟩ hES hT9 (rd_tm (v := arg18.view) h5 ⟨1, by decide⟩ ⟨3, by decide⟩ rfl ⟨9, by decide⟩ _) _) <|
    pc (scp_piece0 Cr ⟨9, by decide⟩ hES hT9 (rd_tm (v := arg18.view) h5 ⟨0, by decide⟩ ⟨2, by decide⟩ rfl ⟨9, by decide⟩ _) _) <|
    pc (scp_piece1 Cr ⟨8, by decide⟩ hES hT8 (rd_tm (v := arg18.view) h5 ⟨1, by decide⟩ ⟨3, by decide⟩ rfl ⟨8, by decide⟩ _) _) <|
    pc (scp_piece0 Cr ⟨8, by decide⟩ hES hT8 (rd_tm (v := arg18.view) h5 ⟨0, by decide⟩ ⟨2, by decide⟩ rfl ⟨8, by decide⟩ _) _) <|
    pc (scp_piece1 Cr ⟨7, by decide⟩ hES hT7 (rd_tm (v := arg18.view) h5 ⟨1, by decide⟩ ⟨3, by decide⟩ rfl ⟨7, by decide⟩ _) _) <|
    pc (scp_piece0 Cr ⟨7, by decide⟩ hES hT7 (rd_tm (v := arg18.view) h5 ⟨0, by decide⟩ ⟨2, by decide⟩ rfl ⟨7, by decide⟩ _) _) <|
    pc (scp_piece1 Cr ⟨6, by decide⟩ hES hT6 (rd_tm (v := arg18.view) h5 ⟨1, by decide⟩ ⟨3, by decide⟩ rfl ⟨6, by decide⟩ _) _) <|
    pc (scp_piece0 Cr ⟨6, by decide⟩ hES hT6 (rd_tm (v := arg18.view) h5 ⟨0, by decide⟩ ⟨2, by decide⟩ rfl ⟨6, by decide⟩ _) _) <|
    pc (scp_piece1 Cr ⟨5, by decide⟩ hES hT5 (rd_tm (v := arg18.view) h5 ⟨1, by decide⟩ ⟨3, by decide⟩ rfl ⟨5, by decide⟩ _) _) <|
    pc (scp_piece0 Cr ⟨5, by decide⟩ hES hT5 (rd_tm (v := arg18.view) h5 ⟨0, by decide⟩ ⟨2, by decide⟩ rfl ⟨5, by decide⟩ _) _) <|
    pc (scp_piece1 Cr ⟨4, by decide⟩ hES hT4 (rd_tm (v := arg18.view) h5 ⟨1, by decide⟩ ⟨3, by decide⟩ rfl ⟨4, by decide⟩ _) _) <|
    pc (scp_piece0 Cr ⟨4, by decide⟩ hES hT4 (rd_tm (v := arg18.view) h5 ⟨0, by decide⟩ ⟨2, by decide⟩ rfl ⟨4, by decide⟩ _) _) <|
    pc (scp_piece1 Cr ⟨3, by decide⟩ hES hT3 (rd_tm (v := arg18.view) h5 ⟨1, by decide⟩ ⟨3, by decide⟩ rfl ⟨3, by decide⟩ _) _) <|
    pc (scp_piece0 Cr ⟨3, by decide⟩ hES hT3 (rd_tm (v := arg18.view) h5 ⟨0, by decide⟩ ⟨2, by decide⟩ rfl ⟨3, by decide⟩ _) _) <|
    pc (scp_piece1 Cr ⟨2, by decide⟩ hES hT2 (rd_tm (v := arg18.view) h5 ⟨1, by decide⟩ ⟨3, by decide⟩ rfl ⟨2, by decide⟩ _) _) <|
    pc (scp_piece0 Cr ⟨2, by decide⟩ hES hT2 (rd_tm (v := arg18.view) h5 ⟨0, by decide⟩ ⟨2, by decide⟩ rfl ⟨2, by decide⟩ _) _) <|
    pc (scp_piece1 Cr ⟨1, by decide⟩ hES hT1 (rd_tm (v := arg18.view) h5 ⟨1, by decide⟩ ⟨3, by decide⟩ rfl ⟨1, by decide⟩ _) _) <|
    pc (scp_piece0 Cr ⟨1, by decide⟩ hES hT1 (rd_tm (v := arg18.view) h5 ⟨0, by decide⟩ ⟨2, by decide⟩ rfl ⟨1, by decide⟩ _) _) <|
    pc (scp_piece1 Cr ⟨0, by decide⟩ hES hT0 (rd_tm (v := arg18.view) h5 ⟨1, by decide⟩ ⟨3, by decide⟩ rfl ⟨0, by decide⟩ _) _) <|
    pc (scp_piece0 Cr ⟨0, by decide⟩ hES hT0 (rd_tm (v := arg18.view) h5 ⟨0, by decide⟩ ⟨2, by decide⟩ rfl ⟨0, by decide⟩ _) _) <| pn) S1x8x128.size (by sl_kernel_rfl)
include hw hga hbe hy hx hxt hxs in
theorem out6 : out0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = Bdg Cr := by
  have h6 := HS6 c arg3 harg3 x2 hw
  have h7 := HS7 c arg3 harg3 x2 hw
  have h10s := HS10 c arg3 harg3 arg4 harg4 arg5 harg5 arg6 harg6 arg11 arg13 harg13 arg14 harg14 arg15 harg15 arg16 arg17 arg18 arg19 arg20 arg21 arg22 x2 x3 x4 x5 xs0 xs1 xs2 hw hga hbe hy hx hxt hxs
  have h11 := HS11 c arg3 harg3 arg4 harg4 arg5 harg5 arg6 harg6 arg11 arg13 harg13 arg14 harg14 arg15 harg15 arg16 arg17 arg18 arg19 arg20 arg21 arg22 x2 x3 x4 x5 xs0 xs1 xs2 hw hga hbe hy hx hxt hxs
  unfold out0_C_6
  rw [View.read_writes_junk_eq_canon]
  exact cn (pc (dg_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) (rd_shp (v := arg23.view) h10s ⟨1, by decide⟩) (rd_scp (v := arg24.view) h11 ⟨1, by decide⟩) _) <|
    pc (dg_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) (rd_shp (v := arg23.view) h10s ⟨0, by decide⟩) (rd_scp (v := arg24.view) h11 ⟨0, by decide⟩) _) <| pn) S16x128.size (by sl_kernel_rfl)
include hw hga hbe hy hx hxt hxs in
theorem out7 : out0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = Bdb Cr := by
  have h6 := HS6 c arg3 harg3 x2 hw
  have h7 := HS7 c arg3 harg3 x2 hw
  have h10s := HS10 c arg3 harg3 arg4 harg4 arg5 harg5 arg6 harg6 arg11 arg13 harg13 arg14 harg14 arg15 harg15 arg16 arg17 arg18 arg19 arg20 arg21 arg22 x2 x3 x4 x5 xs0 xs1 xs2 hw hga hbe hy hx hxt hxs
  have h11 := HS11 c arg3 harg3 arg4 harg4 arg5 harg5 arg6 harg6 arg11 arg13 harg13 arg14 harg14 arg15 harg15 arg16 arg17 arg18 arg19 arg20 arg21 arg22 x2 x3 x4 x5 xs0 xs1 xs2 hw hga hbe hy hx hxt hxs
  unfold out0_C_7
  rw [View.read_writes_junk_eq_canon]
  exact cn (pc (db_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) (rd_shp (v := arg23.view) h10s ⟨1, by decide⟩) (rd_scp (v := arg24.view) h11 ⟨1, by decide⟩) _) <|
    pc (db_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) (rd_shp (v := arg23.view) h10s ⟨0, by decide⟩) (rd_scp (v := arg24.view) h11 ⟨0, by decide⟩) _) <| pn) S16x128.size (by sl_kernel_rfl)
include hw hga hbe in
theorem out9 : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = Bcode Cr := by
  have h3 := HS3 c arg3 harg3 x2 hw
  have h8 := HS8 c arg3 harg3 arg4 harg4 arg5 harg5 arg19 arg20 x2 x3 x4 hw hga hbe
  have h9 := HS9 c arg3 harg3 arg4 harg4 arg5 harg5 arg19 arg20 x2 x3 x4 hw hga hbe
  unfold out0_C_9
  rw [View.read_writes_junk_eq_canon]
  exact cn (pc (code_piece Cr ⟨1, by decide⟩ ⟨15, by decide⟩ (rd_rh (v := arg21.view) h8 ⟨1, by decide⟩ ⟨15, by decide⟩ _) (rd_mz (v := arg22.view) h9 ⟨1, by decide⟩ ⟨15, by decide⟩ _) (rd_wt (v := arg16.view) h3 ⟨1, by decide⟩ ⟨15, by decide⟩ _) _) <|
    pc (code_piece Cr ⟨1, by decide⟩ ⟨14, by decide⟩ (rd_rh (v := arg21.view) h8 ⟨1, by decide⟩ ⟨14, by decide⟩ _) (rd_mz (v := arg22.view) h9 ⟨1, by decide⟩ ⟨14, by decide⟩ _) (rd_wt (v := arg16.view) h3 ⟨1, by decide⟩ ⟨14, by decide⟩ _) _) <|
    pc (code_piece Cr ⟨1, by decide⟩ ⟨13, by decide⟩ (rd_rh (v := arg21.view) h8 ⟨1, by decide⟩ ⟨13, by decide⟩ _) (rd_mz (v := arg22.view) h9 ⟨1, by decide⟩ ⟨13, by decide⟩ _) (rd_wt (v := arg16.view) h3 ⟨1, by decide⟩ ⟨13, by decide⟩ _) _) <|
    pc (code_piece Cr ⟨1, by decide⟩ ⟨12, by decide⟩ (rd_rh (v := arg21.view) h8 ⟨1, by decide⟩ ⟨12, by decide⟩ _) (rd_mz (v := arg22.view) h9 ⟨1, by decide⟩ ⟨12, by decide⟩ _) (rd_wt (v := arg16.view) h3 ⟨1, by decide⟩ ⟨12, by decide⟩ _) _) <|
    pc (code_piece Cr ⟨1, by decide⟩ ⟨11, by decide⟩ (rd_rh (v := arg21.view) h8 ⟨1, by decide⟩ ⟨11, by decide⟩ _) (rd_mz (v := arg22.view) h9 ⟨1, by decide⟩ ⟨11, by decide⟩ _) (rd_wt (v := arg16.view) h3 ⟨1, by decide⟩ ⟨11, by decide⟩ _) _) <|
    pc (code_piece Cr ⟨1, by decide⟩ ⟨10, by decide⟩ (rd_rh (v := arg21.view) h8 ⟨1, by decide⟩ ⟨10, by decide⟩ _) (rd_mz (v := arg22.view) h9 ⟨1, by decide⟩ ⟨10, by decide⟩ _) (rd_wt (v := arg16.view) h3 ⟨1, by decide⟩ ⟨10, by decide⟩ _) _) <|
    pc (code_piece Cr ⟨1, by decide⟩ ⟨9, by decide⟩ (rd_rh (v := arg21.view) h8 ⟨1, by decide⟩ ⟨9, by decide⟩ _) (rd_mz (v := arg22.view) h9 ⟨1, by decide⟩ ⟨9, by decide⟩ _) (rd_wt (v := arg16.view) h3 ⟨1, by decide⟩ ⟨9, by decide⟩ _) _) <|
    pc (code_piece Cr ⟨1, by decide⟩ ⟨8, by decide⟩ (rd_rh (v := arg21.view) h8 ⟨1, by decide⟩ ⟨8, by decide⟩ _) (rd_mz (v := arg22.view) h9 ⟨1, by decide⟩ ⟨8, by decide⟩ _) (rd_wt (v := arg16.view) h3 ⟨1, by decide⟩ ⟨8, by decide⟩ _) _) <|
    pc (code_piece Cr ⟨1, by decide⟩ ⟨7, by decide⟩ (rd_rh (v := arg21.view) h8 ⟨1, by decide⟩ ⟨7, by decide⟩ _) (rd_mz (v := arg22.view) h9 ⟨1, by decide⟩ ⟨7, by decide⟩ _) (rd_wt (v := arg16.view) h3 ⟨1, by decide⟩ ⟨7, by decide⟩ _) _) <|
    pc (code_piece Cr ⟨1, by decide⟩ ⟨6, by decide⟩ (rd_rh (v := arg21.view) h8 ⟨1, by decide⟩ ⟨6, by decide⟩ _) (rd_mz (v := arg22.view) h9 ⟨1, by decide⟩ ⟨6, by decide⟩ _) (rd_wt (v := arg16.view) h3 ⟨1, by decide⟩ ⟨6, by decide⟩ _) _) <|
    pc (code_piece Cr ⟨1, by decide⟩ ⟨5, by decide⟩ (rd_rh (v := arg21.view) h8 ⟨1, by decide⟩ ⟨5, by decide⟩ _) (rd_mz (v := arg22.view) h9 ⟨1, by decide⟩ ⟨5, by decide⟩ _) (rd_wt (v := arg16.view) h3 ⟨1, by decide⟩ ⟨5, by decide⟩ _) _) <|
    pc (code_piece Cr ⟨1, by decide⟩ ⟨4, by decide⟩ (rd_rh (v := arg21.view) h8 ⟨1, by decide⟩ ⟨4, by decide⟩ _) (rd_mz (v := arg22.view) h9 ⟨1, by decide⟩ ⟨4, by decide⟩ _) (rd_wt (v := arg16.view) h3 ⟨1, by decide⟩ ⟨4, by decide⟩ _) _) <|
    pc (code_piece Cr ⟨1, by decide⟩ ⟨3, by decide⟩ (rd_rh (v := arg21.view) h8 ⟨1, by decide⟩ ⟨3, by decide⟩ _) (rd_mz (v := arg22.view) h9 ⟨1, by decide⟩ ⟨3, by decide⟩ _) (rd_wt (v := arg16.view) h3 ⟨1, by decide⟩ ⟨3, by decide⟩ _) _) <|
    pc (code_piece Cr ⟨1, by decide⟩ ⟨2, by decide⟩ (rd_rh (v := arg21.view) h8 ⟨1, by decide⟩ ⟨2, by decide⟩ _) (rd_mz (v := arg22.view) h9 ⟨1, by decide⟩ ⟨2, by decide⟩ _) (rd_wt (v := arg16.view) h3 ⟨1, by decide⟩ ⟨2, by decide⟩ _) _) <|
    pc (code_piece Cr ⟨1, by decide⟩ ⟨1, by decide⟩ (rd_rh (v := arg21.view) h8 ⟨1, by decide⟩ ⟨1, by decide⟩ _) (rd_mz (v := arg22.view) h9 ⟨1, by decide⟩ ⟨1, by decide⟩ _) (rd_wt (v := arg16.view) h3 ⟨1, by decide⟩ ⟨1, by decide⟩ _) _) <|
    pc (code_piece Cr ⟨1, by decide⟩ ⟨0, by decide⟩ (rd_rh (v := arg21.view) h8 ⟨1, by decide⟩ ⟨0, by decide⟩ _) (rd_mz (v := arg22.view) h9 ⟨1, by decide⟩ ⟨0, by decide⟩ _) (rd_wt (v := arg16.view) h3 ⟨1, by decide⟩ ⟨0, by decide⟩ _) _) <|
    pc (code_piece Cr ⟨0, by decide⟩ ⟨15, by decide⟩ (rd_rh (v := arg21.view) h8 ⟨0, by decide⟩ ⟨15, by decide⟩ _) (rd_mz (v := arg22.view) h9 ⟨0, by decide⟩ ⟨15, by decide⟩ _) (rd_wt (v := arg16.view) h3 ⟨0, by decide⟩ ⟨15, by decide⟩ _) _) <|
    pc (code_piece Cr ⟨0, by decide⟩ ⟨14, by decide⟩ (rd_rh (v := arg21.view) h8 ⟨0, by decide⟩ ⟨14, by decide⟩ _) (rd_mz (v := arg22.view) h9 ⟨0, by decide⟩ ⟨14, by decide⟩ _) (rd_wt (v := arg16.view) h3 ⟨0, by decide⟩ ⟨14, by decide⟩ _) _) <|
    pc (code_piece Cr ⟨0, by decide⟩ ⟨13, by decide⟩ (rd_rh (v := arg21.view) h8 ⟨0, by decide⟩ ⟨13, by decide⟩ _) (rd_mz (v := arg22.view) h9 ⟨0, by decide⟩ ⟨13, by decide⟩ _) (rd_wt (v := arg16.view) h3 ⟨0, by decide⟩ ⟨13, by decide⟩ _) _) <|
    pc (code_piece Cr ⟨0, by decide⟩ ⟨12, by decide⟩ (rd_rh (v := arg21.view) h8 ⟨0, by decide⟩ ⟨12, by decide⟩ _) (rd_mz (v := arg22.view) h9 ⟨0, by decide⟩ ⟨12, by decide⟩ _) (rd_wt (v := arg16.view) h3 ⟨0, by decide⟩ ⟨12, by decide⟩ _) _) <|
    pc (code_piece Cr ⟨0, by decide⟩ ⟨11, by decide⟩ (rd_rh (v := arg21.view) h8 ⟨0, by decide⟩ ⟨11, by decide⟩ _) (rd_mz (v := arg22.view) h9 ⟨0, by decide⟩ ⟨11, by decide⟩ _) (rd_wt (v := arg16.view) h3 ⟨0, by decide⟩ ⟨11, by decide⟩ _) _) <|
    pc (code_piece Cr ⟨0, by decide⟩ ⟨10, by decide⟩ (rd_rh (v := arg21.view) h8 ⟨0, by decide⟩ ⟨10, by decide⟩ _) (rd_mz (v := arg22.view) h9 ⟨0, by decide⟩ ⟨10, by decide⟩ _) (rd_wt (v := arg16.view) h3 ⟨0, by decide⟩ ⟨10, by decide⟩ _) _) <|
    pc (code_piece Cr ⟨0, by decide⟩ ⟨9, by decide⟩ (rd_rh (v := arg21.view) h8 ⟨0, by decide⟩ ⟨9, by decide⟩ _) (rd_mz (v := arg22.view) h9 ⟨0, by decide⟩ ⟨9, by decide⟩ _) (rd_wt (v := arg16.view) h3 ⟨0, by decide⟩ ⟨9, by decide⟩ _) _) <|
    pc (code_piece Cr ⟨0, by decide⟩ ⟨8, by decide⟩ (rd_rh (v := arg21.view) h8 ⟨0, by decide⟩ ⟨8, by decide⟩ _) (rd_mz (v := arg22.view) h9 ⟨0, by decide⟩ ⟨8, by decide⟩ _) (rd_wt (v := arg16.view) h3 ⟨0, by decide⟩ ⟨8, by decide⟩ _) _) <|
    pc (code_piece Cr ⟨0, by decide⟩ ⟨7, by decide⟩ (rd_rh (v := arg21.view) h8 ⟨0, by decide⟩ ⟨7, by decide⟩ _) (rd_mz (v := arg22.view) h9 ⟨0, by decide⟩ ⟨7, by decide⟩ _) (rd_wt (v := arg16.view) h3 ⟨0, by decide⟩ ⟨7, by decide⟩ _) _) <|
    pc (code_piece Cr ⟨0, by decide⟩ ⟨6, by decide⟩ (rd_rh (v := arg21.view) h8 ⟨0, by decide⟩ ⟨6, by decide⟩ _) (rd_mz (v := arg22.view) h9 ⟨0, by decide⟩ ⟨6, by decide⟩ _) (rd_wt (v := arg16.view) h3 ⟨0, by decide⟩ ⟨6, by decide⟩ _) _) <|
    pc (code_piece Cr ⟨0, by decide⟩ ⟨5, by decide⟩ (rd_rh (v := arg21.view) h8 ⟨0, by decide⟩ ⟨5, by decide⟩ _) (rd_mz (v := arg22.view) h9 ⟨0, by decide⟩ ⟨5, by decide⟩ _) (rd_wt (v := arg16.view) h3 ⟨0, by decide⟩ ⟨5, by decide⟩ _) _) <|
    pc (code_piece Cr ⟨0, by decide⟩ ⟨4, by decide⟩ (rd_rh (v := arg21.view) h8 ⟨0, by decide⟩ ⟨4, by decide⟩ _) (rd_mz (v := arg22.view) h9 ⟨0, by decide⟩ ⟨4, by decide⟩ _) (rd_wt (v := arg16.view) h3 ⟨0, by decide⟩ ⟨4, by decide⟩ _) _) <|
    pc (code_piece Cr ⟨0, by decide⟩ ⟨3, by decide⟩ (rd_rh (v := arg21.view) h8 ⟨0, by decide⟩ ⟨3, by decide⟩ _) (rd_mz (v := arg22.view) h9 ⟨0, by decide⟩ ⟨3, by decide⟩ _) (rd_wt (v := arg16.view) h3 ⟨0, by decide⟩ ⟨3, by decide⟩ _) _) <|
    pc (code_piece Cr ⟨0, by decide⟩ ⟨2, by decide⟩ (rd_rh (v := arg21.view) h8 ⟨0, by decide⟩ ⟨2, by decide⟩ _) (rd_mz (v := arg22.view) h9 ⟨0, by decide⟩ ⟨2, by decide⟩ _) (rd_wt (v := arg16.view) h3 ⟨0, by decide⟩ ⟨2, by decide⟩ _) _) <|
    pc (code_piece Cr ⟨0, by decide⟩ ⟨1, by decide⟩ (rd_rh (v := arg21.view) h8 ⟨0, by decide⟩ ⟨1, by decide⟩ _) (rd_mz (v := arg22.view) h9 ⟨0, by decide⟩ ⟨1, by decide⟩ _) (rd_wt (v := arg16.view) h3 ⟨0, by decide⟩ ⟨1, by decide⟩ _) _) <|
    pc (code_piece Cr ⟨0, by decide⟩ ⟨0, by decide⟩ (rd_rh (v := arg21.view) h8 ⟨0, by decide⟩ ⟨0, by decide⟩ _) (rd_mz (v := arg22.view) h9 ⟨0, by decide⟩ ⟨0, by decide⟩ _) (rd_wt (v := arg16.view) h3 ⟨0, by decide⟩ ⟨0, by decide⟩ _) _) <| pn) S128x128.size (by sl_kernel_rfl)
include hw hga hbe in
theorem out10 : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = Bh Cr := by
  have h6 := HS6 c arg3 harg3 x2 hw
  have h7 := HS7 c arg3 harg3 x2 hw
  unfold out0_C_10
  rw [View.read_writes_junk_eq_canon]
  exact cn (pc (h_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (h_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S16x128.size (by sl_kernel_rfl)
include hw hga hbe in
theorem out11 : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = Bz Cr := by
  have h6 := HS6 c arg3 harg3 x2 hw
  have h7 := HS7 c arg3 harg3 x2 hw
  unfold out0_C_11
  rw [View.read_writes_junk_eq_canon]
  exact cn (pc (z_piece Cr ⟨1, by decide⟩ (rd_mx (v := arg19.view) h6 ⟨1, by decide⟩) (rd_mn (v := arg20.view) h7 ⟨1, by decide⟩) (ra_g harg4 (f := fun g r => (Cr r).ga g) hga ⟨1, by decide⟩ _) (ra_g harg5 (f := fun g r => (Cr r).be g) hbe ⟨1, by decide⟩ _) _) <|
    pc (z_piece Cr ⟨0, by decide⟩ (rd_mx (v := arg19.view) h6 ⟨0, by decide⟩) (rd_mn (v := arg20.view) h7 ⟨0, by decide⟩) (ra_g harg4 (f := fun g r => (Cr r).ga g) hga ⟨0, by decide⟩ _) (ra_g harg5 (f := fun g r => (Cr r).be g) hbe ⟨0, by decide⟩ _) _) <| pn) S16x128.size (by sl_kernel_rfl)
include hw hga hbe hy hx hxs in
theorem L0 : View.canon (kernelRun0_C.sl.HS12_1 c arg3 harg3 arg4 harg4 arg5 harg5 arg6 harg6 arg11 arg13 harg13 arg15 harg15 arg16 arg17 arg19 arg20 arg21 arg22 arg25 harg25 x2 x3 x4 x5 xs0 xs2 xs12) = Bl0 Cr xs12 := by
  have h4 := HS4 c arg3 harg3 arg4 harg4 arg5 harg5 arg11 arg16 arg19 arg20 arg21 arg22 x2 x3 x4 hw hga hbe
  have hV : ∀ s d r, _ := fun s d r => (ra_xb harg13 (X := xs0) inb_S256x2048_S256x2048_0_0 s d).trans (hx s d r)
  have hXS : ∀ s a r, _ := fun s a r => (ra_xsb harg15 (X := xs2) inb_S256x128_S256x128_0_0 s a).trans (hxs s a r)
  have hWh := rd_what (v := arg17.view) h4 inb_S2048x256_S2048x256_0_0
  have hY0 := ra_y harg6 hy ⟨0, by decide⟩ inb_S256x256_S256x128_0_0
  have hY1 := ra_y harg6 hy ⟨1, by decide⟩ inb_S256x256_S256x128_0_128
  have hP := ra_lacc harg25 (X := xs12) inb_S8x128_S8x128_0_0
  refine cw fun p r => (l0_at Cr hV hWh hXS hY0 p r).trans ?_
  exact congr_arg (· + _) (hP p r)
include hw hga hbe hy hx hxs in
theorem sout12 : sout0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = Bl Cr xs12 := by
  have h4 := HS4 c arg3 harg3 arg4 harg4 arg5 harg5 arg11 arg16 arg19 arg20 arg21 arg22 x2 x3 x4 hw hga hbe
  have hV : ∀ s d r, _ := fun s d r => (ra_xb harg13 (X := xs0) inb_S256x2048_S256x2048_0_0 s d).trans (hx s d r)
  have hXS : ∀ s a r, _ := fun s a r => (ra_xsb harg15 (X := xs2) inb_S256x128_S256x128_0_0 s a).trans (hxs s a r)
  have hWh := rd_what (v := arg17.view) h4 inb_S2048x256_S2048x256_0_0
  have hY0 := ra_y harg6 hy ⟨0, by decide⟩ inb_S256x256_S256x128_0_0
  have hY1 := ra_y harg6 hy ⟨1, by decide⟩ inb_S256x256_S256x128_0_128
  have hP := rd_all (v := arg25.view) (L0 c arg3 harg3 arg4 harg4 arg5 harg5 arg6 harg6 arg11 arg13 harg13 arg15 harg15 arg16 arg17 arg19 arg20 arg21 arg22 arg25 harg25 x2 x3 x4 x5 xs0 xs2 xs12 hw hga hbe hy hx hxs) inb_S8x128_S8x128_0_0
  unfold sout0_C_12
  rw [View.read_writes_junk_eq_canon]
  refine cw fun p r => (l1_at Cr hV hWh hXS hY1 p r).trans ?_
  exact congr_arg (· + _) (hP p r)
include hw hga hbe hy hx hxs in
theorem L1 : View.canon (kernelRun0_C.sl.HS12_2 c arg3 harg3 arg4 harg4 arg5 harg5 arg6 harg6 arg11 arg13 harg13 arg15 harg15 arg16 arg17 arg19 arg20 arg21 arg22 arg25 harg25 x2 x3 x4 x5 xs0 xs2 xs12) = Bl Cr xs12 := by
  have h4 := HS4 c arg3 harg3 arg4 harg4 arg5 harg5 arg11 arg16 arg19 arg20 arg21 arg22 x2 x3 x4 hw hga hbe
  have hV : ∀ s d r, _ := fun s d r => (ra_xb harg13 (X := xs0) inb_S256x2048_S256x2048_0_0 s d).trans (hx s d r)
  have hXS : ∀ s a r, _ := fun s a r => (ra_xsb harg15 (X := xs2) inb_S256x128_S256x128_0_0 s a).trans (hxs s a r)
  have hWh := rd_what (v := arg17.view) h4 inb_S2048x256_S2048x256_0_0
  have hY0 := ra_y harg6 hy ⟨0, by decide⟩ inb_S256x256_S256x128_0_0
  have hY1 := ra_y harg6 hy ⟨1, by decide⟩ inb_S256x256_S256x128_0_128
  have hP := rd_all (v := arg25.view) (L0 c arg3 harg3 arg4 harg4 arg5 harg5 arg6 harg6 arg11 arg13 harg13 arg15 harg15 arg16 arg17 arg19 arg20 arg21 arg22 arg25 harg25 x2 x3 x4 x5 xs0 xs2 xs12 hw hga hbe hy hx hxs) inb_S8x128_S8x128_0_0
  refine cw fun p r => (l1_at Cr hV hWh hXS hY1 p r).trans ?_
  exact congr_arg (· + _) (hP p r)
include hw hga hbe hy hx hxs in
theorem out8 : out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 xs0 xs1 xs2 xs12 = fun _ => (∑ p : Fin 8, ∑ r : Fin 128, Bl Cr xs12 (ix2 p r)) * iN := by
  have hP := rd_all (v := arg25.view) (L1 c arg3 harg3 arg4 harg4 arg5 harg5 arg6 harg6 arg11 arg13 harg13 arg15 harg15 arg16 arg17 arg19 arg20 arg21 arg22 arg25 harg25 x2 x3 x4 x5 xs0 xs2 xs12 hw hga hbe hy hx hxs) inb_S8x128_S8x128_0_0
  unfold out0_C_8
  rw [View.read_writes_junk_eq_canon]
  refine cw fun p r => (pay4 _).trans ?_
  exact congr_arg (· * iN) (Finset.sum_congr rfl fun p _ => Finset.sum_congr rfl fun r _ => hP p r)
end Cert.KernelIdeal.LW.C
-- ==== Proof.St.lean ====
/- What each step of the tiled kernel leaves, as the mathematics of the columns of its arguments. -/
module
public import proofs.«01_k».proof.Proof.CaseA
public import proofs.«01_k».proof.Proof.CaseB
public import proofs.«01_k».proof.Proof.CaseC
public import proofs.«01_k».proof.Proof.Gen.KernelIdeal.Value
public import Idealize.ShloMosaic.Lib.Pipeline.ValueKit
public import Idealize.ShloMosaic.Lib.Claim
public import Idealize.ShloMosaic.Lib.Pointwise
@[expose] public section
noncomputable section
namespace Cert.KernelIdeal.LW
open Cert.KernelIdeal Cert.KernelIdeal.Gen Idealize.ShloMosaic Idealize.ShloMosaic.TcCoe Idealize.SL.Sem
open Idealize.ShloMosaic.Pipeline (Dat)
open LWC
variable (m : (ℓ : Loc nD τ sig) → Buf (Elt Ideal) ℓ) (c : Dev nD)

/-- One output column of the arguments. -/
def kcol (o : Fin 5632) : Col where
  X s d := (m ((c : Thread nD τ).loc main_arg0) : Vec Ideal S1x256x2048 .fp8e4m3) (ix3 0 s d)
  xs s := (m ((c : Thread nD τ).loc main_arg1) : Vec Ideal S1x256 .f32) (ix2 0 s)
  w d := (m ((c : Thread nD τ).loc main_arg2) : Vec Ideal S5632x2048 .f32) (ix2 o d)
  ga g := (m ((c : Thread nD τ).loc main_arg3) : Vec Ideal S5632x16 .f32) (ix2 o g)
  be g := (m ((c : Thread nD τ).loc main_arg4) : Vec Ideal S5632x16 .f32) (ix2 o g)
  y s := (m ((c : Thread nD τ).loc main_arg5) : Vec Ideal S1x256x5632 .bf16) (ix3 0 s o)
/-- The columns of one step. -/
def Cn (n : ℕ) (r : Fin 256) : Col := kcol m c ⟨(n * 256 + r.val) % 5632, Nat.mod_lt _ (by omega)⟩

theorem idx : ∀ t : Fin cfg0.N, win0_0.index t = ![0, 0] ∧ win0_1.index t = ![0, 0] ∧ win0_2.index t = ![t.val, 0]
    ∧ win0_3.index t = ![0, t.val] ∧ win0_4.index t = ![0, t.val] ∧ win0_5.index t = ![0, t.val]
    ∧ win0_6.index t = ![0, t.val] ∧ win0_7.index t = ![0, t.val] ∧ win0_8.index t = ![0, 0]
    ∧ win0_9.index t = ![t.val, 0] ∧ win0_10.index t = ![0, t.val] ∧ win0_11.index t = ![0, t.val] :=
  (by decide +kernel : ∀ t : Fin grid0.N, _)
theorem tlt (t : Fin cfg0.N) : t.val < 22 := lt_of_lt_of_eq t.isLt N_0

theorem b0 (t : Fin cfg0.N) (s : Fin 256) (d : Fin 2048) (r : Fin 256) : iblk m c 0 t (ix2 s d) = (Cn m c t.val r).X s d := by
  show _ = (m ((c : Thread nD τ).loc main_arg0) : Vec Ideal S1x256x2048 .fp8e4m3) (ix3 0 s d)
  blk_ext! [iblk, V, idx t]
theorem b1 (t : Fin cfg0.N) (s : Fin 256) (r : Fin 256) : iblk m c 1 t (ix2 0 s) = (Cn m c t.val r).xs s := by
  show _ = (m ((c : Thread nD τ).loc main_arg1) : Vec Ideal S1x256 .f32) (ix2 0 s)
  blk_ext! [iblk, V, idx t]
theorem b2 (t : Fin cfg0.N) (r : Fin 256) (d : Fin 2048) : iblk m c 2 t (ix2 r d) = (Cn m c t.val r).w d := by
  have ht := tlt t
  show _ = (m ((c : Thread nD τ).loc main_arg2) : Vec Ideal S5632x2048 .f32) (ix2 ⟨(t.val * 256 + r.val) % 5632, _⟩ d)
  blk_ext! [iblk, V, idx t]
theorem b3 (t : Fin cfg0.N) (g : Fin 16) (r : Fin 256) : iblk m c 3 t (ix2 g r) = (Cn m c t.val r).ga g := by
  have ht := tlt t
  show _ = (m ((c : Thread nD τ).loc main_arg3) : Vec Ideal S5632x16 .f32) (ix2 ⟨(t.val * 256 + r.val) % 5632, _⟩ g)
  blk_ext! [iblk, V, idx t]
theorem b4 (t : Fin cfg0.N) (g : Fin 16) (r : Fin 256) : iblk m c 4 t (ix2 g r) = (Cn m c t.val r).be g := by
  have ht := tlt t
  show _ = (m ((c : Thread nD τ).loc main_arg4) : Vec Ideal S5632x16 .f32) (ix2 ⟨(t.val * 256 + r.val) % 5632, _⟩ g)
  blk_ext! [iblk, V, idx t]
theorem b5 (t : Fin cfg0.N) (s : Fin 256) (r : Fin 256) : iblk m c 5 t (ix2 s r) = (Cn m c t.val r).y s := by
  have ht := tlt t
  show _ = (m ((c : Thread nD τ).loc main_arg5) : Vec Ideal S1x256x5632 .bf16) (ix3 0 s ⟨(t.val * 256 + r.val) % 5632, _⟩)
  blk_ext! [iblk, V, idx t]

/-- The running sum after step `n`. -/
def Ls : ℕ → Vec Ideal S8x128 .f32
  | 0 => Bl (Cn m c 0) A.Blz
  | n + 1 => Bl (Cn m c (n + 1)) (Ls n)

/-- What every step leaves. -/
structure St (n : ℕ) (hn : n < cfg0.N) : Prop where
  dg : (outsAt0 m c n hn).1 = Bdg (Cn m c n)
  db : (outsAt0 m c n hn).2.1 = Bdb (Cn m c n)
  code : (outsAt0 m c n hn).2.2.2.1 = Bcode (Cn m c n)
  h : (outsAt0 m c n hn).2.2.2.2.1 = Bh (Cn m c n)
  z : (outsAt0 m c n hn).2.2.2.2.2.1 = Bz (Cn m c n)
  xb : ∀ k s d r, (outsAt0 m c n hn).2.2.2.2.2.2.1 (ix2 s d) = (Cn m c k r).X s d
  xt : ∀ k d s r, (outsAt0 m c n hn).2.2.2.2.2.2.2.1 (ix2 d s) = (Cn m c k r).X s d
  xs : ∀ k s a r, (outsAt0 m c n hn).2.2.2.2.2.2.2.2.1 (ix2 s a) = (Cn m c k r).xs s
  acc : (outsAt0 m c n hn).2.2.2.2.2.2.2.2.2 = Ls m c n
  loss : n = 21 → (outsAt0 m c n hn).2.2.1 = fun _ => (∑ p : Fin 8, ∑ r : Fin 128, Ls m c n (ix2 p r)) * iN

set_option maxHeartbeats 4000000 in
theorem st_A (t : Fin cfg0.N) (h0 : t.val % 22 = 0) (h1 : ¬t.val % 22 = 21) (ht : t.val = 0) : St m c t.val t.isLt := by
  have e := outsAt0_A m c t h0 h1
  constructor
  · exact (congr_arg (fun v => v.1) e).trans (A.out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (iblk m c 0 t) (iblk m c 1 t) (iblk m c 2 t) (iblk m c 3 t) (iblk m c 4 t) (iblk m c 5 t) (b2 m c t) (b3 m c t) (b4 m c t) (b5 m c t) (b0 m c t) (b1 m c t))
  · exact (congr_arg (fun v => v.2.1) e).trans (A.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (iblk m c 0 t) (iblk m c 1 t) (iblk m c 2 t) (iblk m c 3 t) (iblk m c 4 t) (iblk m c 5 t) (b2 m c t) (b3 m c t) (b4 m c t) (b5 m c t) (b0 m c t) (b1 m c t))
  · exact (congr_arg (fun v => v.2.2.2.1) e).trans (A.out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (iblk m c 0 t) (iblk m c 1 t) (iblk m c 2 t) (iblk m c 3 t) (iblk m c 4 t) (iblk m c 5 t) (b2 m c t) (b3 m c t) (b4 m c t))
  · exact (congr_arg (fun v => v.2.2.2.2.1) e).trans (A.out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (iblk m c 0 t) (iblk m c 1 t) (iblk m c 2 t) (iblk m c 3 t) (iblk m c 4 t) (iblk m c 5 t) (b2 m c t) (b3 m c t) (b4 m c t))
  · exact (congr_arg (fun v => v.2.2.2.2.2.1) e).trans (A.out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (iblk m c 0 t) (iblk m c 1 t) (iblk m c 2 t) (iblk m c 3 t) (iblk m c 4 t) (iblk m c 5 t) (b2 m c t) (b3 m c t) (b4 m c t))
  · intro k s d r; exact (congr_fun ((congr_arg (fun v => v.2.2.2.2.2.2.1) e).trans (A.sout0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (iblk m c 0 t) (iblk m c 1 t) (iblk m c 2 t) (iblk m c 3 t) (iblk m c 4 t) (iblk m c 5 t))) (ix2 s d)).trans (b0 m c t s d r)
  · intro k d s r; exact (congr_fun ((congr_arg (fun v => v.2.2.2.2.2.2.2.1) e).trans (A.sout1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (iblk m c 0 t) (iblk m c 1 t) (iblk m c 2 t) (iblk m c 3 t) (iblk m c 4 t) (iblk m c 5 t))) (ix2 d s)).trans (b0 m c t s d r)
  · intro k s a r; exact (congr_fun ((congr_arg (fun v => v.2.2.2.2.2.2.2.2.1) e).trans (A.sout2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (iblk m c 0 t) (iblk m c 1 t) (iblk m c 2 t) (iblk m c 3 t) (iblk m c 4 t) (iblk m c 5 t))) (ix2 s a)).trans (b1 m c t s r)
  · refine ((congr_arg (fun v => v.2.2.2.2.2.2.2.2.2) e).trans (A.sout12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (iblk m c 0 t) (iblk m c 1 t) (iblk m c 2 t) (iblk m c 3 t) (iblk m c 4 t) (iblk m c 5 t) (b2 m c t) (b3 m c t) (b4 m c t) (b5 m c t) (b0 m c t) (b1 m c t))).trans ?_
    rw [ht]; rfl
  · omega
set_option maxHeartbeats 4000000 in
theorem st_B (t : Fin cfg0.N) (h0 : ¬t.val % 22 = 0) (h1 : ¬t.val % 22 = 21) (ih : St m c (t.val - 1) (Nat.lt_of_le_of_lt (Nat.sub_le _ _) t.isLt)) : St m c t.val t.isLt := by
  have e := outsAt0_B m c t h0 h1
  obtain ⟨n, hn⟩ : ∃ n, t.val = n + 1 := ⟨t.val - 1, by omega⟩
  constructor
  · exact (congr_arg (fun v => v.1) e).trans (B.out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t) (b5 m c t) (ih.xb t.val) (ih.xt t.val) (ih.xs t.val))
  · exact (congr_arg (fun v => v.2.1) e).trans (B.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t) (b5 m c t) (ih.xb t.val) (ih.xt t.val) (ih.xs t.val))
  · exact (congr_arg (fun v => v.2.2.2.1) e).trans (B.out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t))
  · exact (congr_arg (fun v => v.2.2.2.2.1) e).trans (B.out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t))
  · exact (congr_arg (fun v => v.2.2.2.2.2.1) e).trans (B.out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t))
  · intro k s d r; exact (congr_fun (congr_arg (fun v => v.2.2.2.2.2.2.1) e) (ix2 s d)).trans (ih.xb k s d r)
  · intro k d s r; exact (congr_fun (congr_arg (fun v => v.2.2.2.2.2.2.2.1) e) (ix2 d s)).trans (ih.xt k d s r)
  · intro k s a r; exact (congr_fun (congr_arg (fun v => v.2.2.2.2.2.2.2.2.1) e) (ix2 s a)).trans (ih.xs k s a r)
  · refine ((congr_arg (fun v => v.2.2.2.2.2.2.2.2.2) e).trans (B.sout12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t) (b5 m c t) (ih.xb t.val) (ih.xs t.val))).trans ?_
    rw [ih.acc, hn]; rfl
  · omega
set_option maxHeartbeats 4000000 in
theorem st_C (t : Fin cfg0.N) (h0 : ¬t.val % 22 = 0) (h1 : t.val % 22 = 21) (ih : St m c (t.val - 1) (Nat.lt_of_le_of_lt (Nat.sub_le _ _) t.isLt)) : St m c t.val t.isLt := by
  have e := outsAt0_C m c t h0 h1
  obtain ⟨n, hn⟩ : ∃ n, t.val = n + 1 := ⟨t.val - 1, by omega⟩
  constructor
  · exact (congr_arg (fun v => v.1) e).trans (C.out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t) (b5 m c t) (ih.xb t.val) (ih.xt t.val) (ih.xs t.val))
  · exact (congr_arg (fun v => v.2.1) e).trans (C.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t) (b5 m c t) (ih.xb t.val) (ih.xt t.val) (ih.xs t.val))
  · exact (congr_arg (fun v => v.2.2.2.1) e).trans (C.out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t))
  · exact (congr_arg (fun v => v.2.2.2.2.1) e).trans (C.out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t))
  · exact (congr_arg (fun v => v.2.2.2.2.2.1) e).trans (C.out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t))
  · intro k s d r; exact (congr_fun (congr_arg (fun v => v.2.2.2.2.2.2.1) e) (ix2 s d)).trans (ih.xb k s d r)
  · intro k d s r; exact (congr_fun (congr_arg (fun v => v.2.2.2.2.2.2.2.1) e) (ix2 d s)).trans (ih.xt k d s r)
  · intro k s a r; exact (congr_fun (congr_arg (fun v => v.2.2.2.2.2.2.2.2.1) e) (ix2 s a)).trans (ih.xs k s a r)
  · refine ((congr_arg (fun v => v.2.2.2.2.2.2.2.2.2) e).trans (C.sout12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t) (b5 m c t) (ih.xb t.val) (ih.xs t.val))).trans ?_
    rw [ih.acc, hn]; rfl
  · intro _
    refine ((congr_arg (fun v => v.2.2.1) e).trans (C.out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (b2 m c t) (b3 m c t) (b4 m c t) (b5 m c t) (ih.xb t.val) (ih.xs t.val))).trans ?_
    rw [ih.acc, hn]; rfl
theorem st (n : ℕ) (hn : n < cfg0.N) : St m c n hn := by
  induction n with
  | zero => exact st_A m c ⟨0, hn⟩ rfl (fun h => absurd (show (0 : ℕ) % 22 = 21 from h) (by decide)) rfl
  | succ k ih =>
    have h22 : k + 1 < 22 := lt_of_lt_of_eq hn N_0
    have h0 : ¬ (k + 1) % 22 = 0 := by omega
    by_cases h1 : (k + 1) % 22 = 21
    · exact st_C m c ⟨k + 1, hn⟩ h0 h1 (ih _)
    · exact st_B m c ⟨k + 1, hn⟩ h0 h1 (ih _)

end Cert.KernelIdeal.LW
-- ==== Proof.Arr.lean ====
/- The tiled kernel's results after the whole run, as the mathematics of the columns of its arguments. -/
module
public import proofs.«01_k».proof.Proof.St
@[expose] public section
noncomputable section
namespace Cert.KernelIdeal.LW
open Cert.KernelIdeal Cert.KernelIdeal.Gen Idealize.ShloMosaic Idealize.ShloMosaic.TcCoe Idealize.SL.Sem
open Idealize.ShloMosaic.Pipeline (Dat)
open LWC
variable (m : (ℓ : Loc nD τ sig) → Buf (Elt Ideal) ℓ) (c : Dev nD)

theorem Cn_eq (n : ℕ) (r : Fin 256) (o : Fin 5632) (h : o.val = n * 256 + r.val) : Cn m c n r = kcol m c o := by
  unfold Cn
  congr 1
  apply Fin.ext
  show (n * 256 + r.val) % 5632 = o.val
  omega

theorem arr6 : (dats m 0 c).arrAt 6 cfg0.N = (fun j => (kcol m c (j 1)).kdg (j 0) : Vec Ideal S16x5632 .f32) := by
  refine (dats m 0 c).arrAt_eq_of_covers 6 _ (by decide +kernel) fun t hf y => ?_
  blk_simp
  rw [after0_6, (st m c t.val t.isLt).dg]
  show (Cn m c t.val (y 1)).kdg (y 0) = _
  rw [Cn_eq m c t.val (y 1) ((win0_6.blk t).view.emb y 1) (by blk_simp [idx t])]
  congr 1
  apply Fin.ext
  blk_simp [idx t]
theorem arr7 : (dats m 0 c).arrAt 7 cfg0.N = (fun j => (kcol m c (j 1)).kdb (j 0) : Vec Ideal S16x5632 .f32) := by
  refine (dats m 0 c).arrAt_eq_of_covers 7 _ (by decide +kernel) fun t hf y => ?_
  blk_simp
  rw [after0_7, (st m c t.val t.isLt).db]
  show (Cn m c t.val (y 1)).kdb (y 0) = _
  rw [Cn_eq m c t.val (y 1) ((win0_7.blk t).view.emb y 1) (by blk_simp [idx t])]
  congr 1
  apply Fin.ext
  blk_simp [idx t]
theorem arr9 : (dats m 0 c).arrAt 9 cfg0.N = (fun j => (kcol m c (j 0)).kcode (j 1) : Vec Ideal S5632x2048 .i8) := by
  refine (dats m 0 c).arrAt_eq_of_covers 9 _ (by decide +kernel) fun t hf y => ?_
  blk_simp
  rw [after0_9, (st m c t.val t.isLt).code]
  show (Cn m c t.val (y 0)).kcode (y 1) = _
  rw [Cn_eq m c t.val (y 0) ((win0_9.blk t).view.emb y 0) (by blk_simp [idx t])]
  congr 1
  apply Fin.ext
  blk_simp [idx t]
theorem arr10 : (dats m 0 c).arrAt 10 cfg0.N = (fun j => (kcol m c (j 1)).kh (j 0) : Vec Ideal S16x5632 .f32) := by
  refine (dats m 0 c).arrAt_eq_of_covers 10 _ (by decide +kernel) fun t hf y => ?_
  blk_simp
  rw [after0_10, (st m c t.val t.isLt).h]
  show (Cn m c t.val (y 1)).kh (y 0) = _
  rw [Cn_eq m c t.val (y 1) ((win0_10.blk t).view.emb y 1) (by blk_simp [idx t])]
  congr 1
  apply Fin.ext
  blk_simp [idx t]
theorem arr11 : (dats m 0 c).arrAt 11 cfg0.N = (fun j => (kcol m c (j 1)).kz (j 0) : Vec Ideal S16x5632 .f32) := by
  refine (dats m 0 c).arrAt_eq_of_covers 11 _ (by decide +kernel) fun t hf y => ?_
  blk_simp
  rw [after0_11, (st m c t.val t.isLt).z]
  show (Cn m c t.val (y 1)).kz (y 0) = _
  rw [Cn_eq m c t.val (y 1) ((win0_11.blk t).view.emb y 1) (by blk_simp [idx t])]
  congr 1
  apply Fin.ext
  blk_simp [idx t]

/-! ### The loss: one sum over all activations and all columns -/

theorem sum_split {a b : ℕ} (f : Fin (a * b) → EReal) :
    ∑ i, f i = ∑ x : Fin a, ∑ y : Fin b, f ⟨y.val + b * x.val, (finProdFinEquiv (x, y)).isLt⟩ := by
  rw [← finProdFinEquiv.sum_comp, Fintype.sum_prod_type]
  rfl

theorem Ls_eq (n : ℕ) (p : Fin 8) (r : Fin 128) :
    Ls m c n (ix2 p r) = ∑ k ∈ Finset.range (n + 1), ∑ l : Fin 2, lt (Cn m c k) l p r := by
  induction n with
  | zero =>
    rw [Finset.sum_range_one, Fin.sum_univ_two]
    show (0 : EReal) + lt (Cn m c 0) 0 p r + lt (Cn m c 0) 1 p r = _
    rw [zero_add]
  | succ n ih =>
    rw [Finset.sum_range_succ, ← ih, Fin.sum_univ_two, ← add_assoc]
    rfl

theorem sum_perm (F : Fin 22 → Fin 2 → Fin 128 → Fin 32 → Fin 8 → EReal) :
    ∑ p, ∑ r, ∑ n, ∑ l, ∑ a, F n l r a p = ∑ a, ∑ p, ∑ n, ∑ l, ∑ r, F n l r a p := by
  rw [Finset.sum_comm (s := (Finset.univ : Finset (Fin 32)))]
  refine Finset.sum_congr rfl fun p _ => ?_
  rw [Finset.sum_comm, Finset.sum_comm (s := (Finset.univ : Finset (Fin 32)))]
  refine Finset.sum_congr rfl fun n _ => ?_
  rw [Finset.sum_comm, Finset.sum_comm (s := (Finset.univ : Finset (Fin 32)))]
  refine Finset.sum_congr rfl fun l _ => ?_
  exact Finset.sum_comm

theorem loss_eq : (∑ p : Fin 8, ∑ r : Fin 128, Ls m c 21 (ix2 p r))
    = ∑ s : Fin 256, ∑ o : Fin 5632, (kcol m c o).kE s * (kcol m c o).kE s := by
  have hs : ∀ f : Fin 256 → EReal, ∑ s, f s = ∑ a : Fin 32, ∑ p : Fin 8, f ⟨p.val + 8 * a.val, by omega⟩ :=
    fun f => sum_split (a := 32) (b := 8) f
  have hr : ∀ f : Fin 256 → EReal, ∑ s, f s = ∑ l : Fin 2, ∑ r : Fin 128, f ⟨r.val + 128 * l.val, by omega⟩ :=
    fun f => sum_split (a := 2) (b := 128) f
  have ho : ∀ f : Fin 5632 → EReal, ∑ o, f o = ∑ n : Fin 22, ∑ r : Fin 256, f ⟨r.val + 256 * n.val, by omega⟩ :=
    fun f => sum_split (a := 22) (b := 256) f
  rw [hs]
  simp only [ho, hr]
  simp only [Ls_eq, Finset.sum_range]
  refine Eq.trans ?_ (sum_perm _)
  refine Finset.sum_congr rfl fun p _ => Finset.sum_congr rfl fun r _ => Finset.sum_congr rfl fun n _ =>
    Finset.sum_congr rfl fun l _ => Finset.sum_congr rfl fun a _ => ?_
  have e1 : Cn m c n.val (lr l r) = kcol m c ⟨r.val + 128 * l.val + 256 * n.val, by omega⟩ :=
    Cn_eq m c _ _ _ (by show r.val + 128 * l.val + 256 * n.val = n.val * 256 + (l.val * 128 + r.val); omega)
  have e2 : (⟨a.val * 8 + p.val, by omega⟩ : Fin 256) = ⟨p.val + 8 * a.val, by omega⟩ := Fin.ext (by show a.val * 8 + p.val = p.val + 8 * a.val; omega)
  rw [e1, e2]

theorem arr8 : (dats m 0 c).arrAt 8 cfg0.N
    = (fun _ => (∑ s : Fin 256, ∑ o : Fin 5632, (kcol m c o).kE s * (kcol m c o).kE s) * iN : Vec Ideal S1x1 .f32) := by
  refine (dats m 0 c).arrAt_eq_of_after_last 8 ⟨21, by decide⟩ (by decide +kernel) _ fun j => ?_
  blk_simp
  show (dats m 0 c).after 8 (⟨21, by decide⟩ : Fin cfg0.N) j = _
  rw [after0_8, (st m c 21 _).loss rfl, loss_eq]
end Cert.KernelIdeal.LW
-- ==== Proof.Ref.lean ====
/- The reference's six results at an index, as the column mathematics of `Spec`. -/
module
public import proofs.«01_k».proof.Proof.Spec
public import proofs.«01_k».proof.Proof.Gen.ReferenceIdeal.Value
public import Idealize.ShloMosaic.Lib.Pointwise
public import Idealize.ShloMosaic.Lib.Pipeline.ValueKit
@[expose] public section
set_option maxRecDepth 16384
noncomputable section
namespace Cert.ReferenceIdeal.LW
open Cert.ReferenceIdeal Cert.ReferenceIdeal.Gen Idealize.ShloMosaic Idealize.ShloMosaic.TcCoe Idealize.SL.Sem
open LWC

variable (x0 : Vec Ideal S256x2048 .fp8e4m3) (x1 : Vec Ideal S1x256 .f32) (x2 : Vec Ideal S5632x2048 .f32)
  (x3 : Vec Ideal S5632x16 .f32) (x4 : Vec Ideal S5632x16 .f32) (x5 : Vec Ideal S256x5632 .bf16)

/-- The column of output row `o`. -/
def col (o : Fin 5632) : Col where
  X s d := x0 (ix2 s d)
  xs s := x1 (ix2 0 s)
  w d := x2 (ix2 o d)
  ga g := x3 (ix2 o g)
  be g := x4 (ix2 o g)
  y s := x5 (ix2 s o)

theorem wmax_at (o : Fin 5632) (g : Fin 16) : k0_pay9 (F := Ideal) x2 (ix2 o g) = (col x0 x1 x2 x3 x4 x5 o).wmax g := by
  pointwise [k0_pay9, k0_pay8]; rfl
theorem wmin_at (o : Fin 5632) (g : Fin 16) : k0_pay10 (F := Ideal) x2 (ix2 o g) = (col x0 x1 x2 x3 x4 x5 o).wmin g := by
  pointwise [k0_pay10, k0_pay8]; rfl
theorem sg_at (o : Fin 5632) (g : Fin 16) : k0_pay11 (F := Ideal) x3 (ix2 o g) = sgm ((col x0 x1 x2 x3 x4 x5 o).ga g) := by
  pointwise [k0_pay11]; rfl
theorem sb_at (o : Fin 5632) (g : Fin 16) : k0_pay12 (F := Ideal) x4 (ix2 o g) = sgm ((col x0 x1 x2 x3 x4 x5 o).be g) := by
  pointwise [k0_pay12]; rfl
theorem lo_at (o : Fin 5632) (g : Fin 16) : k0_pay13 (F := Ideal) x2 x4 (ix2 o g) = (col x0 x1 x2 x3 x4 x5 o).lo g := by
  pointwise [k0_pay13, k0_pay12, k0_pay10, k0_pay8]; rfl
theorem h_at (o : Fin 5632) (g : Fin 16) : k0_pay14 (F := Ideal) x2 x3 x4 (ix2 o g) = (col x0 x1 x2 x3 x4 x5 o).h g := by
  pointwise [k0_pay14, k0_pay11, k0_pay13, k0_pay12, k0_pay9, k0_pay10, k0_pay8]; rfl
theorem loh_at (o : Fin 5632) (g : Fin 16) : k0_pay15 (F := Ideal) x2 x3 x4 (ix2 o g) = (col x0 x1 x2 x3 x4 x5 o).loh g := by
  pointwise [k0_pay15]
  rw [lo_at x0 x1 x2 x3 x4 x5, h_at x0 x1 x2 x3 x4 x5]; rfl
theorem z_at (o : Fin 5632) (g : Fin 16) : k0_pay16 (F := Ideal) x2 x3 x4 (ix2 o g) = (col x0 x1 x2 x3 x4 x5 o).z g := by
  pointwise [k0_pay16]
  rw [loh_at x0 x1 x2 x3 x4 x5]; rfl
theorem u_at (o : Fin 5632) (g : Fin 16) (k : Fin 128) :
    k0_pay17 (F := Ideal) x2 x3 x4 (ix3 o g k) = (col x0 x1 x2 x3 x4 x5 o).u (gk g k) := by
  pointwise [k0_pay17, k0_pay8]
  rw [h_at x0 x1 x2 x3 x4 x5, Col.u, gd_gk]; rfl
theorem c_at (o : Fin 5632) (g : Fin 16) (k : Fin 128) :
    k0_pay18 (F := Ideal) x2 x3 x4 (ix3 o g k) = (col x0 x1 x2 x3 x4 x5 o).c (gk g k) := by
  pointwise [k0_pay18]
  rw [u_at x0 x1 x2 x3 x4 x5, z_at x0 x1 x2 x3 x4 x5, Col.c, gd_gk]; rfl
theorem code_at (o : Fin 5632) (g : Fin 16) (k : Fin 128) :
    k0_pay19 (F := Ideal) x2 x3 x4 (ix3 o g k) = (col x0 x1 x2 x3 x4 x5 o).code (gk g k) := by
  pointwise [k0_pay19]
  rw [c_at x0 x1 x2 x3 x4 x5]; rfl
theorem q_at (o : Fin 5632) (g : Fin 16) (k : Fin 128) :
    k0_pay20 (F := Ideal) x2 x3 x4 (ix3 o g k) = (col x0 x1 x2 x3 x4 x5 o).q (gk g k) := by
  pointwise [k0_pay20]
  rw [code_at x0 x1 x2 x3 x4 x5]
  exact code_toInt _ _
theorem m_at (o : Fin 5632) (g : Fin 16) (k : Fin 128) :
    k0_pay27 (F := Ideal) (k0_pay18 x2 x3 x4) (ix3 o g k) = (col x0 x1 x2 x3 x4 x5 o).m (gk g k) := by
  pointwise [k0_pay27]
  rw [c_at x0 x1 x2 x3 x4 x5]
  show (((BitVec.setWidth 32 (IntOp.andi (BitVec.ofBool (decide (0 ≤ (col x0 x1 x2 x3 x4 x5 o).c (gk g k))))
    (BitVec.ofBool (decide ((col x0 x1 x2 x3 x4 x5 o).c (gk g k) ≤ c15))))).toInt : ℝ) : EReal) = _
  rw [Col.m]
  by_cases h0 : 0 ≤ (col x0 x1 x2 x3 x4 x5 o).c (gk g k) <;> by_cases h1 : (col x0 x1 x2 x3 x4 x5 o).c (gk g k) ≤ c15 <;> simp [h0, h1, IntOp.andi]

section
variable (v24 v28 : FVec Ideal S5632x16 .f32) (v41 : FVec Ideal S5632x16x128 .f32)
  (h24 : ∀ (o : Fin 5632) (g : Fin 16), v24 (ix2 o g) = (col x0 x1 x2 x3 x4 x5 o).h g) (h28 : ∀ (o : Fin 5632) (g : Fin 16), v28 (ix2 o g) = (col x0 x1 x2 x3 x4 x5 o).z g)
  (h41 : ∀ (o : Fin 5632) (g : Fin 16) (k : Fin 128), v41 (ix3 o g k) = (col x0 x1 x2 x3 x4 x5 o).q (gk g k))
include h24 h28 h41

theorem E_at (s : Fin 256) (o : Fin 5632) : k0_pay24 (F := Ideal) v24 v28 v41 x0 x1 x5 (ix2 s o) = (col x0 x1 x2 x3 x4 x5 o).E s := by
  pointwise [k0_pay24, k0_pay22, k0_pay23, k0_pay21]
  show (∑ d : Fin 2048, x0 (ix2 s d) * ((v41 (ix3 o (gd d) (kd d)) - v28 (ix2 o (gd d))) * v24 (ix2 o (gd d))))
    * x1 (ix2 0 s) - x5 (ix2 s o) = _
  simp only [h24, h28, h41, gk_gd_kd]
  rfl
theorem loss_at : k0_pay25 (F := Ideal) v24 v28 v41 x0 x1 x5 (ix2 0 0)
    = Ideal.div (∑ s : Fin 256, ∑ o : Fin 5632, (col x0 x1 x2 x3 x4 x5 o).E s * (col x0 x1 x2 x3 x4 x5 o).E s) cN := by
  pointwise [k0_pay25]
  simp only [E_at x0 x1 x2 x3 x4 x5 v24 v28 v41 h24 h28 h41]
theorem G_at (o : Fin 5632) (g : Fin 16) (k : Fin 128) :
    k0_pay26 (F := Ideal) v24 v28 v41 x0 x1 x5 (ix3 o g k) = (col x0 x1 x2 x3 x4 x5 o).G (gk g k) := by
  pointwise [k0_pay26, k0_pay22, k0_pay23]
  simp only [E_at x0 x1 x2 x3 x4 x5 v24 v28 v41 h24 h28 h41]
  rfl
end

section
variable (v2 v3 v11 v19 v25 : FVec Ideal S5632x16 .f32) (v31 v44 v77 v84 : FVec Ideal S5632x16x128 .f32)
  (h2 : ∀ (o : Fin 5632) (g : Fin 16), v2 (ix2 o g) = (col x0 x1 x2 x3 x4 x5 o).wmax g) (h3 : ∀ (o : Fin 5632) (g : Fin 16), v3 (ix2 o g) = (col x0 x1 x2 x3 x4 x5 o).wmin g)
  (h11 : ∀ (o : Fin 5632) (g : Fin 16), v11 (ix2 o g) = sgm ((col x0 x1 x2 x3 x4 x5 o).ga g)) (h19 : ∀ (o : Fin 5632) (g : Fin 16), v19 (ix2 o g) = sgm ((col x0 x1 x2 x3 x4 x5 o).be g))
  (h25 : ∀ (o : Fin 5632) (g : Fin 16), v25 (ix2 o g) = (col x0 x1 x2 x3 x4 x5 o).loh g)
  (h31 : ∀ (o : Fin 5632) (g : Fin 16) (k : Fin 128), v31 (ix3 o g k) = (col x0 x1 x2 x3 x4 x5 o).u (gk g k)) (h44 : ∀ (o : Fin 5632) (g : Fin 16) (k : Fin 128), v44 (ix3 o g k) = (col x0 x1 x2 x3 x4 x5 o).qz (gk g k))
  (h77 : ∀ (o : Fin 5632) (g : Fin 16) (k : Fin 128), v77 (ix3 o g k) = (col x0 x1 x2 x3 x4 x5 o).G (gk g k)) (h84 : ∀ (o : Fin 5632) (g : Fin 16) (k : Fin 128), v84 (ix3 o g k) = (col x0 x1 x2 x3 x4 x5 o).m (gk g k))
include h25 h31 h44 h77 h84

include h2 h11 in
theorem dg_at (o : Fin 5632) (g : Fin 16) :
    k0_pay3 (F := Ideal) v2 v11 v25 v31 v44 v77 v84 (Scalar.ofBits .f32 0x3F800000#32) (ix2 g o) = (col x0 x1 x2 x3 x4 x5 o).dg g := by
  pointwise [k0_pay3, k0_pay2, k0_pay1]
  simp only [h2, h11, h25, h31, h44, h77, h84]
  rfl
include h3 h19 in
theorem db_at (o : Fin 5632) (g : Fin 16) :
    k0_pay4 (F := Ideal) v3 v19 v25 v31 v44 v77 v84 (Scalar.ofBits .f32 0x3F800000#32) (ix2 g o) = (col x0 x1 x2 x3 x4 x5 o).db g := by
  pointwise [k0_pay4, k0_pay2, k0_pay1]
  simp only [h3, h19, h25, h31, h44, h77, h84]
  rfl
end

/-! ### The staging buffers -/

theorem ld0 (X : Vec Ideal S5632x2048 .f32) : View.ld X r0_0 = X := View.ld_unit_lit _ X (by decide)
theorem ld1 (X : Vec Ideal S5632x16 .f32) : View.ld X r0_1 = X := View.ld_unit_lit _ X (by decide)
theorem ld2 (X : Vec Ideal S256x2048 .fp8e4m3) : View.ld X r0_2 = X := View.ld_unit_lit _ X (by decide)
theorem ld3 (X : Vec Ideal S1x256 .f32) : View.ld X r0_3 = X := View.ld_unit_lit _ X (by decide)
theorem ld4 (X : Vec Ideal S256x5632 .bf16) : View.ld X r0_4 = X := View.ld_unit_lit _ X (by decide)
theorem st0 (X : Vec Ideal S5632x2048 .i8) : View.canon (Val := Elt Ideal) [⟨r0_0, X⟩] = X :=
  View.canon_cons_unit_lit _ X [] (by decide)
theorem st5 (X : Vec Ideal S1x1 .f32) : View.canon (Val := Elt Ideal) [⟨r0_5, X⟩] = X :=
  View.canon_cons_unit_lit _ X [] (by decide)
theorem st6 (X : Vec Ideal S16x5632 .f32) : View.canon (Val := Elt Ideal) [⟨r0_6, X⟩] = X :=
  View.canon_cons_unit_lit _ X [] (by decide)

theorem n28 (o : Fin 5632) (g : Fin 16) : k0_pay28 (F := Ideal) x0 x1 x2 x3 x4 x5 (ix2 o g) = (col x0 x1 x2 x3 x4 x5 o).h g := by
  rw [k0_pay28, ld0, ld1, ld1]
  exact h_at x0 x1 x2 x3 x4 x5 o g
theorem n29 (o : Fin 5632) (g : Fin 16) : k0_pay29 (F := Ideal) x0 x1 x2 x3 x4 x5 (ix2 o g) = (col x0 x1 x2 x3 x4 x5 o).loh g := by
  rw [k0_pay29, ld0, ld1, ld1]
  exact loh_at x0 x1 x2 x3 x4 x5 o g
theorem n30 (o : Fin 5632) (g : Fin 16) : k0_pay30 (F := Ideal) x0 x1 x2 x3 x4 x5 (ix2 o g) = (col x0 x1 x2 x3 x4 x5 o).z g := by
  rw [k0_pay30, ld0, ld1, ld1]
  exact z_at x0 x1 x2 x3 x4 x5 o g
theorem n31 (o : Fin 5632) (g : Fin 16) (k : Fin 128) :
    k0_pay31 (F := Ideal) x0 x1 x2 x3 x4 x5 (ix3 o g k) = (col x0 x1 x2 x3 x4 x5 o).u (gk g k) := by
  rw [k0_pay31, ld0, ld1, ld1]
  exact u_at x0 x1 x2 x3 x4 x5 o g k
theorem n32 (o : Fin 5632) (g : Fin 16) (k : Fin 128) :
    k0_pay32 (F := Ideal) x0 x1 x2 x3 x4 x5 (ix3 o g k) = (col x0 x1 x2 x3 x4 x5 o).q (gk g k) := by
  rw [k0_pay32, ld0, ld1, ld1]
  exact q_at x0 x1 x2 x3 x4 x5 o g k
theorem n33 (o : Fin 5632) (g : Fin 16) (k : Fin 128) :
    k0_pay33 (F := Ideal) x0 x1 x2 x3 x4 x5 (ix3 o g k) = (col x0 x1 x2 x3 x4 x5 o).qz (gk g k) := by
  pointwise [k0_pay33, k0_pay21]
  rw [n32, n30, Col.qz, gd_gk]
theorem n34 (o : Fin 5632) (g : Fin 16) (k : Fin 128) :
    k0_pay34 (F := Ideal) x0 x1 x2 x3 x4 x5 (ix3 o g k) = (col x0 x1 x2 x3 x4 x5 o).G (gk g k) := by
  rw [k0_pay34, ld2, ld3, ld4]
  exact G_at x0 x1 x2 x3 x4 x5 _ _ _ (n28 x0 x1 x2 x3 x4 x5) (n30 x0 x1 x2 x3 x4 x5) (n32 x0 x1 x2 x3 x4 x5) o g k
theorem n35 (o : Fin 5632) (g : Fin 16) (k : Fin 128) :
    k0_pay35 (F := Ideal) x0 x1 x2 x3 x4 x5 (ix3 o g k) = (col x0 x1 x2 x3 x4 x5 o).m (gk g k) := by
  rw [k0_pay35, ld0, ld1, ld1]
  exact m_at x0 x1 x2 x3 x4 x5 o g k

theorem out6_at (g : Fin 16) (o : Fin 5632) : out0_6 (F := Ideal) x0 x1 x2 x3 x4 x5 (ix2 g o) = (col x0 x1 x2 x3 x4 x5 o).dg g := by
  rw [out0_6, st6, ld0, ld1]
  exact dg_at x0 x1 x2 x3 x4 x5 _ _ _ _ _ _ _ (wmax_at x0 x1 x2 x3 x4 x5) (sg_at x0 x1 x2 x3 x4 x5)
    (n29 x0 x1 x2 x3 x4 x5) (n31 x0 x1 x2 x3 x4 x5) (n33 x0 x1 x2 x3 x4 x5) (n34 x0 x1 x2 x3 x4 x5)
    (n35 x0 x1 x2 x3 x4 x5) o g
theorem out7_at (g : Fin 16) (o : Fin 5632) : out0_7 (F := Ideal) x0 x1 x2 x3 x4 x5 (ix2 g o) = (col x0 x1 x2 x3 x4 x5 o).db g := by
  rw [out0_7, st6, ld0, ld1]
  exact db_at x0 x1 x2 x3 x4 x5 _ _ _ _ _ _ _ (wmin_at x0 x1 x2 x3 x4 x5) (sb_at x0 x1 x2 x3 x4 x5)
    (n29 x0 x1 x2 x3 x4 x5) (n31 x0 x1 x2 x3 x4 x5) (n33 x0 x1 x2 x3 x4 x5) (n34 x0 x1 x2 x3 x4 x5)
    (n35 x0 x1 x2 x3 x4 x5) o g
theorem out8_at : out0_8 (F := Ideal) x0 x1 x2 x3 x4 x5 (ix2 0 0)
    = Ideal.div (∑ s : Fin 256, ∑ o : Fin 5632, (col x0 x1 x2 x3 x4 x5 o).E s * (col x0 x1 x2 x3 x4 x5 o).E s) cN := by
  rw [out0_8, st5, ld2, ld3, ld4]
  exact loss_at x0 x1 x2 x3 x4 x5 _ _ _ (n28 x0 x1 x2 x3 x4 x5) (n30 x0 x1 x2 x3 x4 x5) (n32 x0 x1 x2 x3 x4 x5)
theorem out9_at (o : Fin 5632) (d : Fin 2048) : out0_9 (F := Ideal) x0 x1 x2 x3 x4 x5 (ix2 o d) = (col x0 x1 x2 x3 x4 x5 o).code d := by
  rw [out0_9, st0, ld0, ld1, ld1]
  pointwise [k0_pay5]
  exact (code_at x0 x1 x2 x3 x4 x5 o (gd d) (kd d)).trans (by rw [gk_gd_kd])
theorem out10_at (g : Fin 16) (o : Fin 5632) : out0_10 (F := Ideal) x0 x1 x2 x3 x4 x5 (ix2 g o) = (col x0 x1 x2 x3 x4 x5 o).h g := by
  rw [out0_10, st6]
  pointwise [k0_pay6]
  exact n28 x0 x1 x2 x3 x4 x5 o g
theorem out11_at (g : Fin 16) (o : Fin 5632) : out0_11 (F := Ideal) x0 x1 x2 x3 x4 x5 (ix2 g o) = (col x0 x1 x2 x3 x4 x5 o).z g := by
  rw [out0_11, st6]
  pointwise [k0_pay7]
  exact n30 x0 x1 x2 x3 x4 x5 o g

end Cert.ReferenceIdeal.LW
end
-- ==== Proof.RefArr.lean ====
/- The reference's results after its run, as the mathematics of the columns of its arguments. -/
module
public import proofs.«01_k».proof.Proof.Ref
public import proofs.«01_k».proof.Proof.Gen.ReferenceIdeal.Value
public import Idealize.ShloMosaic.Lib.Pipeline.ValueKit
public import Idealize.ShloMosaic.Lib.Claim
@[expose] public section
noncomputable section
namespace Cert.ReferenceIdeal.LW
open Cert.ReferenceIdeal Cert.ReferenceIdeal.Gen Idealize.ShloMosaic Idealize.ShloMosaic.TcCoe Idealize.SL.Sem
open Idealize.ShloMosaic.Pipeline (Dat)
open LWC
variable (m : (ℓ : Loc nD τ sig) → Buf (Elt Ideal) ℓ) (c : Dev nD)

/-- One output column of the arguments. -/
def rcol (o : Fin 5632) : Col where
  X s d := (m ((c : Thread nD τ).loc main_arg0) : Vec Ideal S1x256x2048 .fp8e4m3) (ix3 0 s d)
  xs s := (m ((c : Thread nD τ).loc main_arg1) : Vec Ideal S1x256 .f32) (ix2 0 s)
  w d := (m ((c : Thread nD τ).loc main_arg2) : Vec Ideal S5632x2048 .f32) (ix2 o d)
  ga g := (m ((c : Thread nD τ).loc main_arg3) : Vec Ideal S5632x16 .f32) (ix2 o g)
  be g := (m ((c : Thread nD τ).loc main_arg4) : Vec Ideal S5632x16 .f32) (ix2 o g)
  y s := (m ((c : Thread nD τ).loc main_arg5) : Vec Ideal S1x256x5632 .bf16) (ix3 0 s o)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem b0 (t : Fin cfg0.N) (s : Fin 256) (d : Fin 2048) : iblk m c 0 t (ix2 s d)
    = (m ((c : Thread nD τ).loc main_arg0) : Vec Ideal S1x256x2048 .fp8e4m3) (ix3 0 s d) := by
  blk_ext! [iblk, V, idx t]
theorem b1 (t : Fin cfg0.N) (s : Fin 256) : iblk m c 1 t (ix2 0 s)
    = (m ((c : Thread nD τ).loc main_arg1) : Vec Ideal S1x256 .f32) (ix2 0 s) := by
  blk_ext! [iblk, V, idx t]
theorem b2 (t : Fin cfg0.N) (r : Fin 5632) (d : Fin 2048) : iblk m c 2 t (ix2 r d)
    = (m ((c : Thread nD τ).loc main_arg2) : Vec Ideal S5632x2048 .f32) (ix2 r d) := by
  blk_ext! [iblk, V, idx t]
theorem b3 (t : Fin cfg0.N) (r : Fin 5632) (g : Fin 16) : iblk m c 3 t (ix2 r g)
    = (m ((c : Thread nD τ).loc main_arg3) : Vec Ideal S5632x16 .f32) (ix2 r g) := by
  blk_ext! [iblk, V, idx t]
theorem b4 (t : Fin cfg0.N) (r : Fin 5632) (g : Fin 16) : iblk m c 4 t (ix2 r g)
    = (m ((c : Thread nD τ).loc main_arg4) : Vec Ideal S5632x16 .f32) (ix2 r g) := by
  blk_ext! [iblk, V, idx t]
theorem b5 (t : Fin cfg0.N) (s : Fin 256) (r : Fin 5632) : iblk m c 5 t (ix2 s r)
    = (m ((c : Thread nD τ).loc main_arg5) : Vec Ideal S1x256x5632 .bf16) (ix3 0 s r) := by
  blk_ext! [iblk, V, idx t]

theorem col_eq (t : Fin cfg0.N) (o : Fin 5632) :
    col (iblk m c 0 t) (iblk m c 1 t) (iblk m c 2 t) (iblk m c 3 t) (iblk m c 4 t) (iblk m c 5 t) o = rcol m c o := by
  unfold col rcol
  congr 1
  · funext s d; exact b0 m c t s d
  · funext s; exact b1 m c t s
  · funext d; exact b2 m c t o d
  · funext g; exact b3 m c t o g
  · funext g; exact b4 m c t o g
  · funext s; exact b5 m c t s o

theorem arr6 : (dats m 0 c).arrAt 6 cfg0.N = (fun j => (rcol m c (j 1)).dg (j 0) : Vec Ideal S16x5632 .f32) := by
  refine (dats m 0 c).arrAt_eq_of_after_last 6 ⟨0, by decide⟩ (by decide +kernel) _ fun j => ?_
  blk_simp
  show (dats m 0 c).after 6 (⟨0, by decide⟩ : Fin cfg0.N) j = _
  rw [after0_6]
  obtain ⟨a, b, rfl⟩ : ∃ (a : Fin 16) (b : Fin 5632), j = ix2 a b := ⟨j 0, j 1, by funext k; fin_cases k <;> rfl⟩
  refine (out6_at _ _ _ _ _ _ a b).trans ?_
  rw [col_eq]; rfl
theorem arr7 : (dats m 0 c).arrAt 7 cfg0.N = (fun j => (rcol m c (j 1)).db (j 0) : Vec Ideal S16x5632 .f32) := by
  refine (dats m 0 c).arrAt_eq_of_after_last 7 ⟨0, by decide⟩ (by decide +kernel) _ fun j => ?_
  blk_simp
  show (dats m 0 c).after 7 (⟨0, by decide⟩ : Fin cfg0.N) j = _
  rw [after0_7]
  obtain ⟨a, b, rfl⟩ : ∃ (a : Fin 16) (b : Fin 5632), j = ix2 a b := ⟨j 0, j 1, by funext k; fin_cases k <;> rfl⟩
  refine (out7_at _ _ _ _ _ _ a b).trans ?_
  rw [col_eq]; rfl
theorem arr8 : (dats m 0 c).arrAt 8 cfg0.N
    = (fun _ => Ideal.div (∑ s : Fin 256, ∑ o : Fin 5632, (rcol m c o).E s * (rcol m c o).E s) cN : Vec Ideal S1x1 .f32) := by
  refine (dats m 0 c).arrAt_eq_of_after_last 8 ⟨0, by decide⟩ (by decide +kernel) _ fun j => ?_
  blk_simp
  show (dats m 0 c).after 8 (⟨0, by decide⟩ : Fin cfg0.N) j = _
  rw [after0_8]
  obtain rfl : j = ix2 0 0 := by funext k; fin_cases k <;> exact Subsingleton.elim (α := Fin 1) _ _
  refine (out8_at _ _ _ _ _ _).trans ?_
  simp only [col_eq]
theorem arr9 : (dats m 0 c).arrAt 9 cfg0.N = (fun j => (rcol m c (j 0)).code (j 1) : Vec Ideal S5632x2048 .i8) := by
  refine (dats m 0 c).arrAt_eq_of_after_last 9 ⟨0, by decide⟩ (by decide +kernel) _ fun j => ?_
  blk_simp
  show (dats m 0 c).after 9 (⟨0, by decide⟩ : Fin cfg0.N) j = _
  rw [after0_9]
  obtain ⟨a, b, rfl⟩ : ∃ (a : Fin 5632) (b : Fin 2048), j = ix2 a b := ⟨j 0, j 1, by funext k; fin_cases k <;> rfl⟩
  refine (out9_at _ _ _ _ _ _ a b).trans ?_
  rw [col_eq]; rfl
theorem arr10 : (dats m 0 c).arrAt 10 cfg0.N = (fun j => (rcol m c (j 1)).h (j 0) : Vec Ideal S16x5632 .f32) := by
  refine (dats m 0 c).arrAt_eq_of_after_last 10 ⟨0, by decide⟩ (by decide +kernel) _ fun j => ?_
  blk_simp
  show (dats m 0 c).after 10 (⟨0, by decide⟩ : Fin cfg0.N) j = _
  rw [after0_10]
  obtain ⟨a, b, rfl⟩ : ∃ (a : Fin 16) (b : Fin 5632), j = ix2 a b := ⟨j 0, j 1, by funext k; fin_cases k <;> rfl⟩
  refine (out10_at _ _ _ _ _ _ a b).trans ?_
  rw [col_eq]; rfl
theorem arr11 : (dats m 0 c).arrAt 11 cfg0.N = (fun j => (rcol m c (j 1)).z (j 0) : Vec Ideal S16x5632 .f32) := by
  refine (dats m 0 c).arrAt_eq_of_after_last 11 ⟨0, by decide⟩ (by decide +kernel) _ fun j => ?_
  blk_simp
  show (dats m 0 c).after 11 (⟨0, by decide⟩ : Fin cfg0.N) j = _
  rw [after0_11]
  obtain ⟨a, b, rfl⟩ : ∃ (a : Fin 16) (b : Fin 5632), j = ix2 a b := ⟨j 0, j 1, by funext k; fin_cases k <;> rfl⟩
  refine (out11_at _ _ _ _ _ _ a b).trans ?_
  rw [col_eq]; rfl
end Cert.ReferenceIdeal.LW
-- ==== Proof.PreD.lean ====
/- The precondition says that no step size is zero. -/
module
public import proofs.«01_k».proof.Defs
public import proofs.«01_k».proof.Proof.Gen.Pre_proper
public import proofs.«01_k».proof.Proof.Spec
public import Idealize.ShloMosaic.Lib.Pointwise
@[expose] public section
noncomputable section
namespace Cert.Pre_proper.LW
open Cert.Pre_proper Idealize.ShloMosaic
open LWC
variable [Facts]
theorem dlt_ne (x0 : FVec Ideal S1x256x2048 .fp8e4m3) (x1 : FVec Ideal S1x256 .f32) (x2 : FVec Ideal S5632x2048 .f32) (x3 x4 : FVec Ideal S5632x16 .f32)
    (x5 : FVec Ideal S1x256x5632 .bf16) (C : Col) (o : Fin 5632) (hw : ∀ d, x2 (ix2 o d) = C.w d) (hga : ∀ g, x3 (ix2 o g) = C.ga g)
    (hbe : ∀ g, x4 (ix2 o g) = C.be g) (h : fn (F := Ideal) x0 x1 x2 x3 x4 x5 = fun _ => 1#1) (g : Fin 16) : C.dlt g ≠ 0 := by
  have h1 := congr_fun h (ix2 o g)
  revert h1
  pointwise [fn, fn_part1]
  simp only [hw, hga, hbe]
  intro h1 e
  have e' : ∀ x : EReal, 0 - x = -x := fun x => zero_sub x
  simp only [Col.dlt, Col.lo, Col.wmax, Col.wmin, sgm, e', gk] at e
  rw [e] at h1
  exact absurd h1 (by simp)
end Cert.Pre_proper.LW
-- ==== Proof.Alg.lean ====
/- The tiled kernel and the reference leave the same six arrays. -/
module
public import proofs.«01_k».proof.Proof.Arr
public import proofs.«01_k».proof.Proof.RefArr
public import proofs.«01_k».proof.Proof.PreD
@[expose] public section
noncomputable section
namespace Cert.Proof.Alg
open Idealize.ShloMosaic Idealize.ShloMosaic.TcCoe Idealize.SL.Sem
open LWC

theorem algebraic : Cert.algebraic_KernelIdeal_ReferenceIdeal_pre_proper (hKernelIdeal := Cert.KernelIdeal.Gen.facts)
    (hReferenceIdeal := Cert.ReferenceIdeal.Gen.facts) (hPre_proper := Cert.Pre_proper.Gen.facts) := by
  intro m g m' g' hpre hagree
  have hcol : ∀ c o, Cert.ReferenceIdeal.LW.rcol m' c o = Cert.KernelIdeal.LW.kcol m c o := by
    intro c o
    obtain ⟨h0, h1, h2, h3, h4, h5⟩ := hagree c
    unfold Cert.ReferenceIdeal.LW.rcol Cert.KernelIdeal.LW.kcol
    congr 1
    · funext s d; exact congr_fun h0 (ix3 0 s d)
    · funext s; exact congr_fun h1 (ix2 0 s)
    · funext d; exact congr_fun h2 (ix2 o d)
    · funext q; exact congr_fun h3 (ix2 o q)
    · funext q; exact congr_fun h4 (ix2 o q)
    · funext s; exact congr_fun h5 (ix3 0 s o)
  have hne : ∀ c o q, (Cert.KernelIdeal.LW.kcol m c o).dlt q ≠ 0 := fun c o q =>
    letI := Cert.Pre_proper.Gen.facts
    Cert.Pre_proper.LW.dlt_ne _ _ _ _ _ _ (Cert.KernelIdeal.LW.kcol m c o) o (fun _ => rfl) (fun _ => rfl) (fun _ => rfl) (hpre c) q
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    Cert.KernelIdeal.Value.run_blocks m g, ?_⟩
  refine (θ_run _ _ _).mono (fun r h c => ?_) (Cert.ReferenceIdeal.Value.run_blocks m' g')
  obtain ⟨e0, e1, e2, e3, e4, e5, ea⟩ := h c
  refine ⟨e0.trans ?_, e1.trans ?_, e2.trans ?_, e3.trans ?_, e4.trans ?_, e5.trans ?_, ea⟩
  · refine (Cert.ReferenceIdeal.LW.arr6 m' c).trans (Eq.trans ?_ (Cert.KernelIdeal.LW.arr6 m c).symm)
    funext j
    exact (congr_arg (fun C : Col => C.dg (j 0)) (hcol c (j 1))).trans (LWC.kdg_eq (Cert.KernelIdeal.LW.kcol m c (j 1)) (hne c (j 1)) (j 0)).symm
  · refine (Cert.ReferenceIdeal.LW.arr7 m' c).trans (Eq.trans ?_ (Cert.KernelIdeal.LW.arr7 m c).symm)
    funext j
    exact (congr_arg (fun C : Col => C.db (j 0)) (hcol c (j 1))).trans (LWC.kdb_eq (Cert.KernelIdeal.LW.kcol m c (j 1)) (hne c (j 1)) (j 0)).symm
  · refine (Cert.ReferenceIdeal.LW.arr8 m' c).trans (Eq.trans ?_ (Cert.KernelIdeal.LW.arr8 m c).symm)
    funext j
    refine (divN _).trans (congr_arg (· * iN) ?_)
    refine Finset.sum_congr rfl fun s _ => Finset.sum_congr rfl fun o _ => ?_
    rw [hcol, LWC.kE_eq _ (hne c _)]
  · refine (Cert.ReferenceIdeal.LW.arr9 m' c).trans (Eq.trans ?_ (Cert.KernelIdeal.LW.arr9 m c).symm)
    funext j
    exact (congr_arg (fun C : Col => C.code (j 1)) (hcol c (j 0))).trans (LWC.kcode_eq (Cert.KernelIdeal.LW.kcol m c (j 0)) (hne c (j 0)) (j 1)).symm
  · refine (Cert.ReferenceIdeal.LW.arr10 m' c).trans (Eq.trans ?_ (Cert.KernelIdeal.LW.arr10 m c).symm)
    funext j
    exact (congr_arg (fun C : Col => C.h (j 0)) (hcol c (j 1))).trans (LWC.kh_eq (Cert.KernelIdeal.LW.kcol m c (j 1)) (j 0)).symm
  · refine (Cert.ReferenceIdeal.LW.arr11 m' c).trans (Eq.trans ?_ (Cert.KernelIdeal.LW.arr11 m c).symm)
    funext j
    exact (congr_arg (fun C : Col => C.z (j 0)) (hcol c (j 1))).trans (LWC.kz_eq (Cert.KernelIdeal.LW.kcol m c (j 1)) (hne c (j 1)) (j 0)).symm
end Cert.Proof.Alg
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_proper
public import proofs.«01_k».proof.Proof.Gen.KernelIdeal.Value
public import proofs.«01_k».proof.Proof.Gen.ReferenceIdeal.Value
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_proper.Gen.facts,
  fun m ρ _ => Cert.Kernel.Gen.frame m ρ,
  fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  ⟨IdealRules.named_const.statement Cert.KernelIdeal.κ "inv_15" .f32 0x3D888889#32 _ rfl,
    IdealRules.named_const.statement Cert.KernelIdeal.κ "inv_n" .f32 0x353A2E8C#32 _ rfl⟩,
  Cert.Proof.Alg.algebraic⟩

end Cert.Proof

end
